-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def preserves_Kernel_KernelIdeal : Prop :=
  IdealRules.named_const.Statement Cert.KernelIdeal.κ "log_gamma0" .f32 0xBD020AEC#32 ((Real.log (31 / 32) : ℝ) : EReal)
  ∧ IdealRules.named_const.Statement Cert.KernelIdeal.κ "gamma_pow0" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "log_gamma1" .f32 0xBC8102B3#32 ((Real.log (63 / 64) : ℝ) : EReal)
  ∧ IdealRules.named_const.Statement Cert.KernelIdeal.κ "gamma_pow1" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "log_gamma2" .f32 0xBC0080AC#32 ((Real.log (127 / 128) : ℝ) : EReal)
  ∧ IdealRules.named_const.Statement Cert.KernelIdeal.κ "gamma_pow2" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "log_gamma3" .f32 0xBB80402B#32 ((Real.log (255 / 256) : ℝ) : EReal)
  ∧ IdealRules.named_const.Statement Cert.KernelIdeal.κ "gamma_pow3" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v59) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v59) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v59) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v27) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def preserves_Kernel10_Kernel10Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ preserves_Kernel10_Kernel10Ideal
-- ==== Pre_finite.lean ====
abbrev S32768x2048 : Shape := ⟨2, ![32768, 2048]⟩
abbrev S16x3x2048 : Shape := ⟨3, ![16, 3, 2048]⟩
abbrev S2048 : Shape := ⟨1, ![2048]⟩
abbrev S2048x4096 : Shape := ⟨2, ![2048, 4096]⟩
abbrev S1024 : Shape := ⟨1, ![1024]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S16x3x2048 : S_.BroadcastsInDim S16x3x2048 (![] : Fin 0 → Fin S16x3x2048.rank)
  reducesTo_S16x3x2048_S_d0_1_2 : S16x3x2048.ReducesTo [0, 1, 2] S_
  bcast_S_S2048 : S_.BroadcastsInDim S2048 (![] : Fin 0 → Fin S2048.rank)
  reducesTo_S2048_S_d0 : S2048.ReducesTo [0] S_
  bcast_S_S2048x4096 : S_.BroadcastsInDim S2048x4096 (![] : Fin 0 → Fin S2048x4096.rank)
  reducesTo_S2048x4096_S_d0_1 : S2048x4096.ReducesTo [0, 1] S_

variable [Facts]

def fn_part1 {F : FTy → Type} [FloatOps F] (main_v13 : IVec S_ 1) (main_v16 : IVec S2048x4096 1) : IVec S_ 1 :=
  let main_c_5 : IVec S_ 1 := constantI S_ 1 1#1
  let main_v17 : IVec S_ 1 := (fun x v => Host.reduce IntOp.andi x v reducesTo_S2048x4096_S_d0_1 h_S_) main_v16 main_c_5
  let main_v18 : IVec S_ 1 := andi main_v13 main_v17
  main_v18

def fn {F : FTy → Type} [FloatOps F] (main_arg0 : FVec F S32768x2048 .f32) (main_arg1 : FVec F S16x3x2048 .f32) (main_arg2 : FVec F S2048 .f32) (main_arg3 : FVec F S2048x4096 .f32) (main_arg4 : FVec F S1024 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S16x3x2048 .f32 := Host.absf main_arg1
  let main_cst_0 : FVec F S_ .f32 := constant S_ .f32 0x7F800000#32
  let main_v5 : FVec F S16x3x2048 .f32 := broadcastInDim S16x3x2048 ![] bcast_S_S16x3x2048 main_cst_0
  let main_v6 : IVec S16x3x2048 1 := cmpf .olt main_v4 main_v5
  let main_c_1 : IVec S_ 1 := constantI S_ 1 1#1
  let main_v7 : IVec S_ 1 := (fun x v => Host.reduce IntOp.andi x v reducesTo_S16x3x2048_S_d0_1_2 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x4096 .f32 := Host.absf main_arg3
  let main_cst_4 : FVec F S_ .f32 := constant S_ .f32 0x7F800000#32
  let main_v15 : FVec F S2048x4096 .f32 := broadcastInDim S2048x4096 ![] bcast_S_S2048x4096 main_cst_4
  let main_v16 : IVec S2048x4096 1 := cmpf .olt main_v14 main_v15
  fn_part1 (F := F) main_v13 main_v16
-- ==== Kernel.lean ====
abbrev S32768x2048 : Shape := ⟨2, ![32768, 2048]⟩
abbrev S16x3x2048 : Shape := ⟨3, ![16, 3, 2048]⟩
abbrev S2048 : Shape := ⟨1, ![2048]⟩
abbrev S2048x4096 : Shape := ⟨2, ![2048, 4096]⟩
abbrev S1024 : Shape := ⟨1, ![1024]⟩
abbrev S128 : Shape := ⟨1, ![128]⟩
abbrev S_ : Shape := ⟨0, ![]⟩
abbrev S2048x1 : Shape := ⟨2, ![2048, 1]⟩
abbrev S1x128 : Shape := ⟨2, ![1, 128]⟩
abbrev S2048x128 : Shape := ⟨2, ![2048, 128]⟩
abbrev S1x2048 : Shape := ⟨2, ![1, 2048]⟩
abbrev S1x1024 : Shape := ⟨2, ![1, 1024]⟩
abbrev S32768x1024 : Shape := ⟨2, ![32768, 1024]⟩
abbrev S256x2048 : Shape := ⟨2, ![256, 2048]⟩
abbrev S1x3x2048 : Shape := ⟨3, ![1, 3, 2048]⟩
abbrev S512x128 : Shape := ⟨2, ![512, 128]⟩
abbrev S512x1024 : Shape := ⟨2, ![512, 1024]⟩
abbrev S256x4096 : Shape := ⟨2, ![256, 4096]⟩
abbrev S4x256x256 : Shape := ⟨3, ![4, 256, 256]⟩
abbrev S256 : Shape := ⟨1, ![256]⟩
abbrev S256x1 : Shape := ⟨2, ![256, 1]⟩
abbrev S1x1x2048 : Shape := ⟨3, ![1, 1, 2048]⟩
abbrev S256x128 : Shape := ⟨2, ![256, 128]⟩
abbrev S256x256 : Shape := ⟨2, ![256, 256]⟩
abbrev S2048x512 : Shape := ⟨2, ![2048, 512]⟩
abbrev S256x512 : Shape := ⟨2, ![256, 512]⟩
abbrev S1x256x256 : Shape := ⟨3, ![1, 256, 256]⟩
abbrev S1x256 : Shape := ⟨2, ![1, 256]⟩

abbrev nBuf : Space → Nat
  | .hbm => 25
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S16x3x2048, .f32⟩
  | .hbm, ⟨2, _⟩ => ⟨S2048, .f32⟩
  | .hbm, ⟨3, _⟩ => ⟨S2048x4096, .f32⟩
  | .hbm, ⟨4, _⟩ => ⟨S1024, .f32⟩
  | .hbm, ⟨5, _⟩ => ⟨S2048x4096, .bf16⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S2048, .f32⟩
  | .hbm, ⟨15, _⟩ => ⟨S2048x1, .f32⟩
  | .hbm, ⟨16, _⟩ => ⟨S1x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S1x2048, .f32⟩
  | .hbm, ⟨23, _⟩ => ⟨S1x1024, .f32⟩
  | .hbm, ⟨24, _⟩ => ⟨S32768x1024, .bf16⟩
  | .local _ .vmem, ⟨0, _⟩ => ⟨S256x2048, .f32⟩
  | .local _ .vmem, ⟨1, _⟩ => ⟨S256x2048, .f32⟩
  | .local _ .vmem, ⟨2, _⟩ => ⟨S1x3x2048, .f32⟩
  | .local _ .vmem, ⟨3, _⟩ => ⟨S1x3x2048, .f32⟩
  | .local _ .vmem, ⟨4, _⟩ => ⟨S256x2048, .f32⟩
  | .local _ .vmem, ⟨5, _⟩ => ⟨S256x2048, .f32⟩
  | .local _ .vmem, ⟨6, _⟩ => ⟨S1x3x2048, .f32⟩
  | .local _ .vmem, ⟨7, _⟩ => ⟨S1x3x2048, .f32⟩
  | .local _ .vmem, ⟨8, _⟩ => ⟨S1x2048, .f32⟩
  | .local _ .vmem, ⟨9, _⟩ => ⟨S2048x4096, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S256x4096, .f32⟩
  | .local _ .vmem, ⟨18, _⟩ => ⟨S256x4096, .f32⟩
  | .local _ .vmem, ⟨19, _⟩ => ⟨S4x256x256, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c127_i32 : BitVec 32 := 127#32
  let v1 : BitVec 32 := Scalar.minsi v0 c127_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.subi v0 c2_i32_0
  let c0_i32 : BitVec 32 := 0#32
  let v2 : BitVec 32 := Scalar.maxsi v1 c0_i32
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c2_i32_5 : BitVec 32 := 2#32
  let v13 : BitVec 32 := Scalar.divsi v12 c2_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c0_i32_8 : BitVec 32 := 0#32
  let v19 : BitVec 1 := Scalar.cmpi .sgt c2_i32_5 c0_i32_8
  let v20 : BitVec 32 := Scalar.extui v19
  let c0_i32_9 : BitVec 32 := 0#32
  let v21 : BitVec 1 := Scalar.cmpi .slt c2_i32_5 c0_i32_9
  let v22 : BitVec 32 := Scalar.extui v21
  let v23 : BitVec 32 := Scalar.subi v20 v22
  let v24 : BitVec 1 := Scalar.cmpi .ne v18 v23
  let v25 : BitVec 32 := Scalar.remsi v12 c2_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c0_i32_13 : BitVec 32 := 0#32
  ![v29.toNat, c0_i32_12.toNat]

def cc0_transform_7 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.subi v0 c2_i32_0
  let c0_i32 : BitVec 32 := 0#32
  let v2 : BitVec 32 := Scalar.maxsi v1 c0_i32
  let c8_i32 : BitVec 32 := 8#32
  let c0_i32_1 : BitVec 32 := 0#32
  let v3 : BitVec 1 := Scalar.cmpi .eq c8_i32 c0_i32_1
  let c1_i32 : BitVec 32 := 1#32
  let v4 : BitVec 32 := Scalar.select v3 c1_i32 c8_i32
  let v5 : BitVec 32 := Scalar.remsi v2 v4
  let c0_i32_2 : BitVec 32 := 0#32
  let v6 : BitVec 1 := Scalar.cmpi .ne v5 c0_i32_2
  let c0_i32_3 : BitVec 32 := 0#32
  let v7 : BitVec 1 := Scalar.cmpi .slt v5 c0_i32_3
  let c0_i32_4 : BitVec 32 := 0#32
  let v8 : BitVec 1 := Scalar.cmpi .slt v4 c0_i32_4
  let v9 : BitVec 1 := Scalar.xori v7 v8
  let v10 : BitVec 1 := Scalar.andi v9 v6
  let v11 : BitVec 32 := Scalar.addi v5 v4
  let v12 : BitVec 32 := Scalar.select v10 v11 v5
  let c2_i32_5 : BitVec 32 := 2#32
  let v13 : BitVec 32 := Scalar.divsi v12 c2_i32_5
  let c0_i32_6 : BitVec 32 := 0#32
  let v14 : BitVec 1 := Scalar.cmpi .sgt v12 c0_i32_6
  let v15 : BitVec 32 := Scalar.extui v14
  let c0_i32_7 : BitVec 32 := 0#32
  let v16 : BitVec 1 := Scalar.cmpi .slt v12 c0_i32_7
  let v17 : BitVec 32 := Scalar.extui v16
  let v18 : BitVec 32 := Scalar.subi v15 v17
  let c0_i32_8 : BitVec 32 := 0#32
  let v19 : BitVec 1 := Scalar.cmpi .sgt c2_i32_5 c0_i32_8
  let v20 : BitVec 32 := Scalar.extui v19
  let c0_i32_9 : BitVec 32 := 0#32
  let v21 : BitVec 1 := Scalar.cmpi .slt c2_i32_5 c0_i32_9
  let v22 : BitVec 32 := Scalar.extui v21
  let v23 : BitVec 32 := Scalar.subi v20 v22
  let v24 : BitVec 1 := Scalar.cmpi .ne v18 v23
  let v25 : BitVec 32 := Scalar.remsi v12 c2_i32_5
  let c0_i32_10 : BitVec 32 := 0#32
  let v26 : BitVec 1 := Scalar.cmpi .ne v25 c0_i32_10
  let v27 : BitVec 1 := Scalar.andi v24 v26
  let c1_i32_11 : BitVec 32 := 1#32
  let v28 : BitVec 32 := Scalar.subi v13 c1_i32_11
  let v29 : BitVec 32 := Scalar.select v27 v28 v13
  let c0_i32_12 : BitVec 32 := 0#32
  let c0_i32_13 : BitVec 32 := 0#32
  ![v29.toNat, c0_i32_12.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "gamma_pow0" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gamma_pow1" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "gamma_pow2" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "gamma_pow3" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | _ => none
-- ==== ReferenceIdeal.lean ====
abbrev S32768x2048 : Shape := ⟨2, ![32768, 2048]⟩
abbrev S16x3x2048 : Shape := ⟨3, ![16, 3, 2048]⟩
abbrev S2048 : Shape := ⟨1, ![2048]⟩
abbrev S2048x4096 : Shape := ⟨2, ![2048, 4096]⟩
abbrev S1024 : Shape := ⟨1, ![1024]⟩
abbrev S16x2048x2048 : Shape := ⟨3, ![16, 2048, 2048]⟩
abbrev S16x1x2048 : Shape := ⟨3, ![16, 1, 2048]⟩
abbrev S16x2048 : Shape := ⟨2, ![16, 2048]⟩
abbrev S_ : Shape := ⟨0, ![]⟩
abbrev S16x2048x1 : Shape := ⟨3, ![16, 2048, 1]⟩
abbrev S1x1x2048 : Shape := ⟨3, ![1, 1, 2048]⟩
abbrev S16x2048x4096 : Shape := ⟨3, ![16, 2048, 4096]⟩
abbrev S16x2048x1024 : Shape := ⟨3, ![16, 2048, 1024]⟩
abbrev S16x2048x4x256 : Shape := ⟨4, ![16, 2048, 4, 256]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S16x2048x4x128 : Shape := ⟨4, ![16, 2048, 4, 128]⟩
abbrev S16x4x2048x256 : Shape := ⟨4, ![16, 4, 2048, 256]⟩
abbrev S4 : Shape := ⟨1, ![4]⟩
abbrev S1x2048 : Shape := ⟨2, ![1, 2048]⟩
abbrev S2048x2048 : Shape := ⟨2, ![2048, 2048]⟩
abbrev S4x1x1 : Shape := ⟨3, ![4, 1, 1]⟩
abbrev S1x2048x2048 : Shape := ⟨3, ![1, 2048, 2048]⟩
abbrev S4x2048x2048 : Shape := ⟨3, ![4, 2048, 2048]⟩
abbrev S16x4x2048x2048 : Shape := ⟨4, ![16, 4, 2048, 2048]⟩
abbrev S1x4x2048x2048 : Shape := ⟨4, ![1, 4, 2048, 2048]⟩
abbrev S4x256 : Shape := ⟨2, ![4, 256]⟩
abbrev S16x2048x4 : Shape := ⟨3, ![16, 2048, 4]⟩
abbrev S16x2048x4x1 : Shape := ⟨4, ![16, 2048, 4, 1]⟩
abbrev S1x1x4x256 : Shape := ⟨4, ![1, 1, 4, 256]⟩
abbrev S32768x1024 : Shape := ⟨2, ![32768, 1024]⟩

abbrev nBuf : Space → Nat
  | .hbm => 177
  | .vmem => 0
  | .smem => 0
  | _ => 0

abbrev hbmTy0_0 (i : Nat) : BufTy := match i % 128 with
  | 0 => ⟨S32768x2048, .f32⟩
  | 1 => ⟨S16x3x2048, .f32⟩
  | 2 => ⟨S2048, .f32⟩
  | 3 => ⟨S2048x4096, .f32⟩
  | 4 => ⟨S1024, .f32⟩
  | 5 => ⟨S16x2048x2048, .f32⟩
  | 6 => ⟨S16x1x2048, .f32⟩
  | 7 => ⟨S16x2048, .f32⟩
  | 8 => ⟨S16x1x2048, .f32⟩
  | 9 => ⟨S16x1x2048, .f32⟩
  | 10 => ⟨S16x2048, .f32⟩
  | 11 => ⟨S16x1x2048, .f32⟩
  | 12 => ⟨S16x2048x2048, .f32⟩
  | 13 => ⟨S_, .f32⟩
  | 14 => ⟨S16x2048, .f32⟩
  | 15 => ⟨S16x2048x1, .f32⟩
  | 16 => ⟨S_, .f32⟩
  | 17 => ⟨S16x2048x1, .f32⟩
  | 18 => ⟨S16x2048x1, .f32⟩
  | 19 => ⟨S_, .f32⟩
  | 20 => ⟨S16x2048x1, .f32⟩
  | 21 => ⟨S16x2048x1, .f32⟩
  | 22 => ⟨S16x2048x1, .f32⟩
  | 23 => ⟨S16x2048x2048, .f32⟩
  | 24 => ⟨S16x2048x2048, .f32⟩
  | 25 => ⟨S1x1x2048, .f32⟩
  | 26 => ⟨S16x2048x2048, .f32⟩
  | 27 => ⟨S16x2048x2048, .f32⟩
  | 28 => ⟨S_, .f32⟩
  | 29 => ⟨S16x1x2048, .f32⟩
  | 30 => ⟨S16x1x2048, .f32⟩
  | 31 => ⟨S16x2048x2048, .f32⟩
  | 32 => ⟨S16x2048x2048, .f32⟩
  | 33 => ⟨S16x2048x2048, .f32⟩
  | 34 => ⟨S16x2048x2048, .f32⟩
  | 35 => ⟨S16x2048x4096, .f32⟩
  | 36 => ⟨S16x2048x1024, .f32⟩
  | 37 => ⟨S16x2048x1024, .f32⟩
  | 38 => ⟨S16x2048x1024, .f32⟩
  | 39 => ⟨S16x2048x1024, .f32⟩
  | 40 => ⟨S16x2048x4x256, .f32⟩
  | 41 => ⟨S16x2048x4x256, .f32⟩
  | 42 => ⟨S16x2048x4x256, .f32⟩
  | 43 => ⟨S16x2048x4x256, .f32⟩
  | 44 => ⟨S2048, .f32⟩
  | 45 => ⟨S128, .f32⟩
  | 46 => ⟨S128, .f32⟩
  | 47 => ⟨S_, .f32⟩
  | 48 => ⟨S128, .f32⟩
  | 49 => ⟨S128, .f32⟩
  | 50 => ⟨S_, .f32⟩
  | 51 => ⟨S128, .f32⟩
  | 52 => ⟨S128, .f32⟩
  | 53 => ⟨S2048x1, .f32⟩
  | 54 => ⟨S1x128, .f32⟩
  | 55 => ⟨S2048x128, .f32⟩
  | 56 => ⟨S2048x128, .f32⟩
  | 57 => ⟨S2048x128, .f32⟩
  | 58 => ⟨S2048x128, .f32⟩
  | 59 => ⟨S1x2048x1x128, .f32⟩
  | 60 => ⟨S2048x128, .f32⟩
  | 61 => ⟨S1x2048x1x128, .f32⟩
  | 62 => ⟨S16x2048x4x128, .f32⟩
  | 63 => ⟨S16x2048x4x128, .f32⟩
  | 64 => ⟨S16x2048x4x128, .f32⟩
  | 65 => ⟨S16x2048x4x128, .f32⟩
  | 66 => ⟨S16x2048x4x128, .f32⟩
  | 67 => ⟨S16x2048x4x128, .f32⟩
  | 68 => ⟨S16x2048x4x128, .f32⟩
  | 69 => ⟨S16x2048x4x128, .f32⟩
  | 70 => ⟨S16x2048x4x128, .f32⟩
  | 71 => ⟨S16x2048x4x128, .f32⟩
  | 72 => ⟨S16x2048x4x128, .f32⟩
  | 73 => ⟨S16x2048x4x128, .f32⟩
  | 74 => ⟨S16x2048x4x256, .f32⟩
  | 75 => ⟨S16x4x2048x256, .f32⟩
  | 76 => ⟨S128, .f32⟩
  | 77 => ⟨S128, .f32⟩
  | 78 => ⟨S_, .f32⟩
  | 79 => ⟨S128, .f32⟩
  | 80 => ⟨S128, .f32⟩
  | 81 => ⟨S_, .f32⟩
  | 82 => ⟨S128, .f32⟩
  | 83 => ⟨S128, .f32⟩
  | 84 => ⟨S2048x1, .f32⟩
  | 85 => ⟨S1x128, .f32⟩
  | 86 => ⟨S2048x128, .f32⟩
  | 87 => ⟨S2048x128, .f32⟩
  | 88 => ⟨S2048x128, .f32⟩
  | 89 => ⟨S2048x128, .f32⟩
  | 90 => ⟨S1x2048x1x128, .f32⟩
  | 91 => ⟨S2048x128, .f32⟩
  | 92 => ⟨S1x2048x1x128, .f32⟩
  | 93 => ⟨S16x2048x4x128, .f32⟩
  | 94 => ⟨S16x2048x4x128, .f32⟩
  | 95 => ⟨S16x2048x4x128, .f32⟩
  | 96 => ⟨S16x2048x4x128, .f32⟩
  | 97 => ⟨S16x2048x4x128, .f32⟩
  | 98 => ⟨S16x2048x4x128, .f32⟩
  | 99 => ⟨S16x2048x4x128, .f32⟩
  | 100 => ⟨S16x2048x4x128, .f32⟩
  | 101 => ⟨S16x2048x4x128, .f32⟩
  | 102 => ⟨S16x2048x4x128, .f32⟩
  | 103 => ⟨S16x2048x4x128, .f32⟩
  | 104 => ⟨S16x2048x4x128, .f32⟩
  | 105 => ⟨S16x2048x4x256, .f32⟩
  | 106 => ⟨S16x4x2048x256, .f32⟩
  | 107 => ⟨S16x4x2048x256, .f32⟩
  | 108 => ⟨S_, .f32⟩
  | 109 => ⟨S4, .f32⟩
  | 110 => ⟨S4, .f32⟩
  | 111 => ⟨S_, .f32⟩
  | 112 => ⟨S4, .f32⟩
  | 113 => ⟨S4, .f32⟩
  | 114 => ⟨S4, .f32⟩
  | 115 => ⟨S4, .f32⟩
  | 116 => ⟨S4, .f32⟩
  | 117 => ⟨S2048, .f32⟩
  | 118 => ⟨S2048x1, .f32⟩
  | 119 => ⟨S1x2048, .f32⟩
  | 120 => ⟨S2048x2048, .f32⟩
  | 121 => ⟨S2048x2048, .f32⟩
  | 122 => ⟨S2048x2048, .i1⟩
  | 123 => ⟨S2048x1, .f32⟩
  | 124 => ⟨S1x2048, .f32⟩
  | 125 => ⟨S2048x2048, .f32⟩
  | 126 => ⟨S2048x2048, .f32⟩
  | 127 => ⟨S2048x2048, .f32⟩
  | _ => ⟨S32768x2048, .f32⟩

abbrev hbmTy0_1 (i : Nat) : BufTy := match i % 128 with
  | 0 => ⟨S4x1x1, .f32⟩
  | 1 => ⟨S1x2048x2048, .f32⟩
  | 2 => ⟨S4x2048x2048, .f32⟩
  | 3 => ⟨S4x2048x2048, .f32⟩
  | 4 => ⟨S4x2048x2048, .f32⟩
  | 5 => ⟨S_, .f32⟩
  | 6 => ⟨S_, .f32⟩
  | 7 => ⟨S4x2048x2048, .i1⟩
  | 8 => ⟨S4x2048x2048, .f32⟩
  | 9 => ⟨S4x2048x2048, .f32⟩
  | 10 => ⟨S4x2048x2048, .f32⟩
  | 11 => ⟨S_, .f32⟩
  | 12 => ⟨S16x4x2048x256, .f32⟩
  | 13 => ⟨S16x4x2048x256, .f32⟩
  | 14 => ⟨S16x4x2048x2048, .f32⟩
  | 15 => ⟨S1x4x2048x2048, .f32⟩
  | 16 => ⟨S16x4x2048x2048, .f32⟩
  | 17 => ⟨S16x4x2048x2048, .f32⟩
  | 18 => ⟨S16x4x2048x256, .f32⟩
  | 19 => ⟨S16x2048x4x256, .f32⟩
  | 20 => ⟨S4x256, .f32⟩
  | 21 => ⟨S16x2048x4x256, .f32⟩
  | 22 => ⟨S_, .f32⟩
  | 23 => ⟨S16x2048x4, .f32⟩
  | 24 => ⟨S16x2048x4x1, .f32⟩
  | 25 => ⟨S_, .f32⟩
  | 26 => ⟨S16x2048x4x1, .f32⟩
  | 27 => ⟨S16x2048x4x1, .f32⟩
  | 28 => ⟨S_, .f32⟩
  | 29 => ⟨S16x2048x4x1, .f32⟩
  | 30 => ⟨S16x2048x4x1, .f32⟩
  | 31 => ⟨S16x2048x4x1, .f32⟩
  | 32 => ⟨S16x2048x4x256, .f32⟩
  | 33 => ⟨S16x2048x4x256, .f32⟩
  | 34 => ⟨S1x1x4x256, .f32⟩
  | 35 => ⟨S16x2048x4x256, .f32⟩
  | 36 => ⟨S16x2048x4x256, .f32⟩
  | 37 => ⟨S16x2048x4x256, .f32⟩
  | 38 => ⟨S16x2048x4x256, .f32⟩
  | 39 => ⟨S_, .f32⟩
  | 40 => ⟨S16x2048x4x256, .f32⟩
  | 41 => ⟨S16x2048x4x256, .f32⟩
  | 42 => ⟨S_, .f32⟩
  | 43 => ⟨S16x2048x4x256, .f32⟩
  | 44 => ⟨S16x2048x4x256, .f32⟩
  | 45 => ⟨S16x2048x4x256, .f32⟩
  | 46 => ⟨S16x2048x4x256, .f32⟩
  | 47 => ⟨S32768x1024, .f32⟩
  | 48 => ⟨S32768x1024, .bf16⟩
  | _ => ⟨S32768x2048, .f32⟩

abbrev hbmTy (i : Nat) : BufTy := match i / 128 with
  | 0 => hbmTy0_0 i
  | 1 => hbmTy0_1 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_3 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_5 : Ref sig .tc := ⟨.hbm, 78, rfl⟩
abbrev main_v67 : Ref sig .tc := ⟨.hbm, 79, rfl⟩
abbrev main_v68 : Ref sig .tc := ⟨.hbm, 80, rfl⟩
abbrev main_cst_6 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_7 : Ref sig .tc := ⟨.hbm, 108, rfl⟩
abbrev main_v95 : Ref sig .tc := ⟨.hbm, 109, rfl⟩
abbrev main_v96 : Ref sig .tc := ⟨.hbm, 110, rfl⟩
abbrev main_cst_8 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_v108 : Ref sig .tc := ⟨.hbm, 123, rfl⟩
abbrev main_v109 : Ref sig .tc := ⟨.hbm, 124, rfl⟩
abbrev main_v110 : Ref sig .tc := ⟨.hbm, 125, rfl⟩
abbrev main_v111 : Ref sig .tc := ⟨.hbm, 126, rfl⟩
abbrev main_v112 : Ref sig .tc := ⟨.hbm, 127, rfl⟩
abbrev main_v113 : Ref sig .tc := ⟨.hbm, 128, rfl⟩
abbrev main_v114 : Ref sig .tc := ⟨.hbm, 129, rfl⟩
abbrev main_v115 : Ref sig .tc := ⟨.hbm, 130, rfl⟩
abbrev main_v116 : Ref sig .tc := ⟨.hbm, 131, rfl⟩
abbrev main_v117 : Ref sig .tc := ⟨.hbm, 132, rfl⟩
abbrev main_cst_9 : Ref sig .tc := ⟨.hbm, 133, rfl⟩
abbrev main_call0_v0 : Ref sig .tc := ⟨.hbm, 134, rfl⟩
abbrev main_call0_v1 : Ref sig .tc := ⟨.hbm, 135, rfl⟩
abbrev main_call0_v2 : Ref sig .tc := ⟨.hbm, 136, rfl⟩
abbrev main_v118 : Ref sig .tc := ⟨.hbm, 137, rfl⟩
abbrev main_v119 : Ref sig .tc := ⟨.hbm, 138, rfl⟩
abbrev main_cst_10 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_cst_11 : Ref sig .tc := ⟨.hbm, 150, rfl⟩
abbrev main_v130 : Ref sig .tc := ⟨.hbm, 151, rfl⟩
abbrev main_v131 : Ref sig .tc := ⟨.hbm, 152, rfl⟩
abbrev main_cst_12 : Ref sig .tc := ⟨.hbm, 153, rfl⟩
abbrev main_v132 : Ref sig .tc := ⟨.hbm, 154, rfl⟩
abbrev main_v133 : Ref sig .tc := ⟨.hbm, 155, rfl⟩
abbrev main_cst_13 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_call1_v0 : Ref sig .tc := ⟨.hbm, 165, rfl⟩
abbrev main_call1_v1 : Ref sig .tc := ⟨.hbm, 166, rfl⟩
abbrev main_call1_cst : Ref sig .tc := ⟨.hbm, 167, rfl⟩
abbrev main_call1_v2 : Ref sig .tc := ⟨.hbm, 168, rfl⟩
abbrev main_call1_v3 : Ref sig .tc := ⟨.hbm, 169, rfl⟩
abbrev main_call1_cst_0 : Ref sig .tc := ⟨.hbm, 170, rfl⟩
abbrev main_call1_v4 : Ref sig .tc := ⟨.hbm, 171, rfl⟩
abbrev main_call1_v5 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩

abbrev nD : Nat := 1
abbrev τ : Topo := Topo.v7x

variable {F : FTy → Type} [FloatOps F]
-- ==== Kernel2.lean ====
abbrev S32768x2048 : Shape := ⟨2, ![32768, 2048]⟩
abbrev S16x3x2048 : Shape := ⟨3, ![16, 3, 2048]⟩
abbrev S2048 : Shape := ⟨1, ![2048]⟩
abbrev S2x2x2048x11264 : Shape := ⟨4, ![2, 2, 2048, 11264]⟩
abbrev S2x2x5632x2048 : Shape := ⟨4, ![2, 2, 5632, 2048]⟩
abbrev S1x2048 : Shape := ⟨2, ![1, 2048]⟩
abbrev S1024x2048 : Shape := ⟨2, ![1024, 2048]⟩
abbrev S1x3x2048 : Shape := ⟨3, ![1, 3, 2048]⟩
abbrev S1x1x2048x512 : Shape := ⟨4, ![1, 1, 2048, 512]⟩
abbrev S1x1x512x2048 : Shape := ⟨4, ![1, 1, 512, 2048]⟩
abbrev S512x2048 : Shape := ⟨2, ![512, 2048]⟩
abbrev S512 : Shape := ⟨1, ![512]⟩
abbrev S512x1 : Shape := ⟨2, ![512, 1]⟩
abbrev S1x1x2048 : Shape := ⟨3, ![1, 1, 2048]⟩
abbrev S2048x512 : Shape := ⟨2, ![2048, 512]⟩
abbrev S512x512 : Shape := ⟨2, ![512, 512]⟩

abbrev nBuf : Space → Nat
  | .hbm => 11
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S16x3x2048, .f32⟩
  | .hbm, ⟨2, _⟩ => ⟨S2048, .f32⟩
  | .hbm, ⟨3, _⟩ => ⟨S2048, .f32⟩
  | .hbm, ⟨4, _⟩ => ⟨S2x2x2048x11264, .f32⟩
  | .hbm, ⟨5, _⟩ => ⟨S2x2x5632x2048, .f32⟩
  | .hbm, ⟨6, _⟩ => ⟨S2x2x2048x11264, .bf16⟩
  | .hbm, ⟨7, _⟩ => ⟨S2x2x5632x2048, .bf16⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1x2048, .f32⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x2048x512, .bf16⟩
  | .local _ .vmem, ⟨10, _⟩ => ⟨S1x1x512x2048, .bf16⟩
  | .local _ .vmem, ⟨11, _⟩ => ⟨S1x1x512x2048, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg1.toNat]

def cc0_transform_5 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S32768x2048 : Shape := ⟨2, ![32768, 2048]⟩
abbrev S16x3x2048 : Shape := ⟨3, ![16, 3, 2048]⟩
abbrev S2048 : Shape := ⟨1, ![2048]⟩
abbrev S2x2x2048x11264 : Shape := ⟨4, ![2, 2, 2048, 11264]⟩
abbrev S2x2x5632x2048 : Shape := ⟨4, ![2, 2, 5632, 2048]⟩
abbrev S16x2048x2048 : Shape := ⟨3, ![16, 2048, 2048]⟩
abbrev S16x1x2048 : Shape := ⟨3, ![16, 1, 2048]⟩
abbrev S16x2048 : Shape := ⟨2, ![16, 2048]⟩
abbrev S_ : Shape := ⟨0, ![]⟩
abbrev S16x2048x1 : Shape := ⟨3, ![16, 2048, 1]⟩
abbrev S1x1x2048 : Shape := ⟨3, ![1, 1, 2048]⟩
abbrev S1x1x2048x11264 : Shape := ⟨4, ![1, 1, 2048, 11264]⟩
abbrev S2048x11264 : Shape := ⟨2, ![2048, 11264]⟩
abbrev S16x2048x11264 : Shape := ⟨3, ![16, 2048, 11264]⟩
abbrev S16x2048x5632 : Shape := ⟨3, ![16, 2048, 5632]⟩
abbrev S1x1x5632x2048 : Shape := ⟨4, ![1, 1, 5632, 2048]⟩
abbrev S5632x2048 : Shape := ⟨2, ![5632, 2048]⟩

abbrev nBuf : Space → Nat
  | .hbm => 83
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x3x2048, .f32⟩
  | .hbm, ⟨2, _⟩ => ⟨S2048, .f32⟩
  | .hbm, ⟨3, _⟩ => ⟨S2048, .f32⟩
  | .hbm, ⟨4, _⟩ => ⟨S2x2x2048x11264, .f32⟩
  | .hbm, ⟨5, _⟩ => ⟨S2x2x5632x2048, .f32⟩
  | .hbm, ⟨6, _⟩ => ⟨S16x2048x2048, .f32⟩
  | .hbm, ⟨7, _⟩ => ⟨S16x1x2048, .f32⟩
  | .hbm, ⟨8, _⟩ => ⟨S16x2048, .f32⟩
  | .hbm, ⟨9, _⟩ => ⟨S16x1x2048, .f32⟩
  | .hbm, ⟨10, _⟩ => ⟨S16x1x2048, .f32⟩
  | .hbm, ⟨11, _⟩ => ⟨S16x2048, .f32⟩
  | .hbm, ⟨12, _⟩ => ⟨S16x1x2048, .f32⟩
  | .hbm, ⟨13, _⟩ => ⟨S16x1x2048, .f32⟩
  | .hbm, ⟨14, _⟩ => ⟨S16x2048, .f32⟩
  | .hbm, ⟨15, _⟩ => ⟨S16x1x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S1x1x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x1x2048, .f32⟩
  | .hbm, ⟨34, _⟩ => ⟨S16x1x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S1x1x2048x11264, .f32⟩
  | .hbm, ⟨40, _⟩ => ⟨S2048x11264, .f32⟩
  | .hbm, ⟨41, _⟩ => ⟨S16x2048x11264, .f32⟩
  | .hbm, ⟨42, _⟩ => ⟨S16x2048x5632, .f32⟩
  | .hbm, ⟨43, _⟩ => ⟨S16x2048x5632, .f32⟩
  | .hbm, ⟨44, _⟩ => ⟨S16x2048x5632, .f32⟩
  | .hbm, ⟨45, _⟩ => ⟨S16x2048x5632, .f32⟩
  | .hbm, ⟨46, _⟩ => ⟨S_, .f32⟩
  | .hbm, ⟨47, _⟩ => ⟨S16x2048x5632, .f32⟩
  | .hbm, ⟨48, _⟩ => ⟨S16x2048x5632, .f32⟩
  | .hbm, ⟨49, _⟩ => ⟨S_, .f32⟩
  | .hbm, ⟨50, _⟩ => ⟨S16x2048x5632, .f32⟩
  | .hbm, ⟨51, _⟩ => ⟨S16x2048x5632, .f32⟩
  | .hbm, ⟨52, _⟩ => ⟨S16x2048x5632, .f32⟩
  | .hbm, ⟨53, _⟩ => ⟨S16x2048x5632, .f32⟩
  | .hbm, ⟨54, _⟩ => ⟨S1x1x5632x2048, .f32⟩
  | .hbm, ⟨55, _⟩ => ⟨S5632x2048, .f32⟩
  | .hbm, ⟨56, _⟩ => ⟨S16x2048x2048, .f32⟩
  | .hbm, ⟨57, _⟩ => ⟨S_, .f32⟩
  | .hbm, ⟨58, _⟩ => ⟨S16x1x2048, .f32⟩
  | .hbm, ⟨59, _⟩ => ⟨S16x1x2048, .f32⟩
  | .hbm, ⟨60, _⟩ => ⟨S_, .f32⟩
  | .hbm, ⟨61, _⟩ => ⟨S16x1x2048, .f32⟩
  | .hbm, ⟨62, _⟩ => ⟨S16x1x2048, .f32⟩
  | .hbm, ⟨63, _⟩ => ⟨S16x2048x2048, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x2048, .f32⟩
  | .hbm, ⟨75, _⟩ => ⟨S16x2048x2048, .f32⟩
  | .hbm, ⟨76, _⟩ => ⟨S1x1x2048, .f32⟩
  | .hbm, ⟨77, _⟩ => ⟨S16x2048x2048, .f32⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S16x2048x2048, .f32⟩
  | .hbm, ⟨82, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel3.lean ====
abbrev S32768x2048 : Shape := ⟨2, ![32768, 2048]⟩
abbrev S16x3x2048 : Shape := ⟨3, ![16, 3, 2048]⟩
abbrev S2048 : Shape := ⟨1, ![2048]⟩
abbrev S2x2x2048x11264 : Shape := ⟨4, ![2, 2, 2048, 11264]⟩
abbrev S2x2x5632x2048 : Shape := ⟨4, ![2, 2, 5632, 2048]⟩
abbrev S1x2048 : Shape := ⟨2, ![1, 2048]⟩
abbrev S1024x2048 : Shape := ⟨2, ![1024, 2048]⟩
abbrev S1x3x2048 : Shape := ⟨3, ![1, 3, 2048]⟩
abbrev S1x1x2048x512 : Shape := ⟨4, ![1, 1, 2048, 512]⟩
abbrev S1x1x512x2048 : Shape := ⟨4, ![1, 1, 512, 2048]⟩
abbrev S512x2048 : Shape := ⟨2, ![512, 2048]⟩
abbrev S512 : Shape := ⟨1, ![512]⟩
abbrev S512x1 : Shape := ⟨2, ![512, 1]⟩
abbrev S1x1x2048 : Shape := ⟨3, ![1, 1, 2048]⟩
abbrev S2048x512 : Shape := ⟨2, ![2048, 512]⟩
abbrev S512x512 : Shape := ⟨2, ![512, 512]⟩

abbrev nBuf : Space → Nat
  | .hbm => 11
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S16x3x2048, .f32⟩
  | .hbm, ⟨2, _⟩ => ⟨S2048, .f32⟩
  | .hbm, ⟨3, _⟩ => ⟨S2048, .f32⟩
  | .hbm, ⟨4, _⟩ => ⟨S2x2x2048x11264, .f32⟩
  | .hbm, ⟨5, _⟩ => ⟨S2x2x5632x2048, .f32⟩
  | .hbm, ⟨6, _⟩ => ⟨S2x2x2048x11264, .bf16⟩
  | .hbm, ⟨7, _⟩ => ⟨S2x2x5632x2048, .bf16⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1x2048, .f32⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x2048x512, .bf16⟩
  | .local _ .vmem, ⟨10, _⟩ => ⟨S1x1x512x2048, .bf16⟩
  | .local _ .vmem, ⟨11, _⟩ => ⟨S1x1x512x2048, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat, v0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference3Ideal.lean ====
abbrev S32768x2048 : Shape := ⟨2, ![32768, 2048]⟩
abbrev S16x3x2048 : Shape := ⟨3, ![16, 3, 2048]⟩
abbrev S2048 : Shape := ⟨1, ![2048]⟩
abbrev S2x2x2048x11264 : Shape := ⟨4, ![2, 2, 2048, 11264]⟩
abbrev S2x2x5632x2048 : Shape := ⟨4, ![2, 2, 5632, 2048]⟩
abbrev S16x2048x2048 : Shape := ⟨3, ![16, 2048, 2048]⟩
abbrev S16x1x2048 : Shape := ⟨3, ![16, 1, 2048]⟩
abbrev S16x2048 : Shape := ⟨2, ![16, 2048]⟩
abbrev S_ : Shape := ⟨0, ![]⟩
abbrev S16x2048x1 : Shape := ⟨3, ![16, 2048, 1]⟩
abbrev S1x1x2048 : Shape := ⟨3, ![1, 1, 2048]⟩
abbrev S1x1x2048x11264 : Shape := ⟨4, ![1, 1, 2048, 11264]⟩
abbrev S2048x11264 : Shape := ⟨2, ![2048, 11264]⟩
abbrev S16x2048x11264 : Shape := ⟨3, ![16, 2048, 11264]⟩
abbrev S16x2048x5632 : Shape := ⟨3, ![16, 2048, 5632]⟩
abbrev S1x1x5632x2048 : Shape := ⟨4, ![1, 1, 5632, 2048]⟩
abbrev S5632x2048 : Shape := ⟨2, ![5632, 2048]⟩

abbrev nBuf : Space → Nat
  | .hbm => 83
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x3x2048, .f32⟩
  | .hbm, ⟨2, _⟩ => ⟨S2048, .f32⟩
  | .hbm, ⟨3, _⟩ => ⟨S2048, .f32⟩
  | .hbm, ⟨4, _⟩ => ⟨S2x2x2048x11264, .f32⟩
  | .hbm, ⟨5, _⟩ => ⟨S2x2x5632x2048, .f32⟩
  | .hbm, ⟨6, _⟩ => ⟨S16x2048x2048, .f32⟩
  | .hbm, ⟨7, _⟩ => ⟨S16x1x2048, .f32⟩
  | .hbm, ⟨8, _⟩ => ⟨S16x2048, .f32⟩
  | .hbm, ⟨9, _⟩ => ⟨S16x1x2048, .f32⟩
  | .hbm, ⟨10, _⟩ => ⟨S16x1x2048, .f32⟩
  | .hbm, ⟨11, _⟩ => ⟨S16x2048, .f32⟩
  | .hbm, ⟨12, _⟩ => ⟨S16x1x2048, .f32⟩
  | .hbm, ⟨13, _⟩ => ⟨S16x1x2048, .f32⟩
  | .hbm, ⟨14, _⟩ => ⟨S16x2048, .f32⟩
  | .hbm, ⟨15, _⟩ => ⟨S16x1x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S1x1x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x1x2048, .f32⟩
  | .hbm, ⟨34, _⟩ => ⟨S16x1x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S1x1x2048x11264, .f32⟩
  | .hbm, ⟨40, _⟩ => ⟨S2048x11264, .f32⟩
  | .hbm, ⟨41, _⟩ => ⟨S16x2048x11264, .f32⟩
  | .hbm, ⟨42, _⟩ => ⟨S16x2048x5632, .f32⟩
  | .hbm, ⟨43, _⟩ => ⟨S16x2048x5632, .f32⟩
  | .hbm, ⟨44, _⟩ => ⟨S16x2048x5632, .f32⟩
  | .hbm, ⟨45, _⟩ => ⟨S16x2048x5632, .f32⟩
  | .hbm, ⟨46, _⟩ => ⟨S_, .f32⟩
  | .hbm, ⟨47, _⟩ => ⟨S16x2048x5632, .f32⟩
  | .hbm, ⟨48, _⟩ => ⟨S16x2048x5632, .f32⟩
  | .hbm, ⟨49, _⟩ => ⟨S_, .f32⟩
  | .hbm, ⟨50, _⟩ => ⟨S16x2048x5632, .f32⟩
  | .hbm, ⟨51, _⟩ => ⟨S16x2048x5632, .f32⟩
  | .hbm, ⟨52, _⟩ => ⟨S16x2048x5632, .f32⟩
  | .hbm, ⟨53, _⟩ => ⟨S16x2048x5632, .f32⟩
  | .hbm, ⟨54, _⟩ => ⟨S1x1x5632x2048, .f32⟩
  | .hbm, ⟨55, _⟩ => ⟨S5632x2048, .f32⟩
  | .hbm, ⟨56, _⟩ => ⟨S16x2048x2048, .f32⟩
  | .hbm, ⟨57, _⟩ => ⟨S_, .f32⟩
  | .hbm, ⟨58, _⟩ => ⟨S16x1x2048, .f32⟩
  | .hbm, ⟨59, _⟩ => ⟨S16x1x2048, .f32⟩
  | .hbm, ⟨60, _⟩ => ⟨S_, .f32⟩
  | .hbm, ⟨61, _⟩ => ⟨S16x1x2048, .f32⟩
  | .hbm, ⟨62, _⟩ => ⟨S16x1x2048, .f32⟩
  | .hbm, ⟨63, _⟩ => ⟨S16x2048x2048, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x2048, .f32⟩
  | .hbm, ⟨75, _⟩ => ⟨S16x2048x2048, .f32⟩
  | .hbm, ⟨76, _⟩ => ⟨S1x1x2048, .f32⟩
  | .hbm, ⟨77, _⟩ => ⟨S16x2048x2048, .f32⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S16x2048x2048, .f32⟩
  | .hbm, ⟨82, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel4.lean ====
abbrev S32768x2048 : Shape := ⟨2, ![32768, 2048]⟩
abbrev S16x3x2048 : Shape := ⟨3, ![16, 3, 2048]⟩
abbrev S2048 : Shape := ⟨1, ![2048]⟩
abbrev S2x2x2048x11264 : Shape := ⟨4, ![2, 2, 2048, 11264]⟩
abbrev S2x2x5632x2048 : Shape := ⟨4, ![2, 2, 5632, 2048]⟩
abbrev S1x2048 : Shape := ⟨2, ![1, 2048]⟩
abbrev S1024x2048 : Shape := ⟨2, ![1024, 2048]⟩
abbrev S1x3x2048 : Shape := ⟨3, ![1, 3, 2048]⟩
abbrev S1x1x2048x512 : Shape := ⟨4, ![1, 1, 2048, 512]⟩
abbrev S1x1x512x2048 : Shape := ⟨4, ![1, 1, 512, 2048]⟩
abbrev S512x2048 : Shape := ⟨2, ![512, 2048]⟩
abbrev S512 : Shape := ⟨1, ![512]⟩
abbrev S512x1 : Shape := ⟨2, ![512, 1]⟩
abbrev S1x1x2048 : Shape := ⟨3, ![1, 1, 2048]⟩
abbrev S2048x512 : Shape := ⟨2, ![2048, 512]⟩
abbrev S512x512 : Shape := ⟨2, ![512, 512]⟩

abbrev nBuf : Space → Nat
  | .hbm => 11
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S16x3x2048, .f32⟩
  | .hbm, ⟨2, _⟩ => ⟨S2048, .f32⟩
  | .hbm, ⟨3, _⟩ => ⟨S2048, .f32⟩
  | .hbm, ⟨4, _⟩ => ⟨S2x2x2048x11264, .f32⟩
  | .hbm, ⟨5, _⟩ => ⟨S2x2x5632x2048, .f32⟩
  | .hbm, ⟨6, _⟩ => ⟨S2x2x2048x11264, .bf16⟩
  | .hbm, ⟨7, _⟩ => ⟨S2x2x5632x2048, .bf16⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1x2048, .f32⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x2048x512, .bf16⟩
  | .local _ .vmem, ⟨10, _⟩ => ⟨S1x1x512x2048, .bf16⟩
  | .local _ .vmem, ⟨11, _⟩ => ⟨S1x1x512x2048, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, arg1.toNat]

def cc0_transform_5 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat, v0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, arg1.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference4Ideal.lean ====
abbrev S32768x2048 : Shape := ⟨2, ![32768, 2048]⟩
abbrev S16x3x2048 : Shape := ⟨3, ![16, 3, 2048]⟩
abbrev S2048 : Shape := ⟨1, ![2048]⟩
abbrev S2x2x2048x11264 : Shape := ⟨4, ![2, 2, 2048, 11264]⟩
abbrev S2x2x5632x2048 : Shape := ⟨4, ![2, 2, 5632, 2048]⟩
abbrev S16x2048x2048 : Shape := ⟨3, ![16, 2048, 2048]⟩
abbrev S16x1x2048 : Shape := ⟨3, ![16, 1, 2048]⟩
abbrev S16x2048 : Shape := ⟨2, ![16, 2048]⟩
abbrev S_ : Shape := ⟨0, ![]⟩
abbrev S16x2048x1 : Shape := ⟨3, ![16, 2048, 1]⟩
abbrev S1x1x2048 : Shape := ⟨3, ![1, 1, 2048]⟩
abbrev S1x1x2048x11264 : Shape := ⟨4, ![1, 1, 2048, 11264]⟩
abbrev S2048x11264 : Shape := ⟨2, ![2048, 11264]⟩
abbrev S16x2048x11264 : Shape := ⟨3, ![16, 2048, 11264]⟩
abbrev S16x2048x5632 : Shape := ⟨3, ![16, 2048, 5632]⟩
abbrev S1x1x5632x2048 : Shape := ⟨4, ![1, 1, 5632, 2048]⟩
abbrev S5632x2048 : Shape := ⟨2, ![5632, 2048]⟩

abbrev nBuf : Space → Nat
  | .hbm => 83
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x3x2048, .f32⟩
  | .hbm, ⟨2, _⟩ => ⟨S2048, .f32⟩
  | .hbm, ⟨3, _⟩ => ⟨S2048, .f32⟩
  | .hbm, ⟨4, _⟩ => ⟨S2x2x2048x11264, .f32⟩
  | .hbm, ⟨5, _⟩ => ⟨S2x2x5632x2048, .f32⟩
  | .hbm, ⟨6, _⟩ => ⟨S16x2048x2048, .f32⟩
  | .hbm, ⟨7, _⟩ => ⟨S16x1x2048, .f32⟩
  | .hbm, ⟨8, _⟩ => ⟨S16x2048, .f32⟩
  | .hbm, ⟨9, _⟩ => ⟨S16x1x2048, .f32⟩
  | .hbm, ⟨10, _⟩ => ⟨S16x1x2048, .f32⟩
  | .hbm, ⟨11, _⟩ => ⟨S16x2048, .f32⟩
  | .hbm, ⟨12, _⟩ => ⟨S16x1x2048, .f32⟩
  | .hbm, ⟨13, _⟩ => ⟨S16x1x2048, .f32⟩
  | .hbm, ⟨14, _⟩ => ⟨S16x2048, .f32⟩
  | .hbm, ⟨15, _⟩ => ⟨S16x1x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S1x1x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x1x2048, .f32⟩
  | .hbm, ⟨34, _⟩ => ⟨S16x1x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S1x1x2048x11264, .f32⟩
  | .hbm, ⟨40, _⟩ => ⟨S2048x11264, .f32⟩
  | .hbm, ⟨41, _⟩ => ⟨S16x2048x11264, .f32⟩
  | .hbm, ⟨42, _⟩ => ⟨S16x2048x5632, .f32⟩
  | .hbm, ⟨43, _⟩ => ⟨S16x2048x5632, .f32⟩
  | .hbm, ⟨44, _⟩ => ⟨S16x2048x5632, .f32⟩
  | .hbm, ⟨45, _⟩ => ⟨S16x2048x5632, .f32⟩
  | .hbm, ⟨46, _⟩ => ⟨S_, .f32⟩
  | .hbm, ⟨47, _⟩ => ⟨S16x2048x5632, .f32⟩
  | .hbm, ⟨48, _⟩ => ⟨S16x2048x5632, .f32⟩
  | .hbm, ⟨49, _⟩ => ⟨S_, .f32⟩
  | .hbm, ⟨50, _⟩ => ⟨S16x2048x5632, .f32⟩
  | .hbm, ⟨51, _⟩ => ⟨S16x2048x5632, .f32⟩
  | .hbm, ⟨52, _⟩ => ⟨S16x2048x5632, .f32⟩
  | .hbm, ⟨53, _⟩ => ⟨S16x2048x5632, .f32⟩
  | .hbm, ⟨54, _⟩ => ⟨S1x1x5632x2048, .f32⟩
  | .hbm, ⟨55, _⟩ => ⟨S5632x2048, .f32⟩
  | .hbm, ⟨56, _⟩ => ⟨S16x2048x2048, .f32⟩
  | .hbm, ⟨57, _⟩ => ⟨S_, .f32⟩
  | .hbm, ⟨58, _⟩ => ⟨S16x1x2048, .f32⟩
  | .hbm, ⟨59, _⟩ => ⟨S16x1x2048, .f32⟩
  | .hbm, ⟨60, _⟩ => ⟨S_, .f32⟩
  | .hbm, ⟨61, _⟩ => ⟨S16x1x2048, .f32⟩
  | .hbm, ⟨62, _⟩ => ⟨S16x1x2048, .f32⟩
  | .hbm, ⟨63, _⟩ => ⟨S16x2048x2048, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x2048, .f32⟩
  | .hbm, ⟨75, _⟩ => ⟨S16x2048x2048, .f32⟩
  | .hbm, ⟨76, _⟩ => ⟨S1x1x2048, .f32⟩
  | .hbm, ⟨77, _⟩ => ⟨S16x2048x2048, .f32⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S16x2048x2048, .f32⟩
  | .hbm, ⟨82, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel5.lean ====
abbrev S32768x2048 : Shape := ⟨2, ![32768, 2048]⟩
abbrev S16x3x2048 : Shape := ⟨3, ![16, 3, 2048]⟩
abbrev S2048 : Shape := ⟨1, ![2048]⟩
abbrev S2x2x2048x11264 : Shape := ⟨4, ![2, 2, 2048, 11264]⟩
abbrev S2x2x5632x2048 : Shape := ⟨4, ![2, 2, 5632, 2048]⟩
abbrev S1x2048 : Shape := ⟨2, ![1, 2048]⟩
abbrev S1024x2048 : Shape := ⟨2, ![1024, 2048]⟩
abbrev S1x3x2048 : Shape := ⟨3, ![1, 3, 2048]⟩
abbrev S1x1x2048x512 : Shape := ⟨4, ![1, 1, 2048, 512]⟩
abbrev S1x1x512x2048 : Shape := ⟨4, ![1, 1, 512, 2048]⟩
abbrev S512x2048 : Shape := ⟨2, ![512, 2048]⟩
abbrev S512 : Shape := ⟨1, ![512]⟩
abbrev S512x1 : Shape := ⟨2, ![512, 1]⟩
abbrev S1x1x2048 : Shape := ⟨3, ![1, 1, 2048]⟩
abbrev S2048x512 : Shape := ⟨2, ![2048, 512]⟩
abbrev S512x512 : Shape := ⟨2, ![512, 512]⟩

abbrev nBuf : Space → Nat
  | .hbm => 11
  | .vmem => 15
  | .smem => 0
  | _ => 0

abbrev bufTy : (tb : Table) → Fin (tcTables nBuf tb) → BufTy
  | .hbm, ⟨0, _⟩ => ⟨S32768x2048, .f32⟩
  | .hbm, ⟨1, _⟩ => ⟨S16x3x2048, .f32⟩
  | .hbm, ⟨2, _⟩ => ⟨S2048, .f32⟩
  | .hbm, ⟨3, _⟩ => ⟨S2048, .f32⟩
  | .hbm, ⟨4, _⟩ => ⟨S2x2x2048x11264, .f32⟩
  | .hbm, ⟨5, _⟩ => ⟨S2x2x5632x2048, .f32⟩
  | .hbm, ⟨6, _⟩ => ⟨S2x2x2048x11264, .bf16⟩
  | .hbm, ⟨7, _⟩ => ⟨S2x2x5632x2048, .bf16⟩
  | .hbm, ⟨8, _⟩ => ⟨S1x2048, .f32⟩
  | .hbm, ⟨9, _⟩ => ⟨S1x2048, .f32⟩
  | .hbm, ⟨10, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x3x2048, .f32⟩
  | .local _ .vmem, ⟨3, _⟩ => ⟨S1x3x2048, .f32⟩
  | .local _ .vmem, ⟨4, _⟩ => ⟨S1x2048, .f32⟩
  | .local _ .vmem, ⟨5, _⟩ => ⟨S1x2048, .f32⟩
  | .local _ .vmem, ⟨6, _⟩ => ⟨S1x1x2048x512, .bf16⟩
  | .local _ .vmem, ⟨7, _⟩ => ⟨S1x1x2048x512, .bf16⟩
  | .local _ .vmem, ⟨8, _⟩ => ⟨S1x1x2048x512, .bf16⟩
  | .local _ .vmem, ⟨9, _⟩ => ⟨S1x1x2048x512, .bf16⟩
  | .local _ .vmem, ⟨10, _⟩ => ⟨S1x1x512x2048, .bf16⟩
  | .local _ .vmem, ⟨11, _⟩ => ⟨S1x1x512x2048, .bf16⟩
  | .local _ .vmem, ⟨12, _⟩ => ⟨S1024x2048, .f32⟩
  | .local _ .vmem, ⟨13, _⟩ => ⟨S1024x2048, .f32⟩
  | .local _ .vmem, ⟨14, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![32, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, v0.toNat]

def cc0_transform_6 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S32768x2048 : Shape := ⟨2, ![32768, 2048]⟩
abbrev S16x3x2048 : Shape := ⟨3, ![16, 3, 2048]⟩
abbrev S2048 : Shape := ⟨1, ![2048]⟩
abbrev S2x2x2048x11264 : Shape := ⟨4, ![2, 2, 2048, 11264]⟩
abbrev S2x2x5632x2048 : Shape := ⟨4, ![2, 2, 5632, 2048]⟩
abbrev S16x2048x2048 : Shape := ⟨3, ![16, 2048, 2048]⟩
abbrev S16x1x2048 : Shape := ⟨3, ![16, 1, 2048]⟩
abbrev S16x2048 : Shape := ⟨2, ![16, 2048]⟩
abbrev S_ : Shape := ⟨0, ![]⟩
abbrev S16x2048x1 : Shape := ⟨3, ![16, 2048, 1]⟩
abbrev S1x1x2048 : Shape := ⟨3, ![1, 1, 2048]⟩
abbrev S1x1x2048x11264 : Shape := ⟨4, ![1, 1, 2048, 11264]⟩
abbrev S2048x11264 : Shape := ⟨2, ![2048, 11264]⟩
abbrev S16x2048x11264 : Shape := ⟨3, ![16, 2048, 11264]⟩
abbrev S16x2048x5632 : Shape := ⟨3, ![16, 2048, 5632]⟩
abbrev S1x1x5632x2048 : Shape := ⟨4, ![1, 1, 5632, 2048]⟩
abbrev S5632x2048 : Shape := ⟨2, ![5632, 2048]⟩

abbrev nBuf : Space → Nat
  | .hbm => 83
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S16x3x2048, .f32⟩
  | .hbm, ⟨2, _⟩ => ⟨S2048, .f32⟩
  | .hbm, ⟨3, _⟩ => ⟨S2048, .f32⟩
  | .hbm, ⟨4, _⟩ => ⟨S2x2x2048x11264, .f32⟩
  | .hbm, ⟨5, _⟩ => ⟨S2x2x5632x2048, .f32⟩
  | .hbm, ⟨6, _⟩ => ⟨S16x2048x2048, .f32⟩
  | .hbm, ⟨7, _⟩ => ⟨S16x1x2048, .f32⟩
  | .hbm, ⟨8, _⟩ => ⟨S16x2048, .f32⟩
  | .hbm, ⟨9, _⟩ => ⟨S16x1x2048, .f32⟩
  | .hbm, ⟨10, _⟩ => ⟨S16x1x2048, .f32⟩
  | .hbm, ⟨11, _⟩ => ⟨S16x2048, .f32⟩
  | .hbm, ⟨12, _⟩ => ⟨S16x1x2048, .f32⟩
  | .hbm, ⟨13, _⟩ => ⟨S16x1x2048, .f32⟩
  | .hbm, ⟨14, _⟩ => ⟨S16x2048, .f32⟩
  | .hbm, ⟨15, _⟩ => ⟨S16x1x2048, .f32⟩
  | .hbm, ⟨16, _⟩ => ⟨S16x2048x2048, .f32⟩
  | .hbm, ⟨17, _⟩ => ⟨S_, .f32⟩
  | .hbm, ⟨18, _⟩ => ⟨S16x2048, .f32⟩
  | .hbm, ⟨19, _⟩ => ⟨S16x2048x1, .f32⟩
  | .hbm, ⟨20, _⟩ => ⟨S_, .f32⟩
  | .hbm, ⟨21, _⟩ => ⟨S16x2048x1, .f32⟩
  | .hbm, ⟨22, _⟩ => ⟨S16x2048x1, .f32⟩
  | .hbm, ⟨23, _⟩ => ⟨S_, .f32⟩
  | .hbm, ⟨24, _⟩ => ⟨S16x2048x1, .f32⟩
  | .hbm, ⟨25, _⟩ => ⟨S16x2048x1, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S1x1x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x1x2048, .f32⟩
  | .hbm, ⟨34, _⟩ => ⟨S16x1x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S1x1x2048x11264, .f32⟩
  | .hbm, ⟨40, _⟩ => ⟨S2048x11264, .f32⟩
  | .hbm, ⟨41, _⟩ => ⟨S16x2048x11264, .f32⟩
  | .hbm, ⟨42, _⟩ => ⟨S16x2048x5632, .f32⟩
  | .hbm, ⟨43, _⟩ => ⟨S16x2048x5632, .f32⟩
  | .hbm, ⟨44, _⟩ => ⟨S16x2048x5632, .f32⟩
  | .hbm, ⟨45, _⟩ => ⟨S16x2048x5632, .f32⟩
  | .hbm, ⟨46, _⟩ => ⟨S_, .f32⟩
  | .hbm, ⟨47, _⟩ => ⟨S16x2048x5632, .f32⟩
  | .hbm, ⟨48, _⟩ => ⟨S16x2048x5632, .f32⟩
  | .hbm, ⟨49, _⟩ => ⟨S_, .f32⟩
  | .hbm, ⟨50, _⟩ => ⟨S16x2048x5632, .f32⟩
  | .hbm, ⟨51, _⟩ => ⟨S16x2048x5632, .f32⟩
  | .hbm, ⟨52, _⟩ => ⟨S16x2048x5632, .f32⟩
  | .hbm, ⟨53, _⟩ => ⟨S16x2048x5632, .f32⟩
  | .hbm, ⟨54, _⟩ => ⟨S1x1x5632x2048, .f32⟩
  | .hbm, ⟨55, _⟩ => ⟨S5632x2048, .f32⟩
  | .hbm, ⟨56, _⟩ => ⟨S16x2048x2048, .f32⟩
  | .hbm, ⟨57, _⟩ => ⟨S_, .f32⟩
  | .hbm, ⟨58, _⟩ => ⟨S16x1x2048, .f32⟩
  | .hbm, ⟨59, _⟩ => ⟨S16x1x2048, .f32⟩
  | .hbm, ⟨60, _⟩ => ⟨S_, .f32⟩
  | .hbm, ⟨61, _⟩ => ⟨S16x1x2048, .f32⟩
  | .hbm, ⟨62, _⟩ => ⟨S16x1x2048, .f32⟩
  | .hbm, ⟨63, _⟩ => ⟨S16x2048x2048, .f32⟩
  | .hbm, ⟨64, _⟩ => ⟨S_, .f32⟩
  | .hbm, ⟨65, _⟩ => ⟨S16x2048, .f32⟩
  | .hbm, ⟨66, _⟩ => ⟨S16x2048x1, .f32⟩
  | .hbm, ⟨67, _⟩ => ⟨S_, .f32⟩
  | .hbm, ⟨68, _⟩ => ⟨S16x2048x1, .f32⟩
  | .hbm, ⟨69, _⟩ => ⟨S16x2048x1, .f32⟩
  | .hbm, ⟨70, _⟩ => ⟨S_, .f32⟩
  | .hbm, ⟨71, _⟩ => ⟨S16x2048x1, .f32⟩
  | .hbm, ⟨72, _⟩ => ⟨S16x2048x1, .f32⟩
  | .hbm, ⟨73, _⟩ => ⟨S16x2048x1, .f32⟩
  | .hbm, ⟨74, _⟩ => ⟨S16x2048x2048, .f32⟩
  | .hbm, ⟨75, _⟩ => ⟨S16x2048x2048, .f32⟩
  | .hbm, ⟨76, _⟩ => ⟨S1x1x2048, .f32⟩
  | .hbm, ⟨77, _⟩ => ⟨S16x2048x2048, .f32⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S16x2048x2048, .f32⟩
  | .hbm, ⟨82, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_5 : Ref sig .tc := ⟨.hbm, 64, rfl⟩
abbrev main_v44 : Ref sig .tc := ⟨.hbm, 65, rfl⟩
abbrev main_v45 : Ref sig .tc := ⟨.hbm, 66, rfl⟩
abbrev main_cst_6 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Kernel6.lean ====
abbrev S32768x1024 : Shape := ⟨2, ![32768, 1024]⟩
abbrev S2048x2048 : Shape := ⟨2, ![2048, 2048]⟩
abbrev S32768x2048 : Shape := ⟨2, ![32768, 2048]⟩
abbrev S16x3x2048 : Shape := ⟨3, ![16, 3, 2048]⟩
abbrev S2048 : Shape := ⟨1, ![2048]⟩
abbrev S1x2048 : Shape := ⟨2, ![1, 2048]⟩
abbrev S512x1024 : Shape := ⟨2, ![512, 1024]⟩
abbrev S1024x2048 : Shape := ⟨2, ![1024, 2048]⟩
abbrev S512x2048 : Shape := ⟨2, ![512, 2048]⟩
abbrev S1x3x2048 : Shape := ⟨3, ![1, 3, 2048]⟩
abbrev S512 : Shape := ⟨1, ![512]⟩
abbrev S512x1 : Shape := ⟨2, ![512, 1]⟩
abbrev S1x1x2048 : Shape := ⟨3, ![1, 1, 2048]⟩

abbrev nBuf : Space → Nat
  | .hbm => 9
  | .vmem => 13
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S16x3x2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S32768x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x3x2048, .f32⟩
  | .local _ .vmem, ⟨9, _⟩ => ⟨S1x3x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference6Ideal.lean ====
abbrev S32768x1024 : Shape := ⟨2, ![32768, 1024]⟩
abbrev S2048x2048 : Shape := ⟨2, ![2048, 2048]⟩
abbrev S32768x2048 : Shape := ⟨2, ![32768, 2048]⟩
abbrev S16x3x2048 : Shape := ⟨3, ![16, 3, 2048]⟩
abbrev S2048 : Shape := ⟨1, ![2048]⟩
abbrev S16x2048x2048 : Shape := ⟨3, ![16, 2048, 2048]⟩
abbrev S16x1x2048 : Shape := ⟨3, ![16, 1, 2048]⟩
abbrev S16x2048 : Shape := ⟨2, ![16, 2048]⟩
abbrev S_ : Shape := ⟨0, ![]⟩
abbrev S16x2048x1 : Shape := ⟨3, ![16, 2048, 1]⟩
abbrev S1x1x2048 : Shape := ⟨3, ![1, 1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S16x3x2048, .f32⟩
  | .hbm, ⟨5, _⟩ => ⟨S2048, .f32⟩
  | .hbm, ⟨6, _⟩ => ⟨S32768x2048, .bf16⟩
  | .hbm, ⟨7, _⟩ => ⟨S16x2048x2048, .f32⟩
  | .hbm, ⟨8, _⟩ => ⟨S16x1x2048, .f32⟩
  | .hbm, ⟨9, _⟩ => ⟨S16x2048, .f32⟩
  | .hbm, ⟨10, _⟩ => ⟨S16x1x2048, .f32⟩
  | .hbm, ⟨11, _⟩ => ⟨S32768x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x1x2048, .f32⟩
  | .hbm, ⟨16, _⟩ => ⟨S16x1x2048, .f32⟩
  | .hbm, ⟨17, _⟩ => ⟨S_, .f32⟩
  | .hbm, ⟨18, _⟩ => ⟨S16x1x2048, .f32⟩
  | .hbm, ⟨19, _⟩ => ⟨S16x1x2048, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S16x2048x1, .f32⟩
  | .hbm, ⟨24, _⟩ => ⟨S_, .f32⟩
  | .hbm, ⟨25, _⟩ => ⟨S16x2048x1, .f32⟩
  | .hbm, ⟨26, _⟩ => ⟨S16x2048x1, .f32⟩
  | .hbm, ⟨27, _⟩ => ⟨S_, .f32⟩
  | .hbm, ⟨28, _⟩ => ⟨S16x2048x1, .f32⟩
  | .hbm, ⟨29, _⟩ => ⟨S16x2048x1, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S1x1x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S16x2048x2048, .f32⟩
  | .hbm, ⟨38, _⟩ => ⟨S16x2048x2048, .f32⟩
  | .hbm, ⟨39, _⟩ => ⟨S32768x2048, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel7.lean ====
abbrev S32768x2048 : Shape := ⟨2, ![32768, 2048]⟩
abbrev S2048x2048 : Shape := ⟨2, ![2048, 2048]⟩
abbrev S16x3x2048 : Shape := ⟨3, ![16, 3, 2048]⟩
abbrev S2048 : Shape := ⟨1, ![2048]⟩
abbrev S1x2048 : Shape := ⟨2, ![1, 2048]⟩
abbrev S512x2048 : Shape := ⟨2, ![512, 2048]⟩
abbrev S1x3x2048 : Shape := ⟨3, ![1, 3, 2048]⟩
abbrev S512 : Shape := ⟨1, ![512]⟩
abbrev S512x1 : Shape := ⟨2, ![512, 1]⟩
abbrev S1x1x2048 : Shape := ⟨3, ![1, 1, 2048]⟩

abbrev nBuf : Space → Nat
  | .hbm => 8
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S16x3x2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x3x2048, .f32⟩
  | .local _ .vmem, ⟨6, _⟩ => ⟨S1x3x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S32768x2048 : Shape := ⟨2, ![32768, 2048]⟩
abbrev S2048x2048 : Shape := ⟨2, ![2048, 2048]⟩
abbrev S16x3x2048 : Shape := ⟨3, ![16, 3, 2048]⟩
abbrev S2048 : Shape := ⟨1, ![2048]⟩
abbrev S16x2048x2048 : Shape := ⟨3, ![16, 2048, 2048]⟩
abbrev S16x1x2048 : Shape := ⟨3, ![16, 1, 2048]⟩
abbrev S16x2048 : Shape := ⟨2, ![16, 2048]⟩
abbrev S_ : Shape := ⟨0, ![]⟩
abbrev S16x2048x1 : Shape := ⟨3, ![16, 2048, 1]⟩
abbrev S1x1x2048 : Shape := ⟨3, ![1, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S16x3x2048, .f32⟩
  | .hbm, ⟨4, _⟩ => ⟨S2048, .f32⟩
  | .hbm, ⟨5, _⟩ => ⟨S16x2048x2048, .f32⟩
  | .hbm, ⟨6, _⟩ => ⟨S16x1x2048, .f32⟩
  | .hbm, ⟨7, _⟩ => ⟨S16x2048, .f32⟩
  | .hbm, ⟨8, _⟩ => ⟨S16x1x2048, .f32⟩
  | .hbm, ⟨9, _⟩ => ⟨S32768x2048, .f32⟩
  | .hbm, ⟨10, _⟩ => ⟨S16x2048x2048, .f32⟩
  | .hbm, ⟨11, _⟩ => ⟨S16x2048x2048, .f32⟩
  | .hbm, ⟨12, _⟩ => ⟨S_, .f32⟩
  | .hbm, ⟨13, _⟩ => ⟨S16x1x2048, .f32⟩
  | .hbm, ⟨14, _⟩ => ⟨S16x1x2048, .f32⟩
  | .hbm, ⟨15, _⟩ => ⟨S_, .f32⟩
  | .hbm, ⟨16, _⟩ => ⟨S16x1x2048, .f32⟩
  | .hbm, ⟨17, _⟩ => ⟨S16x1x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x1, .f32⟩
  | .hbm, ⟨29, _⟩ => ⟨S16x2048x2048, .f32⟩
  | .hbm, ⟨30, _⟩ => ⟨S16x2048x2048, .f32⟩
  | .hbm, ⟨31, _⟩ => ⟨S1x1x2048, .f32⟩
  | .hbm, ⟨32, _⟩ => ⟨S16x2048x2048, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S16x2048x2048, .f32⟩
  | .hbm, ⟨37, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel8.lean ====
abbrev S16x2048 : Shape := ⟨2, ![16, 2048]⟩
abbrev S2x2048x18432 : Shape := ⟨3, ![2, 2048, 18432]⟩
abbrev S2x18432 : Shape := ⟨2, ![2, 18432]⟩
abbrev S2x1x18432 : Shape := ⟨3, ![2, 1, 18432]⟩
abbrev S2x16x18432 : Shape := ⟨3, ![2, 16, 18432]⟩
abbrev S1x2048x1024 : Shape := ⟨3, ![1, 2048, 1024]⟩
abbrev S1x1x1024 : Shape := ⟨3, ![1, 1, 1024]⟩
abbrev S1x16x1024 : Shape := ⟨3, ![1, 16, 1024]⟩
abbrev S2048x1024 : Shape := ⟨2, ![2048, 1024]⟩
abbrev S16x1024 : Shape := ⟨2, ![16, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x18432, .f32⟩
  | .hbm, ⟨2, _⟩ => ⟨S2x18432, .f32⟩
  | .hbm, ⟨3, _⟩ => ⟨S2x1x18432, .f32⟩
  | .hbm, ⟨4, _⟩ => ⟨S2x16x18432, .f32⟩
  | .local _ .vmem, ⟨0, _⟩ => ⟨S16x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 18], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S16x2048 : Shape := ⟨2, ![16, 2048]⟩
abbrev S2x2048x18432 : Shape := ⟨3, ![2, 2048, 18432]⟩
abbrev S2x18432 : Shape := ⟨2, ![2, 18432]⟩
abbrev S_ : Shape := ⟨0, ![]⟩
abbrev S1x2048x18432 : Shape := ⟨3, ![1, 2048, 18432]⟩
abbrev S2048x18432 : Shape := ⟨2, ![2048, 18432]⟩
abbrev S16x18432 : Shape := ⟨2, ![16, 18432]⟩
abbrev S1x18432 : Shape := ⟨2, ![1, 18432]⟩
abbrev S18432 : Shape := ⟨1, ![18432]⟩
abbrev S1x16x18432 : Shape := ⟨3, ![1, 16, 18432]⟩
abbrev S2x16x18432 : Shape := ⟨3, ![2, 16, 18432]⟩

abbrev nBuf : Space → Nat
  | .hbm => 40
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x18432, .f32⟩
  | .hbm, ⟨2, _⟩ => ⟨S2x18432, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x18432, .f32⟩
  | .hbm, ⟨13, _⟩ => ⟨S2048x18432, .f32⟩
  | .hbm, ⟨14, _⟩ => ⟨S16x18432, .f32⟩
  | .hbm, ⟨15, _⟩ => ⟨S1x18432, .f32⟩
  | .hbm, ⟨16, _⟩ => ⟨S18432, .f32⟩
  | .hbm, ⟨17, _⟩ => ⟨S1x18432, .f32⟩
  | .hbm, ⟨18, _⟩ => ⟨S16x18432, .f32⟩
  | .hbm, ⟨19, _⟩ => ⟨S16x18432, .f32⟩
  | .hbm, ⟨20, _⟩ => ⟨S16x2048, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S16x2048, .f32⟩
  | .hbm, ⟨29, _⟩ => ⟨S1x2048x18432, .f32⟩
  | .hbm, ⟨30, _⟩ => ⟨S2048x18432, .f32⟩
  | .hbm, ⟨31, _⟩ => ⟨S16x18432, .f32⟩
  | .hbm, ⟨32, _⟩ => ⟨S1x18432, .f32⟩
  | .hbm, ⟨33, _⟩ => ⟨S18432, .f32⟩
  | .hbm, ⟨34, _⟩ => ⟨S1x18432, .f32⟩
  | .hbm, ⟨35, _⟩ => ⟨S16x18432, .f32⟩
  | .hbm, ⟨36, _⟩ => ⟨S16x18432, .f32⟩
  | .hbm, ⟨37, _⟩ => ⟨S1x16x18432, .f32⟩
  | .hbm, ⟨38, _⟩ => ⟨S1x16x18432, .f32⟩
  | .hbm, ⟨39, _⟩ => ⟨S2x16x18432, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== Kernel9.lean ====
abbrev S32768x2048 : Shape := ⟨2, ![32768, 2048]⟩
abbrev S16x3x2048 : Shape := ⟨3, ![16, 3, 2048]⟩
abbrev S2048 : Shape := ⟨1, ![2048]⟩
abbrev S2048x4096 : Shape := ⟨2, ![2048, 4096]⟩
abbrev S4x2048 : Shape := ⟨2, ![4, 2048]⟩
abbrev S8x256x256 : Shape := ⟨3, ![8, 256, 256]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x2048 : Shape := ⟨2, ![1, 2048]⟩
abbrev S256x2048 : Shape := ⟨2, ![256, 2048]⟩
abbrev S1x3x2048 : Shape := ⟨3, ![1, 3, 2048]⟩
abbrev S512x2048 : Shape := ⟨2, ![512, 2048]⟩
abbrev S256x4096 : Shape := ⟨2, ![256, 4096]⟩
abbrev S8x2048 : Shape := ⟨2, ![8, 2048]⟩
abbrev S1x1x2048 : Shape := ⟨3, ![1, 1, 2048]⟩
abbrev S2048x256 : Shape := ⟨2, ![2048, 256]⟩
abbrev S8x256 : Shape := ⟨2, ![8, 256]⟩
abbrev S248x256 : Shape := ⟨2, ![248, 256]⟩
abbrev S240x256 : Shape := ⟨2, ![240, 256]⟩
abbrev S232x256 : Shape := ⟨2, ![232, 256]⟩
abbrev S1x256x256 : Shape := ⟨3, ![1, 256, 256]⟩

abbrev nBuf : Space → Nat
  | .hbm => 71
  | .vmem => 26
  | .smem => 0
  | _ => 0

abbrev bufTy : (tb : Table) → Fin (tcTables nBuf tb) → BufTy
  | .hbm, ⟨0, _⟩ => ⟨S32768x2048, .f32⟩
  | .hbm, ⟨1, _⟩ => ⟨S16x3x2048, .f32⟩
  | .hbm, ⟨2, _⟩ => ⟨S2048, .f32⟩
  | .hbm, ⟨3, _⟩ => ⟨S2048x4096, .f32⟩
  | .hbm, ⟨4, _⟩ => ⟨S4x2048, .f32⟩
  | .hbm, ⟨5, _⟩ => ⟨S2048, .f32⟩
  | .hbm, ⟨6, _⟩ => ⟨S8x256x256, .f32⟩
  | .hbm, ⟨7, _⟩ => ⟨S2048, .f32⟩
  | .hbm, ⟨8, _⟩ => ⟨S8x256x256, .f32⟩
  | .hbm, ⟨9, _⟩ => ⟨S2048, .f32⟩
  | .hbm, ⟨10, _⟩ => ⟨S2048, .f32⟩
  | .hbm, ⟨11, _⟩ => ⟨S2048x4096, .bf16⟩
  | .hbm, ⟨12, _⟩ => ⟨S256, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S_, .i1⟩
  | .hbm, ⟨29, _⟩ => ⟨S256, .i1⟩
  | .hbm, ⟨30, _⟩ => ⟨S256, .i1⟩
  | .hbm, ⟨31, _⟩ => ⟨S256, .i1⟩
  | .hbm, ⟨32, _⟩ => ⟨S256, .i32⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i32⟩
  | .hbm, ⟨38, _⟩ => ⟨S_, .i32⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S256, .i32⟩
  | .hbm, ⟨43, _⟩ => ⟨S_, .i32⟩
  | .hbm, ⟨44, _⟩ => ⟨S256, .i32⟩
  | .hbm, ⟨45, _⟩ => ⟨S256, .i1⟩
  | .hbm, ⟨46, _⟩ => ⟨S256, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S256, .i1⟩
  | .hbm, ⟨52, _⟩ => ⟨S_, .i32⟩
  | .hbm, ⟨53, _⟩ => ⟨S256, .i32⟩
  | .hbm, ⟨54, _⟩ => ⟨S256, .i32⟩
  | .hbm, ⟨55, _⟩ => ⟨S256, .i32⟩
  | .hbm, ⟨56, _⟩ => ⟨S256, .i32⟩
  | .hbm, ⟨57, _⟩ => ⟨S256x1, .i32⟩
  | .hbm, ⟨58, _⟩ => ⟨S1x256, .i32⟩
  | .hbm, ⟨59, _⟩ => ⟨S256x256, .i32⟩
  | .hbm, ⟨60, _⟩ => ⟨S256x256, .i32⟩
  | .hbm, ⟨61, _⟩ => ⟨S256x256, .i1⟩
  | .hbm, ⟨62, _⟩ => ⟨S256x256, .bf16⟩
  | .hbm, ⟨63, _⟩ => ⟨S1x2048, .f32⟩
  | .hbm, ⟨64, _⟩ => ⟨S1x2048, .f32⟩
  | .hbm, ⟨65, _⟩ => ⟨S8x256x256, .bf16⟩
  | .hbm, ⟨66, _⟩ => ⟨S1x2048, .f32⟩
  | .hbm, ⟨67, _⟩ => ⟨S8x256x256, .bf16⟩
  | .hbm, ⟨68, _⟩ => ⟨S1x2048, .f32⟩
  | .hbm, ⟨69, _⟩ => ⟨S1x2048, .f32⟩
  | .hbm, ⟨70, _⟩ => ⟨S32768x2048, .bf16⟩
  | .local _ .vmem, ⟨0, _⟩ => ⟨S256x2048, .f32⟩
  | .local _ .vmem, ⟨1, _⟩ => ⟨S1x3x2048, .f32⟩
  | .local _ .vmem, ⟨2, _⟩ => ⟨S256x2048, .f32⟩
  | .local _ .vmem, ⟨3, _⟩ => ⟨S256x2048, .f32⟩
  | .local _ .vmem, ⟨4, _⟩ => ⟨S1x3x2048, .f32⟩
  | .local _ .vmem, ⟨5, _⟩ => ⟨S1x3x2048, .f32⟩
  | .local _ .vmem, ⟨6, _⟩ => ⟨S256x2048, .f32⟩
  | .local _ .vmem, ⟨7, _⟩ => ⟨S256x2048, .f32⟩
  | .local _ .vmem, ⟨8, _⟩ => ⟨S1x3x2048, .f32⟩
  | .local _ .vmem, ⟨9, _⟩ => ⟨S1x3x2048, .f32⟩
  | .local _ .vmem, ⟨10, _⟩ => ⟨S1x2048, .f32⟩
  | .local _ .vmem, ⟨11, _⟩ => ⟨S2048x4096, .bf16⟩
  | .local _ .vmem, ⟨12, _⟩ => ⟨S256x256, .bf16⟩
  | .local _ .vmem, ⟨13, _⟩ => ⟨S4x2048, .f32⟩
  | .local _ .vmem, ⟨14, _⟩ => ⟨S1x2048, .f32⟩
  | .local _ .vmem, ⟨15, _⟩ => ⟨S8x256x256, .bf16⟩
  | .local _ .vmem, ⟨16, _⟩ => ⟨S1x2048, .f32⟩
  | .local _ .vmem, ⟨17, _⟩ => ⟨S8x256x256, .bf16⟩
  | .local _ .vmem, ⟨18, _⟩ => ⟨S1x2048, .f32⟩
  | .local _ .vmem, ⟨19, _⟩ => ⟨S1x2048, .f32⟩
  | .local _ .vmem, ⟨20, _⟩ => ⟨S512x2048, .bf16⟩
  | .local _ .vmem, ⟨21, _⟩ => ⟨S512x2048, .bf16⟩
  | .local _ .vmem, ⟨22, _⟩ => ⟨S256x4096, .f32⟩
  | .local _ .vmem, ⟨23, _⟩ => ⟨S256x4096, .f32⟩
  | .local _ .vmem, ⟨24, _⟩ => ⟨S8x2048, .f32⟩
  | .local _ .vmem, ⟨25, _⟩ => ⟨S256x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_c_1 : Ref sig .tc := ⟨.hbm, 21, rfl⟩
abbrev main_call0_v5 : Ref sig .tc := ⟨.hbm, 22, rfl⟩
abbrev main_call0_v6 : Ref sig .tc := ⟨.hbm, 23, rfl⟩
abbrev main_call0_c_2 : Ref sig .tc := ⟨.hbm, 24, rfl⟩
abbrev main_call0_v7 : Ref sig .tc := ⟨.hbm, 25, rfl⟩
abbrev main_call0_v8 : Ref sig .tc := ⟨.hbm, 26, rfl⟩
abbrev main_call0_c_3 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_v2 : Ref sig .tc := ⟨.hbm, 34, rfl⟩
abbrev main_c_0 : Ref sig .tc := ⟨.hbm, 35, rfl⟩
abbrev main_v3 : Ref sig .tc := ⟨.hbm, 36, rfl⟩
abbrev main_v4 : Ref sig .tc := ⟨.hbm, 37, rfl⟩
abbrev main_c_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_c : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_0 : Ref sig .tc := ⟨.hbm, 52, rfl⟩
abbrev main_call1_v12 : Ref sig .tc := ⟨.hbm, 53, rfl⟩
abbrev main_call1_v13 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg16_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem16_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c127_i32 : BitVec 32 := 127#32
  let v2 : BitVec 32 := Scalar.minsi v1 c127_i32
  let c0_i32 : BitVec 32 := 0#32
  let c0_i32_1 : BitVec 32 := 0#32
  ![v2.toNat, c0_i32.toNat]

def cc0_transform_5 (i : grid0.Coords) : Fin 3 → Nat :=
  let arg0 : BitVec 32 := BitVec.ofNat 32 (i 0).val
  let c2_i32 : BitVec 32 := 2#32
  let v0 : BitVec 32 := Scalar.muli c2_i32 arg0
  let c2_i32_0 : BitVec 32 := 2#32
  let v1 : BitVec 32 := Scalar.addi v0 c2_i32_0
  let c127_i32 : BitVec 32 := 127#32
  let v2 : BitVec 32 := Scalar.minsi v1 c127_i32
  let c8_i32 : BitVec 32 := 8#32
  let v3 : BitVec 32 := Scalar.divsi v2 c8_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c0_i32_6 : BitVec 32 := 0#32
  let c0_i32_7 : BitVec 32 := 0#32
  ![v19.toNat, c0_i32_5.toNat, c0_i32_6.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x3x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x2048 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference9Ideal.lean ====
abbrev S32768x2048 : Shape := ⟨2, ![32768, 2048]⟩
abbrev S16x3x2048 : Shape := ⟨3, ![16, 3, 2048]⟩
abbrev S2048 : Shape := ⟨1, ![2048]⟩
abbrev S2048x4096 : Shape := ⟨2, ![2048, 4096]⟩
abbrev S4x2048 : Shape := ⟨2, ![4, 2048]⟩
abbrev S8x256x256 : Shape := ⟨3, ![8, 256, 256]⟩
abbrev S16x2048x2048 : Shape := ⟨3, ![16, 2048, 2048]⟩
abbrev S16x1x2048 : Shape := ⟨3, ![16, 1, 2048]⟩
abbrev S16x2048 : Shape := ⟨2, ![16, 2048]⟩
abbrev S_ : Shape := ⟨0, ![]⟩
abbrev S16x2048x1 : Shape := ⟨3, ![16, 2048, 1]⟩
abbrev S1x1x2048 : Shape := ⟨3, ![1, 1, 2048]⟩
abbrev S16x2048x4096 : Shape := ⟨3, ![16, 2048, 4096]⟩
abbrev S16x2051x2048 : Shape := ⟨3, ![16, 2051, 2048]⟩
abbrev S1x2048 : Shape := ⟨2, ![1, 2048]⟩
abbrev S16x2048x8x256 : Shape := ⟨4, ![16, 2048, 8, 256]⟩
abbrev S8x256x16x2048 : Shape := ⟨4, ![8, 256, 16, 2048]⟩
abbrev S16x1024x2048 : Shape := ⟨3, ![16, 1024, 2048]⟩
abbrev S16x512x2048 : Shape := ⟨3, ![16, 512, 2048]⟩
abbrev S16x256x2048 : Shape := ⟨3, ![16, 256, 2048]⟩
abbrev S16x128x2048 : Shape := ⟨3, ![16, 128, 2048]⟩
abbrev S16x64x2048 : Shape := ⟨3, ![16, 64, 2048]⟩
abbrev S16x32x2048 : Shape := ⟨3, ![16, 32, 2048]⟩
abbrev S16x16x2048 : Shape := ⟨3, ![16, 16, 2048]⟩
abbrev S16x8x2048 : Shape := ⟨3, ![16, 8, 2048]⟩
abbrev S16x4x2048 : Shape := ⟨3, ![16, 4, 2048]⟩
abbrev S16x2x2048 : Shape := ⟨3, ![16, 2, 2048]⟩
abbrev S16x0x2048 : Shape := ⟨3, ![16, 0, 2048]⟩
abbrev S16x7x2048 : Shape := ⟨3, ![16, 7, 2048]⟩
abbrev S16x15x2048 : Shape := ⟨3, ![16, 15, 2048]⟩
abbrev S16x31x2048 : Shape := ⟨3, ![16, 31, 2048]⟩
abbrev S16x63x2048 : Shape := ⟨3, ![16, 63, 2048]⟩
abbrev S16x127x2048 : Shape := ⟨3, ![16, 127, 2048]⟩
abbrev S16x255x2048 : Shape := ⟨3, ![16, 255, 2048]⟩
abbrev S16x511x2048 : Shape := ⟨3, ![16, 511, 2048]⟩
abbrev S16x1023x2048 : Shape := ⟨3, ![16, 1023, 2048]⟩

abbrev nBuf : Space → Nat
  | .hbm => 464
  | .vmem => 0
  | .smem => 0
  | _ => 0

abbrev hbmTy0_0 (i : Nat) : BufTy := match i % 128 with
  | 0 => ⟨S32768x2048, .f32⟩
  | 1 => ⟨S16x3x2048, .f32⟩
  | 2 => ⟨S2048, .f32⟩
  | 3 => ⟨S2048x4096, .f32⟩
  | 4 => ⟨S4x2048, .f32⟩
  | 5 => ⟨S2048, .f32⟩
  | 6 => ⟨S8x256x256, .f32⟩
  | 7 => ⟨S2048, .f32⟩
  | 8 => ⟨S8x256x256, .f32⟩
  | 9 => ⟨S2048, .f32⟩
  | 10 => ⟨S2048, .f32⟩
  | 11 => ⟨S16x2048x2048, .f32⟩
  | 12 => ⟨S16x1x2048, .f32⟩
  | 13 => ⟨S16x2048, .f32⟩
  | 14 => ⟨S16x1x2048, .f32⟩
  | 15 => ⟨S16x1x2048, .f32⟩
  | 16 => ⟨S16x2048, .f32⟩
  | 17 => ⟨S16x1x2048, .f32⟩
  | 18 => ⟨S16x2048x2048, .f32⟩
  | 19 => ⟨S_, .f32⟩
  | 20 => ⟨S16x2048, .f32⟩
  | 21 => ⟨S16x2048x1, .f32⟩
  | 22 => ⟨S_, .f32⟩
  | 23 => ⟨S16x2048x1, .f32⟩
  | 24 => ⟨S16x2048x1, .f32⟩
  | 25 => ⟨S_, .f32⟩
  | 26 => ⟨S16x2048x1, .f32⟩
  | 27 => ⟨S16x2048x1, .f32⟩
  | 28 => ⟨S16x2048x1, .f32⟩
  | 29 => ⟨S16x2048x2048, .f32⟩
  | 30 => ⟨S16x2048x2048, .f32⟩
  | 31 => ⟨S1x1x2048, .f32⟩
  | 32 => ⟨S16x2048x2048, .f32⟩
  | 33 => ⟨S16x2048x2048, .f32⟩
  | 34 => ⟨S_, .f32⟩
  | 35 => ⟨S16x1x2048, .f32⟩
  | 36 => ⟨S16x1x2048, .f32⟩
  | 37 => ⟨S16x2048x2048, .f32⟩
  | 38 => ⟨S16x2048x2048, .f32⟩
  | 39 => ⟨S16x2048x2048, .f32⟩
  | 40 => ⟨S16x2048x2048, .f32⟩
  | 41 => ⟨S16x2048x4096, .f32⟩
  | 42 => ⟨S16x2048x2048, .f32⟩
  | 43 => ⟨S16x2048x2048, .f32⟩
  | 44 => ⟨S16x2048x2048, .f32⟩
  | 45 => ⟨S16x2048x2048, .f32⟩
  | 46 => ⟨S_, .f32⟩
  | 47 => ⟨S16x2048x2048, .f32⟩
  | 48 => ⟨S16x2048x2048, .f32⟩
  | 49 => ⟨S16x2048x2048, .f32⟩
  | 50 => ⟨S_, .f32⟩
  | 51 => ⟨S16x2048x2048, .f32⟩
  | 52 => ⟨S16x2048x2048, .f32⟩
  | 53 => ⟨S16x2048x2048, .f32⟩
  | 54 => ⟨S_, .f32⟩
  | 55 => ⟨S16x2048x2048, .f32⟩
  | 56 => ⟨S16x2048x2048, .f32⟩
  | 57 => ⟨S_, .f32⟩
  | 58 => ⟨S16x2048x2048, .f32⟩
  | 59 => ⟨S16x2048x2048, .f32⟩
  | 60 => ⟨S16x2048x2048, .f32⟩
  | 61 => ⟨S_, .i32⟩
  | 62 => ⟨S_, .f32⟩
  | 63 => ⟨S16x2051x2048, .f32⟩
  | 64 => ⟨S16x2048x2048, .f32⟩
  | 65 => ⟨S1x2048, .f32⟩
  | 66 => ⟨S2048, .f32⟩
  | 67 => ⟨S1x1x2048, .f32⟩
  | 68 => ⟨S16x2048x2048, .f32⟩
  | 69 => ⟨S16x2048x2048, .f32⟩
  | 70 => ⟨S16x2048x2048, .f32⟩
  | 71 => ⟨S1x2048, .f32⟩
  | 72 => ⟨S2048, .f32⟩
  | 73 => ⟨S1x1x2048, .f32⟩
  | 74 => ⟨S16x2048x2048, .f32⟩
  | 75 => ⟨S16x2048x2048, .f32⟩
  | 76 => ⟨S16x2048x2048, .f32⟩
  | 77 => ⟨S16x2048x2048, .f32⟩
  | 78 => ⟨S1x2048, .f32⟩
  | 79 => ⟨S2048, .f32⟩
  | 80 => ⟨S1x1x2048, .f32⟩
  | 81 => ⟨S16x2048x2048, .f32⟩
  | 82 => ⟨S16x2048x2048, .f32⟩
  | 83 => ⟨S16x2048x2048, .f32⟩
  | 84 => ⟨S16x2048x2048, .f32⟩
  | 85 => ⟨S1x2048, .f32⟩
  | 86 => ⟨S2048, .f32⟩
  | 87 => ⟨S1x1x2048, .f32⟩
  | 88 => ⟨S16x2048x2048, .f32⟩
  | 89 => ⟨S16x2048x2048, .f32⟩
  | 90 => ⟨S16x2048x2048, .f32⟩
  | 91 => ⟨S1x1x2048, .f32⟩
  | 92 => ⟨S16x2048x2048, .f32⟩
  | 93 => ⟨S16x2048x2048, .f32⟩
  | 94 => ⟨S16x2048x8x256, .f32⟩
  | 95 => ⟨S8x256x16x2048, .f32⟩
  | 96 => ⟨S16x2048x8x256, .f32⟩
  | 97 => ⟨S16x2048x2048, .f32⟩
  | 98 => ⟨S1x1x2048, .f32⟩
  | 99 => ⟨S16x2048x2048, .f32⟩
  | 100 => ⟨S16x2048x2048, .f32⟩
  | 101 => ⟨S16x2048x2048, .f32⟩
  | 102 => ⟨S16x2048x2048, .f32⟩
  | 103 => ⟨S_, .f32⟩
  | 104 => ⟨S16x2048x2048, .f32⟩
  | 105 => ⟨S16x2048x2048, .f32⟩
  | 106 => ⟨S_, .f32⟩
  | 107 => ⟨S16x2048x2048, .f32⟩
  | 108 => ⟨S16x2048x2048, .f32⟩
  | 109 => ⟨S8x256x16x2048, .f32⟩
  | 110 => ⟨S16x2048x8x256, .f32⟩
  | 111 => ⟨S16x2048x2048, .f32⟩
  | 112 => ⟨S1x1x2048, .f32⟩
  | 113 => ⟨S16x2048x2048, .f32⟩
  | 114 => ⟨S16x2048x2048, .f32⟩
  | 115 => ⟨S16x2048x2048, .f32⟩
  | 116 => ⟨S16x2048x2048, .f32⟩
  | 117 => ⟨S_, .f32⟩
  | 118 => ⟨S16x2048x2048, .f32⟩
  | 119 => ⟨S16x2048x2048, .f32⟩
  | 120 => ⟨S_, .f32⟩
  | 121 => ⟨S16x2048x2048, .f32⟩
  | 122 => ⟨S16x2048x2048, .f32⟩
  | 123 => ⟨S_, .f32⟩
  | 124 => ⟨S16x2048x2048, .f32⟩
  | 125 => ⟨S16x2048x2048, .f32⟩
  | 126 => ⟨S2048, .f32⟩
  | 127 => ⟨S_, .f32⟩
  | _ => ⟨S32768x2048, .f32⟩

abbrev hbmTy0_1 (i : Nat) : BufTy := match i % 128 with
  | 0 => ⟨S2048, .f32⟩
  | 1 => ⟨S2048, .f32⟩
  | 2 => ⟨S2048, .f32⟩
  | 3 => ⟨S2048, .f32⟩
  | 4 => ⟨S2048, .i1⟩
  | 5 => ⟨S2048, .f32⟩
  | 6 => ⟨S2048, .f32⟩
  | 7 => ⟨S2048, .f32⟩
  | 8 => ⟨S2048, .f32⟩
  | 9 => ⟨S2048, .f32⟩
  | 10 => ⟨S2048, .f32⟩
  | 11 => ⟨S2048, .f32⟩
  | 12 => ⟨S2048, .f32⟩
  | 13 => ⟨S1x1x2048, .f32⟩
  | 14 => ⟨S16x2048x2048, .f32⟩
  | 15 => ⟨S16x2048x2048, .f32⟩
  | 16 => ⟨S16x2048x2048, .f32⟩
  | 17 => ⟨S_, .f32⟩
  | 18 => ⟨S16x2048x2048, .f32⟩
  | 19 => ⟨S16x2048x2048, .f32⟩
  | 20 => ⟨S16x2048x2048, .f32⟩
  | 21 => ⟨S16x2048x2048, .f32⟩
  | 22 => ⟨S16x2048x2048, .f32⟩
  | 23 => ⟨S16x2048x2048, .f32⟩
  | 24 => ⟨S16x2048x2048, .f32⟩
  | 25 => ⟨S16x1024x2048, .f32⟩
  | 26 => ⟨S16x1024x2048, .f32⟩
  | 27 => ⟨S16x1024x2048, .f32⟩
  | 28 => ⟨S16x1024x2048, .f32⟩
  | 29 => ⟨S16x1024x2048, .f32⟩
  | 30 => ⟨S16x1024x2048, .f32⟩
  | 31 => ⟨S16x1024x2048, .f32⟩
  | 32 => ⟨S16x512x2048, .f32⟩
  | 33 => ⟨S16x512x2048, .f32⟩
  | 34 => ⟨S16x512x2048, .f32⟩
  | 35 => ⟨S16x512x2048, .f32⟩
  | 36 => ⟨S16x512x2048, .f32⟩
  | 37 => ⟨S16x512x2048, .f32⟩
  | 38 => ⟨S16x512x2048, .f32⟩
  | 39 => ⟨S16x256x2048, .f32⟩
  | 40 => ⟨S16x256x2048, .f32⟩
  | 41 => ⟨S16x256x2048, .f32⟩
  | 42 => ⟨S16x256x2048, .f32⟩
  | 43 => ⟨S16x256x2048, .f32⟩
  | 44 => ⟨S16x256x2048, .f32⟩
  | 45 => ⟨S16x256x2048, .f32⟩
  | 46 => ⟨S16x128x2048, .f32⟩
  | 47 => ⟨S16x128x2048, .f32⟩
  | 48 => ⟨S16x128x2048, .f32⟩
  | 49 => ⟨S16x128x2048, .f32⟩
  | 50 => ⟨S16x128x2048, .f32⟩
  | 51 => ⟨S16x128x2048, .f32⟩
  | 52 => ⟨S16x128x2048, .f32⟩
  | 53 => ⟨S16x64x2048, .f32⟩
  | 54 => ⟨S16x64x2048, .f32⟩
  | 55 => ⟨S16x64x2048, .f32⟩
  | 56 => ⟨S16x64x2048, .f32⟩
  | 57 => ⟨S16x64x2048, .f32⟩
  | 58 => ⟨S16x64x2048, .f32⟩
  | 59 => ⟨S16x64x2048, .f32⟩
  | 60 => ⟨S16x32x2048, .f32⟩
  | 61 => ⟨S16x32x2048, .f32⟩
  | 62 => ⟨S16x32x2048, .f32⟩
  | 63 => ⟨S16x32x2048, .f32⟩
  | 64 => ⟨S16x32x2048, .f32⟩
  | 65 => ⟨S16x32x2048, .f32⟩
  | 66 => ⟨S16x32x2048, .f32⟩
  | 67 => ⟨S16x16x2048, .f32⟩
  | 68 => ⟨S16x16x2048, .f32⟩
  | 69 => ⟨S16x16x2048, .f32⟩
  | 70 => ⟨S16x16x2048, .f32⟩
  | 71 => ⟨S16x16x2048, .f32⟩
  | 72 => ⟨S16x16x2048, .f32⟩
  | 73 => ⟨S16x16x2048, .f32⟩
  | 74 => ⟨S16x8x2048, .f32⟩
  | 75 => ⟨S16x8x2048, .f32⟩
  | 76 => ⟨S16x8x2048, .f32⟩
  | 77 => ⟨S16x8x2048, .f32⟩
  | 78 => ⟨S16x8x2048, .f32⟩
  | 79 => ⟨S16x8x2048, .f32⟩
  | 80 => ⟨S16x8x2048, .f32⟩
  | 81 => ⟨S16x4x2048, .f32⟩
  | 82 => ⟨S16x4x2048, .f32⟩
  | 83 => ⟨S16x4x2048, .f32⟩
  | 84 => ⟨S16x4x2048, .f32⟩
  | 85 => ⟨S16x4x2048, .f32⟩
  | 86 => ⟨S16x4x2048, .f32⟩
  | 87 => ⟨S16x4x2048, .f32⟩
  | 88 => ⟨S16x2x2048, .f32⟩
  | 89 => ⟨S16x2x2048, .f32⟩
  | 90 => ⟨S16x2x2048, .f32⟩
  | 91 => ⟨S16x2x2048, .f32⟩
  | 92 => ⟨S16x2x2048, .f32⟩
  | 93 => ⟨S16x2x2048, .f32⟩
  | 94 => ⟨S16x2x2048, .f32⟩
  | 95 => ⟨S16x1x2048, .f32⟩
  | 96 => ⟨S16x1x2048, .f32⟩
  | 97 => ⟨S16x1x2048, .f32⟩
  | 98 => ⟨S16x1x2048, .f32⟩
  | 99 => ⟨S16x1x2048, .f32⟩
  | 100 => ⟨S16x1x2048, .f32⟩
  | 101 => ⟨S16x1x2048, .f32⟩
  | 102 => ⟨S16x0x2048, .f32⟩
  | 103 => ⟨S16x0x2048, .f32⟩
  | 104 => ⟨S16x0x2048, .f32⟩
  | 105 => ⟨S16x0x2048, .f32⟩
  | 106 => ⟨S16x0x2048, .f32⟩
  | 107 => ⟨S16x0x2048, .f32⟩
  | 108 => ⟨S16x0x2048, .f32⟩
  | 109 => ⟨S16x1x2048, .f32⟩
  | 110 => ⟨S16x1x2048, .f32⟩
  | 111 => ⟨S16x1x2048, .f32⟩
  | 112 => ⟨S16x1x2048, .f32⟩
  | 113 => ⟨S_, .f32⟩
  | 114 => ⟨S16x2x2048, .f32⟩
  | 115 => ⟨S_, .f32⟩
  | 116 => ⟨S16x2x2048, .f32⟩
  | 117 => ⟨S16x2x2048, .f32⟩
  | 118 => ⟨S_, .f32⟩
  | 119 => ⟨S16x2x2048, .f32⟩
  | 120 => ⟨S_, .f32⟩
  | 121 => ⟨S16x2x2048, .f32⟩
  | 122 => ⟨S16x2x2048, .f32⟩
  | 123 => ⟨S16x1x2048, .f32⟩
  | 124 => ⟨S16x1x2048, .f32⟩
  | 125 => ⟨S16x1x2048, .f32⟩
  | 126 => ⟨S16x1x2048, .f32⟩
  | 127 => ⟨S16x1x2048, .f32⟩
  | _ => ⟨S32768x2048, .f32⟩

abbrev hbmTy0_2 (i : Nat) : BufTy := match i % 128 with
  | 0 => ⟨S16x1x2048, .f32⟩
  | 1 => ⟨S16x1x2048, .f32⟩
  | 2 => ⟨S16x1x2048, .f32⟩
  | 3 => ⟨S16x2x2048, .f32⟩
  | 4 => ⟨S16x1x2048, .f32⟩
  | 5 => ⟨S16x2x2048, .f32⟩
  | 6 => ⟨S_, .f32⟩
  | 7 => ⟨S16x4x2048, .f32⟩
  | 8 => ⟨S_, .f32⟩
  | 9 => ⟨S16x4x2048, .f32⟩
  | 10 => ⟨S16x4x2048, .f32⟩
  | 11 => ⟨S_, .f32⟩
  | 12 => ⟨S16x4x2048, .f32⟩
  | 13 => ⟨S_, .f32⟩
  | 14 => ⟨S16x4x2048, .f32⟩
  | 15 => ⟨S16x4x2048, .f32⟩
  | 16 => ⟨S16x3x2048, .f32⟩
  | 17 => ⟨S16x3x2048, .f32⟩
  | 18 => ⟨S16x3x2048, .f32⟩
  | 19 => ⟨S16x3x2048, .f32⟩
  | 20 => ⟨S16x3x2048, .f32⟩
  | 21 => ⟨S16x3x2048, .f32⟩
  | 22 => ⟨S16x3x2048, .f32⟩
  | 23 => ⟨S16x1x2048, .f32⟩
  | 24 => ⟨S16x4x2048, .f32⟩
  | 25 => ⟨S16x1x2048, .f32⟩
  | 26 => ⟨S16x4x2048, .f32⟩
  | 27 => ⟨S_, .f32⟩
  | 28 => ⟨S16x8x2048, .f32⟩
  | 29 => ⟨S_, .f32⟩
  | 30 => ⟨S16x8x2048, .f32⟩
  | 31 => ⟨S16x8x2048, .f32⟩
  | 32 => ⟨S_, .f32⟩
  | 33 => ⟨S16x8x2048, .f32⟩
  | 34 => ⟨S_, .f32⟩
  | 35 => ⟨S16x8x2048, .f32⟩
  | 36 => ⟨S16x8x2048, .f32⟩
  | 37 => ⟨S16x7x2048, .f32⟩
  | 38 => ⟨S16x7x2048, .f32⟩
  | 39 => ⟨S16x7x2048, .f32⟩
  | 40 => ⟨S16x7x2048, .f32⟩
  | 41 => ⟨S16x7x2048, .f32⟩
  | 42 => ⟨S16x7x2048, .f32⟩
  | 43 => ⟨S16x7x2048, .f32⟩
  | 44 => ⟨S16x1x2048, .f32⟩
  | 45 => ⟨S16x8x2048, .f32⟩
  | 46 => ⟨S16x1x2048, .f32⟩
  | 47 => ⟨S16x8x2048, .f32⟩
  | 48 => ⟨S_, .f32⟩
  | 49 => ⟨S16x16x2048, .f32⟩
  | 50 => ⟨S_, .f32⟩
  | 51 => ⟨S16x16x2048, .f32⟩
  | 52 => ⟨S16x16x2048, .f32⟩
  | 53 => ⟨S_, .f32⟩
  | 54 => ⟨S16x16x2048, .f32⟩
  | 55 => ⟨S_, .f32⟩
  | 56 => ⟨S16x16x2048, .f32⟩
  | 57 => ⟨S16x16x2048, .f32⟩
  | 58 => ⟨S16x15x2048, .f32⟩
  | 59 => ⟨S16x15x2048, .f32⟩
  | 60 => ⟨S16x15x2048, .f32⟩
  | 61 => ⟨S16x15x2048, .f32⟩
  | 62 => ⟨S16x15x2048, .f32⟩
  | 63 => ⟨S16x15x2048, .f32⟩
  | 64 => ⟨S16x15x2048, .f32⟩
  | 65 => ⟨S16x1x2048, .f32⟩
  | 66 => ⟨S16x16x2048, .f32⟩
  | 67 => ⟨S16x1x2048, .f32⟩
  | 68 => ⟨S16x16x2048, .f32⟩
  | 69 => ⟨S_, .f32⟩
  | 70 => ⟨S16x32x2048, .f32⟩
  | 71 => ⟨S_, .f32⟩
  | 72 => ⟨S16x32x2048, .f32⟩
  | 73 => ⟨S16x32x2048, .f32⟩
  | 74 => ⟨S_, .f32⟩
  | 75 => ⟨S16x32x2048, .f32⟩
  | 76 => ⟨S_, .f32⟩
  | 77 => ⟨S16x32x2048, .f32⟩
  | 78 => ⟨S16x32x2048, .f32⟩
  | 79 => ⟨S16x31x2048, .f32⟩
  | 80 => ⟨S16x31x2048, .f32⟩
  | 81 => ⟨S16x31x2048, .f32⟩
  | 82 => ⟨S16x31x2048, .f32⟩
  | 83 => ⟨S16x31x2048, .f32⟩
  | 84 => ⟨S16x31x2048, .f32⟩
  | 85 => ⟨S16x31x2048, .f32⟩
  | 86 => ⟨S16x1x2048, .f32⟩
  | 87 => ⟨S16x32x2048, .f32⟩
  | 88 => ⟨S16x1x2048, .f32⟩
  | 89 => ⟨S16x32x2048, .f32⟩
  | 90 => ⟨S_, .f32⟩
  | 91 => ⟨S16x64x2048, .f32⟩
  | 92 => ⟨S_, .f32⟩
  | 93 => ⟨S16x64x2048, .f32⟩
  | 94 => ⟨S16x64x2048, .f32⟩
  | 95 => ⟨S_, .f32⟩
  | 96 => ⟨S16x64x2048, .f32⟩
  | 97 => ⟨S_, .f32⟩
  | 98 => ⟨S16x64x2048, .f32⟩
  | 99 => ⟨S16x64x2048, .f32⟩
  | 100 => ⟨S16x63x2048, .f32⟩
  | 101 => ⟨S16x63x2048, .f32⟩
  | 102 => ⟨S16x63x2048, .f32⟩
  | 103 => ⟨S16x63x2048, .f32⟩
  | 104 => ⟨S16x63x2048, .f32⟩
  | 105 => ⟨S16x63x2048, .f32⟩
  | 106 => ⟨S16x63x2048, .f32⟩
  | 107 => ⟨S16x1x2048, .f32⟩
  | 108 => ⟨S16x64x2048, .f32⟩
  | 109 => ⟨S16x1x2048, .f32⟩
  | 110 => ⟨S16x64x2048, .f32⟩
  | 111 => ⟨S_, .f32⟩
  | 112 => ⟨S16x128x2048, .f32⟩
  | 113 => ⟨S_, .f32⟩
  | 114 => ⟨S16x128x2048, .f32⟩
  | 115 => ⟨S16x128x2048, .f32⟩
  | 116 => ⟨S_, .f32⟩
  | 117 => ⟨S16x128x2048, .f32⟩
  | 118 => ⟨S_, .f32⟩
  | 119 => ⟨S16x128x2048, .f32⟩
  | 120 => ⟨S16x128x2048, .f32⟩
  | 121 => ⟨S16x127x2048, .f32⟩
  | 122 => ⟨S16x127x2048, .f32⟩
  | 123 => ⟨S16x127x2048, .f32⟩
  | 124 => ⟨S16x127x2048, .f32⟩
  | 125 => ⟨S16x127x2048, .f32⟩
  | 126 => ⟨S16x127x2048, .f32⟩
  | 127 => ⟨S16x127x2048, .f32⟩
  | _ => ⟨S32768x2048, .f32⟩

abbrev hbmTy0_3 (i : Nat) : BufTy := match i % 128 with
  | 0 => ⟨S16x1x2048, .f32⟩
  | 1 => ⟨S16x128x2048, .f32⟩
  | 2 => ⟨S16x1x2048, .f32⟩
  | 3 => ⟨S16x128x2048, .f32⟩
  | 4 => ⟨S_, .f32⟩
  | 5 => ⟨S16x256x2048, .f32⟩
  | 6 => ⟨S_, .f32⟩
  | 7 => ⟨S16x256x2048, .f32⟩
  | 8 => ⟨S16x256x2048, .f32⟩
  | 9 => ⟨S_, .f32⟩
  | 10 => ⟨S16x256x2048, .f32⟩
  | 11 => ⟨S_, .f32⟩
  | 12 => ⟨S16x256x2048, .f32⟩
  | 13 => ⟨S16x256x2048, .f32⟩
  | 14 => ⟨S16x255x2048, .f32⟩
  | 15 => ⟨S16x255x2048, .f32⟩
  | 16 => ⟨S16x255x2048, .f32⟩
  | 17 => ⟨S16x255x2048, .f32⟩
  | 18 => ⟨S16x255x2048, .f32⟩
  | 19 => ⟨S16x255x2048, .f32⟩
  | 20 => ⟨S16x255x2048, .f32⟩
  | 21 => ⟨S16x1x2048, .f32⟩
  | 22 => ⟨S16x256x2048, .f32⟩
  | 23 => ⟨S16x1x2048, .f32⟩
  | 24 => ⟨S16x256x2048, .f32⟩
  | 25 => ⟨S_, .f32⟩
  | 26 => ⟨S16x512x2048, .f32⟩
  | 27 => ⟨S_, .f32⟩
  | 28 => ⟨S16x512x2048, .f32⟩
  | 29 => ⟨S16x512x2048, .f32⟩
  | 30 => ⟨S_, .f32⟩
  | 31 => ⟨S16x512x2048, .f32⟩
  | 32 => ⟨S_, .f32⟩
  | 33 => ⟨S16x512x2048, .f32⟩
  | 34 => ⟨S16x512x2048, .f32⟩
  | 35 => ⟨S16x511x2048, .f32⟩
  | 36 => ⟨S16x511x2048, .f32⟩
  | 37 => ⟨S16x511x2048, .f32⟩
  | 38 => ⟨S16x511x2048, .f32⟩
  | 39 => ⟨S16x511x2048, .f32⟩
  | 40 => ⟨S16x511x2048, .f32⟩
  | 41 => ⟨S16x511x2048, .f32⟩
  | 42 => ⟨S16x1x2048, .f32⟩
  | 43 => ⟨S16x512x2048, .f32⟩
  | 44 => ⟨S16x1x2048, .f32⟩
  | 45 => ⟨S16x512x2048, .f32⟩
  | 46 => ⟨S_, .f32⟩
  | 47 => ⟨S16x1024x2048, .f32⟩
  | 48 => ⟨S_, .f32⟩
  | 49 => ⟨S16x1024x2048, .f32⟩
  | 50 => ⟨S16x1024x2048, .f32⟩
  | 51 => ⟨S_, .f32⟩
  | 52 => ⟨S16x1024x2048, .f32⟩
  | 53 => ⟨S_, .f32⟩
  | 54 => ⟨S16x1024x2048, .f32⟩
  | 55 => ⟨S16x1024x2048, .f32⟩
  | 56 => ⟨S16x1023x2048, .f32⟩
  | 57 => ⟨S16x1023x2048, .f32⟩
  | 58 => ⟨S16x1023x2048, .f32⟩
  | 59 => ⟨S16x1023x2048, .f32⟩
  | 60 => ⟨S16x1023x2048, .f32⟩
  | 61 => ⟨S16x1023x2048, .f32⟩
  | 62 => ⟨S16x1023x2048, .f32⟩
  | 63 => ⟨S16x1x2048, .f32⟩
  | 64 => ⟨S16x1024x2048, .f32⟩
  | 65 => ⟨S16x1x2048, .f32⟩
  | 66 => ⟨S16x1024x2048, .f32⟩
  | 67 => ⟨S_, .f32⟩
  | 68 => ⟨S16x2048x2048, .f32⟩
  | 69 => ⟨S_, .f32⟩
  | 70 => ⟨S16x2048x2048, .f32⟩
  | 71 => ⟨S16x2048x2048, .f32⟩
  | 72 => ⟨S_, .f32⟩
  | 73 => ⟨S16x2048x2048, .f32⟩
  | 74 => ⟨S_, .f32⟩
  | 75 => ⟨S16x2048x2048, .f32⟩
  | 76 => ⟨S16x2048x2048, .f32⟩
  | 77 => ⟨S16x2048x2048, .f32⟩
  | 78 => ⟨S16x2048x2048, .bf16⟩
  | 79 => ⟨S32768x2048, .bf16⟩
  | _ => ⟨S32768x2048, .f32⟩

abbrev hbmTy (i : Nat) : BufTy := match i / 128 with
  | 0 => hbmTy0_0 i
  | 1 => hbmTy0_1 i
  | 2 => hbmTy0_2 i
  | 3 => hbmTy0_3 i
  | _ => ⟨S32768x2048, .f32⟩

abbrev bufTy : (tb : Table) → Fin (tcTables nBuf tb) → BufTy
  | .hbm, ⟨i, _⟩ => hbmTy i
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c : Ref sig .tc := ⟨.hbm, 61, rfl⟩
abbrev main_call0_v0 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_7 : Ref sig .tc := ⟨.hbm, 103, rfl⟩
abbrev main_v82 : Ref sig .tc := ⟨.hbm, 104, rfl⟩
abbrev main_v83 : Ref sig .tc := ⟨.hbm, 105, rfl⟩
abbrev main_cst_8 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_9 : Ref sig .tc := ⟨.hbm, 117, rfl⟩
abbrev main_v94 : Ref sig .tc := ⟨.hbm, 118, rfl⟩
abbrev main_v95 : Ref sig .tc := ⟨.hbm, 119, rfl⟩
abbrev main_cst_10 : Ref sig .tc := ⟨.hbm, 120, rfl⟩
abbrev main_v96 : Ref sig .tc := ⟨.hbm, 121, rfl⟩
abbrev main_v97 : Ref sig .tc := ⟨.hbm, 122, rfl⟩
abbrev main_cst_11 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_call1_cst : Ref sig .tc := ⟨.hbm, 127, rfl⟩
abbrev main_call1_v0 : Ref sig .tc := ⟨.hbm, 128, rfl⟩
abbrev main_call1_v1 : Ref sig .tc := ⟨.hbm, 129, rfl⟩
abbrev main_call1_v2 : Ref sig .tc := ⟨.hbm, 130, rfl⟩
abbrev main_call1_v3 : Ref sig .tc := ⟨.hbm, 131, rfl⟩
abbrev main_call1_v4 : Ref sig .tc := ⟨.hbm, 132, rfl⟩
abbrev main_call1_v5 : Ref sig .tc := ⟨.hbm, 133, rfl⟩
abbrev main_call1_v6 : Ref sig .tc := ⟨.hbm, 134, rfl⟩
abbrev main_call1_v7 : Ref sig .tc := ⟨.hbm, 135, rfl⟩
abbrev main_call1_v8 : Ref sig .tc := ⟨.hbm, 136, rfl⟩
abbrev main_call1_v9 : Ref sig .tc := ⟨.hbm, 137, rfl⟩
abbrev main_call1_v10 : Ref sig .tc := ⟨.hbm, 138, rfl⟩
abbrev main_call1_v11 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_12 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩
abbrev main_v198 : Ref sig .tc := ⟨.hbm, 238, rfl⟩
abbrev main_v199 : Ref sig .tc := ⟨.hbm, 239, rfl⟩
abbrev main_v200 : Ref sig .tc := ⟨.hbm, 240, rfl⟩
abbrev main_cst_13 : Ref sig .tc := ⟨.hbm, 241, rfl⟩
abbrev main_v201 : Ref sig .tc := ⟨.hbm, 242, rfl⟩
abbrev main_cst_14 : Ref sig .tc := ⟨.hbm, 243, rfl⟩
abbrev main_v202 : Ref sig .tc := ⟨.hbm, 244, rfl⟩
abbrev main_v203 : Ref sig .tc := ⟨.hbm, 245, rfl⟩
abbrev main_cst_15 : Ref sig .tc := ⟨.hbm, 246, rfl⟩
abbrev main_v204 : Ref sig .tc := ⟨.hbm, 247, rfl⟩
abbrev main_cst_16 : Ref sig .tc := ⟨.hbm, 248, rfl⟩
abbrev main_v205 : Ref sig .tc := ⟨.hbm, 249, rfl⟩
abbrev main_v206 : Ref sig .tc := ⟨.hbm, 250, rfl⟩
abbrev main_v207 : Ref sig .tc := ⟨.hbm, 251, rfl⟩
abbrev main_v208 : Ref sig .tc := ⟨.hbm, 252, rfl⟩
abbrev main_v209 : Ref sig .tc := ⟨.hbm, 253, rfl⟩
abbrev main_v210 : Ref sig .tc := ⟨.hbm, 254, rfl⟩
abbrev main_v211 : Ref sig .tc := ⟨.hbm, 255, rfl⟩
abbrev main_v212 : Ref sig .tc := ⟨.hbm, 256, rfl⟩
abbrev main_v213 : Ref sig .tc := ⟨.hbm, 257, rfl⟩
abbrev main_v214 : Ref sig .tc := ⟨.hbm, 258, rfl⟩
abbrev main_v215 : Ref sig .tc := ⟨.hbm, 259, rfl⟩
abbrev main_v216 : Ref sig .tc := ⟨.hbm, 260, rfl⟩
abbrev main_v217 : Ref sig .tc := ⟨.hbm, 261, rfl⟩
abbrev main_cst_17 : Ref sig .tc := ⟨.hbm, 262, rfl⟩
abbrev main_v218 : Ref sig .tc := ⟨.hbm, 263, rfl⟩
abbrev main_cst_18 : Ref sig .tc := ⟨.hbm, 264, rfl⟩
abbrev main_v219 : Ref sig .tc := ⟨.hbm, 265, rfl⟩
abbrev main_v220 : Ref sig .tc := ⟨.hbm, 266, rfl⟩
abbrev main_cst_19 : Ref sig .tc := ⟨.hbm, 267, rfl⟩
abbrev main_v221 : Ref sig .tc := ⟨.hbm, 268, rfl⟩
abbrev main_cst_20 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_v233 : Ref sig .tc := ⟨.hbm, 281, rfl⟩
abbrev main_v234 : Ref sig .tc := ⟨.hbm, 282, rfl⟩
abbrev main_cst_21 : Ref sig .tc := ⟨.hbm, 283, rfl⟩
abbrev main_v235 : Ref sig .tc := ⟨.hbm, 284, rfl⟩
abbrev main_cst_22 : Ref sig .tc := ⟨.hbm, 285, rfl⟩
abbrev main_v236 : Ref sig .tc := ⟨.hbm, 286, rfl⟩
abbrev main_v237 : Ref sig .tc := ⟨.hbm, 287, rfl⟩
abbrev main_cst_23 : Ref sig .tc := ⟨.hbm, 288, rfl⟩
abbrev main_v238 : Ref sig .tc := ⟨.hbm, 289, rfl⟩
abbrev main_cst_24 : Ref sig .tc := ⟨.hbm, 290, rfl⟩
abbrev main_v239 : Ref sig .tc := ⟨.hbm, 291, rfl⟩
abbrev main_v240 : Ref sig .tc := ⟨.hbm, 292, rfl⟩
abbrev main_v241 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_cst_25 : Ref sig .tc := ⟨.hbm, 304, rfl⟩
abbrev main_v252 : Ref sig .tc := ⟨.hbm, 305, rfl⟩
abbrev main_cst_26 : Ref sig .tc := ⟨.hbm, 306, rfl⟩
abbrev main_v253 : Ref sig .tc := ⟨.hbm, 307, rfl⟩
abbrev main_v254 : Ref sig .tc := ⟨.hbm, 308, rfl⟩
abbrev main_cst_27 : Ref sig .tc := ⟨.hbm, 309, rfl⟩
abbrev main_v255 : Ref sig .tc := ⟨.hbm, 310, rfl⟩
abbrev main_cst_28 : Ref sig .tc := ⟨.hbm, 311, rfl⟩
abbrev main_v256 : Ref sig .tc := ⟨.hbm, 312, rfl⟩
abbrev main_v257 : Ref sig .tc := ⟨.hbm, 313, rfl⟩
abbrev main_v258 : Ref sig .tc := ⟨.hbm, 314, rfl⟩
abbrev main_v259 : Ref sig .tc := ⟨.hbm, 315, rfl⟩
abbrev main_v260 : Ref sig .tc := ⟨.hbm, 316, rfl⟩
abbrev main_v261 : Ref sig .tc := ⟨.hbm, 317, rfl⟩
abbrev main_v262 : Ref sig .tc := ⟨.hbm, 318, rfl⟩
abbrev main_v263 : Ref sig .tc := ⟨.hbm, 319, rfl⟩
abbrev main_v264 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_cst_29 : Ref sig .tc := ⟨.hbm, 325, rfl⟩
abbrev main_v269 : Ref sig .tc := ⟨.hbm, 326, rfl⟩
abbrev main_cst_30 : Ref sig .tc := ⟨.hbm, 327, rfl⟩
abbrev main_v270 : Ref sig .tc := ⟨.hbm, 328, rfl⟩
abbrev main_v271 : Ref sig .tc := ⟨.hbm, 329, rfl⟩
abbrev main_cst_31 : Ref sig .tc := ⟨.hbm, 330, rfl⟩
abbrev main_v272 : Ref sig .tc := ⟨.hbm, 331, rfl⟩
abbrev main_cst_32 : Ref sig .tc := ⟨.hbm, 332, rfl⟩
abbrev main_v273 : Ref sig .tc := ⟨.hbm, 333, rfl⟩
abbrev main_v274 : Ref sig .tc := ⟨.hbm, 334, rfl⟩
abbrev main_v275 : Ref sig .tc := ⟨.hbm, 335, rfl⟩
abbrev main_v276 : Ref sig .tc := ⟨.hbm, 336, rfl⟩
abbrev main_v277 : Ref sig .tc := ⟨.hbm, 337, rfl⟩
abbrev main_v278 : Ref sig .tc := ⟨.hbm, 338, rfl⟩
abbrev main_v279 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_v285 : Ref sig .tc := ⟨.hbm, 345, rfl⟩
abbrev main_cst_33 : Ref sig .tc := ⟨.hbm, 346, rfl⟩
abbrev main_v286 : Ref sig .tc := ⟨.hbm, 347, rfl⟩
abbrev main_cst_34 : Ref sig .tc := ⟨.hbm, 348, rfl⟩
abbrev main_v287 : Ref sig .tc := ⟨.hbm, 349, rfl⟩
abbrev main_v288 : Ref sig .tc := ⟨.hbm, 350, rfl⟩
abbrev main_cst_35 : Ref sig .tc := ⟨.hbm, 351, rfl⟩
abbrev main_v289 : Ref sig .tc := ⟨.hbm, 352, rfl⟩
abbrev main_cst_36 : Ref sig .tc := ⟨.hbm, 353, rfl⟩
abbrev main_v290 : Ref sig .tc := ⟨.hbm, 354, rfl⟩
abbrev main_v291 : Ref sig .tc := ⟨.hbm, 355, rfl⟩
abbrev main_v292 : Ref sig .tc := ⟨.hbm, 356, rfl⟩
abbrev main_v293 : Ref sig .tc := ⟨.hbm, 357, rfl⟩
abbrev main_v294 : Ref sig .tc := ⟨.hbm, 358, rfl⟩
abbrev main_v295 : Ref sig .tc := ⟨.hbm, 359, rfl⟩
abbrev main_v296 : Ref sig .tc := ⟨.hbm, 360, rfl⟩
abbrev main_v297 : Ref sig .tc := ⟨.hbm, 361, rfl⟩
abbrev main_v298 : Ref sig .tc := ⟨.hbm, 362, rfl⟩
abbrev main_v299 : Ref sig .tc := ⟨.hbm, 363, rfl⟩
abbrev main_v300 : Ref sig .tc := ⟨.hbm, 364, rfl⟩
abbrev main_v301 : Ref sig .tc := ⟨.hbm, 365, rfl⟩
abbrev main_v302 : Ref sig .tc := ⟨.hbm, 366, rfl⟩
abbrev main_cst_37 : Ref sig .tc := ⟨.hbm, 367, rfl⟩
abbrev main_v303 : Ref sig .tc := ⟨.hbm, 368, rfl⟩
abbrev main_cst_38 : Ref sig .tc := ⟨.hbm, 369, rfl⟩
abbrev main_v304 : Ref sig .tc := ⟨.hbm, 370, rfl⟩
abbrev main_v305 : Ref sig .tc := ⟨.hbm, 371, rfl⟩
abbrev main_cst_39 : Ref sig .tc := ⟨.hbm, 372, rfl⟩
abbrev main_v306 : Ref sig .tc := ⟨.hbm, 373, rfl⟩
abbrev main_cst_40 : Ref sig .tc := ⟨.hbm, 374, rfl⟩
abbrev main_v307 : Ref sig .tc := ⟨.hbm, 375, rfl⟩
abbrev main_v308 : Ref sig .tc := ⟨.hbm, 376, rfl⟩
abbrev main_v309 : Ref sig .tc := ⟨.hbm, 377, rfl⟩
abbrev main_v310 : Ref sig .tc := ⟨.hbm, 378, rfl⟩
abbrev main_v311 : Ref sig .tc := ⟨.hbm, 379, rfl⟩
abbrev main_v312 : Ref sig .tc := ⟨.hbm, 380, rfl⟩
abbrev main_v313 : Ref sig .tc := ⟨.hbm, 381, rfl⟩
abbrev main_v314 : Ref sig .tc := ⟨.hbm, 382, rfl⟩
abbrev main_v315 : Ref sig .tc := ⟨.hbm, 383, rfl⟩
abbrev main_v316 : Ref sig .tc := ⟨.hbm, 384, rfl⟩
abbrev main_v317 : Ref sig .tc := ⟨.hbm, 385, rfl⟩
abbrev main_v318 : Ref sig .tc := ⟨.hbm, 386, rfl⟩
abbrev main_v319 : Ref sig .tc := ⟨.hbm, 387, rfl⟩
abbrev main_cst_41 : Ref sig .tc := ⟨.hbm, 388, rfl⟩
abbrev main_v320 : Ref sig .tc := ⟨.hbm, 389, rfl⟩
abbrev main_cst_42 : Ref sig .tc := ⟨.hbm, 390, rfl⟩
abbrev main_v321 : Ref sig .tc := ⟨.hbm, 391, rfl⟩
abbrev main_v322 : Ref sig .tc := ⟨.hbm, 392, rfl⟩
abbrev main_cst_43 : Ref sig .tc := ⟨.hbm, 393, rfl⟩
abbrev main_v323 : Ref sig .tc := ⟨.hbm, 394, rfl⟩
abbrev main_cst_44 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_v334 : Ref sig .tc := ⟨.hbm, 406, rfl⟩
abbrev main_v335 : Ref sig .tc := ⟨.hbm, 407, rfl⟩
abbrev main_v336 : Ref sig .tc := ⟨.hbm, 408, rfl⟩
abbrev main_cst_45 : Ref sig .tc := ⟨.hbm, 409, rfl⟩
abbrev main_v337 : Ref sig .tc := ⟨.hbm, 410, rfl⟩
abbrev main_cst_46 : Ref sig .tc := ⟨.hbm, 411, rfl⟩
abbrev main_v338 : Ref sig .tc := ⟨.hbm, 412, rfl⟩
abbrev main_v339 : Ref sig .tc := ⟨.hbm, 413, rfl⟩
abbrev main_cst_47 : Ref sig .tc := ⟨.hbm, 414, rfl⟩
abbrev main_v340 : Ref sig .tc := ⟨.hbm, 415, rfl⟩
abbrev main_cst_48 : Ref sig .tc := ⟨.hbm, 416, rfl⟩
abbrev main_v341 : Ref sig .tc := ⟨.hbm, 417, rfl⟩
abbrev main_v342 : Ref sig .tc := ⟨.hbm, 418, rfl⟩
abbrev main_v343 : Ref sig .tc := ⟨.hbm, 419, rfl⟩
abbrev main_v344 : Ref sig .tc := ⟨.hbm, 420, rfl⟩
abbrev main_v345 : Ref sig .tc := ⟨.hbm, 421, rfl⟩
abbrev main_v346 : Ref sig .tc := ⟨.hbm, 422, rfl⟩
abbrev main_v347 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_v351 : Ref sig .tc := ⟨.hbm, 427, rfl⟩
abbrev main_v352 : Ref sig .tc := ⟨.hbm, 428, rfl⟩
abbrev main_v353 : Ref sig .tc := ⟨.hbm, 429, rfl⟩
abbrev main_cst_49 : Ref sig .tc := ⟨.hbm, 430, rfl⟩
abbrev main_v354 : Ref sig .tc := ⟨.hbm, 431, rfl⟩
abbrev main_cst_50 : Ref sig .tc := ⟨.hbm, 432, rfl⟩
abbrev main_v355 : Ref sig .tc := ⟨.hbm, 433, rfl⟩
abbrev main_v356 : Ref sig .tc := ⟨.hbm, 434, rfl⟩
abbrev main_cst_51 : Ref sig .tc := ⟨.hbm, 435, rfl⟩
abbrev main_v357 : Ref sig .tc := ⟨.hbm, 436, rfl⟩
abbrev main_cst_52 : Ref sig .tc := ⟨.hbm, 437, rfl⟩
abbrev main_v358 : Ref sig .tc := ⟨.hbm, 438, rfl⟩
abbrev main_v359 : Ref sig .tc := ⟨.hbm, 439, rfl⟩
abbrev main_v360 : Ref sig .tc := ⟨.hbm, 440, rfl⟩
abbrev main_v361 : Ref sig .tc := ⟨.hbm, 441, rfl⟩
abbrev main_v362 : Ref sig .tc := ⟨.hbm, 442, rfl⟩
abbrev main_v363 : Ref sig .tc := ⟨.hbm, 443, rfl⟩
abbrev main_v364 : Ref sig .tc := ⟨.hbm, 444, rfl⟩
abbrev main_v365 : Ref sig .tc := ⟨.hbm, 445, rfl⟩
abbrev main_v366 : Ref sig .tc := ⟨.hbm, 446, rfl⟩
abbrev main_v367 : Ref sig .tc := ⟨.hbm, 447, rfl⟩
abbrev main_v368 : Ref sig .tc := ⟨.hbm, 448, rfl⟩
abbrev main_v369 : Ref sig .tc := ⟨.hbm, 449, rfl⟩
abbrev main_v370 : Ref sig .tc := ⟨.hbm, 450, rfl⟩
abbrev main_cst_53 : Ref sig .tc := ⟨.hbm, 451, rfl⟩
abbrev main_v371 : Ref sig .tc := ⟨.hbm, 452, rfl⟩
abbrev main_cst_54 : Ref sig .tc := ⟨.hbm, 453, rfl⟩
abbrev main_v372 : Ref sig .tc := ⟨.hbm, 454, rfl⟩
abbrev main_v373 : Ref sig .tc := ⟨.hbm, 455, rfl⟩
abbrev main_cst_55 : Ref sig .tc := ⟨.hbm, 456, rfl⟩
abbrev main_v374 : Ref sig .tc := ⟨.hbm, 457, rfl⟩
abbrev main_cst_56 : Ref sig .tc := ⟨.hbm, 458, rfl⟩
abbrev main_v375 : Ref sig .tc := ⟨.hbm, 459, rfl⟩
abbrev main_v376 : Ref sig .tc := ⟨.hbm, 460, rfl⟩
abbrev main_v377 : Ref sig .tc := ⟨.hbm, 461, rfl⟩
abbrev main_v378 : Ref sig .tc := ⟨.hbm, 462, rfl⟩
abbrev main_v379 : Ref sig .tc := ⟨.hbm, 463, rfl⟩

abbrev nD : Nat := 1
abbrev τ : Topo := Topo.v7x

variable {F : FTy → Type} [FloatOps F]
-- ==== Kernel10.lean ====
abbrev S32768x2048 : Shape := ⟨2, ![32768, 2048]⟩
abbrev S16x3x2048 : Shape := ⟨3, ![16, 3, 2048]⟩
abbrev S2048 : Shape := ⟨1, ![2048]⟩
abbrev S2048x8208 : Shape := ⟨2, ![2048, 8208]⟩
abbrev S4x3072 : Shape := ⟨2, ![4, 3072]⟩
abbrev S8 : Shape := ⟨1, ![8]⟩
abbrev S128 : Shape := ⟨1, ![128]⟩
abbrev S2048x16 : Shape := ⟨2, ![2048, 16]⟩
abbrev S_ : Shape := ⟨0, ![]⟩
abbrev S2048x128 : Shape := ⟨2, ![2048, 128]⟩
abbrev S2048x3072 : Shape := ⟨2, ![2048, 3072]⟩
abbrev S2048x1024 : Shape := ⟨2, ![2048, 1024]⟩
abbrev S2048x4224 : Shape := ⟨2, ![2048, 4224]⟩
abbrev S1x128 : Shape := ⟨2, ![1, 128]⟩
abbrev S1x2048 : Shape := ⟨2, ![1, 2048]⟩
abbrev S32768x1024 : Shape := ⟨2, ![32768, 1024]⟩
abbrev S256x2048 : Shape := ⟨2, ![256, 2048]⟩
abbrev S1x3x2048 : Shape := ⟨3, ![1, 3, 2048]⟩
abbrev S512x1024 : Shape := ⟨2, ![512, 1024]⟩
abbrev S264x4224 : Shape := ⟨2, ![264, 4224]⟩
abbrev S8x128x128 : Shape := ⟨3, ![8, 128, 128]⟩
abbrev S256x1024 : Shape := ⟨2, ![256, 1024]⟩
abbrev S8x64x256 : Shape := ⟨3, ![8, 64, 256]⟩
abbrev S4x4x192x256 : Shape := ⟨4, ![4, 4, 192, 256]⟩
abbrev S4x8x128x128 : Shape := ⟨4, ![4, 8, 128, 128]⟩
abbrev S256 : Shape := ⟨1, ![256]⟩
abbrev S256x1 : Shape := ⟨2, ![256, 1]⟩
abbrev S1x1x2048 : Shape := ⟨3, ![1, 1, 2048]⟩
abbrev S8x3072 : Shape := ⟨2, ![8, 3072]⟩
abbrev S256x128 : Shape := ⟨2, ![256, 128]⟩
abbrev S64x128 : Shape := ⟨2, ![64, 128]⟩
abbrev S2048x256 : Shape := ⟨2, ![2048, 256]⟩
abbrev S256x256 : Shape := ⟨2, ![256, 256]⟩
abbrev S64x256 : Shape := ⟨2, ![64, 256]⟩
abbrev S256x512 : Shape := ⟨2, ![256, 512]⟩
abbrev S64x1 : Shape := ⟨2, ![64, 1]⟩
abbrev S1x256 : Shape := ⟨2, ![1, 256]⟩
abbrev S64x512 : Shape := ⟨2, ![64, 512]⟩
abbrev S128x512 : Shape := ⟨2, ![128, 512]⟩
abbrev S128x256 : Shape := ⟨2, ![128, 256]⟩
abbrev S1x64x256 : Shape := ⟨3, ![1, 64, 256]⟩
abbrev S512x256 : Shape := ⟨2, ![512, 256]⟩
abbrev S128x128 : Shape := ⟨2, ![128, 128]⟩
abbrev S1x1x128x128 : Shape := ⟨4, ![1, 1, 128, 128]⟩
abbrev S1x1x64x128 : Shape := ⟨4, ![1, 1, 64, 128]⟩
abbrev S1x128x128 : Shape := ⟨3, ![1, 128, 128]⟩
abbrev S1x1x192x256 : Shape := ⟨4, ![1, 1, 192, 256]⟩
abbrev S192x256 : Shape := ⟨2, ![192, 256]⟩
abbrev S1x1 : Shape := ⟨2, ![1, 1]⟩
abbrev S64 : Shape := ⟨1, ![64]⟩

abbrev nBuf : Space → Nat
  | .hbm => 27
  | .vmem => 32
  | .smem => 0
  | _ => 0

abbrev bufTy : (tb : Table) → Fin (tcTables nBuf tb) → BufTy
  | .hbm, ⟨0, _⟩ => ⟨S32768x2048, .f32⟩
  | .hbm, ⟨1, _⟩ => ⟨S16x3x2048, .f32⟩
  | .hbm, ⟨2, _⟩ => ⟨S2048, .f32⟩
  | .hbm, ⟨3, _⟩ => ⟨S2048x8208, .f32⟩
  | .hbm, ⟨4, _⟩ => ⟨S4x3072, .f32⟩
  | .hbm, ⟨5, _⟩ => ⟨S8, .f32⟩
  | .hbm, ⟨6, _⟩ => ⟨S8, .f32⟩
  | .hbm, ⟨7, _⟩ => ⟨S128, .f32⟩
  | .hbm, ⟨8, _⟩ => ⟨S2048x16, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x3072, .f32⟩
  | .hbm, ⟨13, _⟩ => ⟨S2048x1024, .f32⟩
  | .hbm, ⟨14, _⟩ => ⟨S2048x4224, .f32⟩
  | .hbm, ⟨15, _⟩ => ⟨S2048x4224, .bf16⟩
  | .hbm, ⟨16, _⟩ => ⟨S_, .i32⟩
  | .hbm, ⟨17, _⟩ => ⟨S_, .f32⟩
  | .hbm, ⟨18, _⟩ => ⟨S128, .f32⟩
  | .hbm, ⟨19, _⟩ => ⟨S1x128, .f32⟩
  | .hbm, ⟨20, _⟩ => ⟨S_, .i32⟩
  | .hbm, ⟨21, _⟩ => ⟨S_, .f32⟩
  | .hbm, ⟨22, _⟩ => ⟨S128, .f32⟩
  | .hbm, ⟨23, _⟩ => ⟨S1x128, .f32⟩
  | .hbm, ⟨24, _⟩ => ⟨S1x2048, .f32⟩
  | .hbm, ⟨25, _⟩ => ⟨S1x128, .f32⟩
  | .hbm, ⟨26, _⟩ => ⟨S32768x1024, .bf16⟩
  | .local _ .vmem, ⟨0, _⟩ => ⟨S256x2048, .f32⟩
  | .local _ .vmem, ⟨1, _⟩ => ⟨S256x2048, .f32⟩
  | .local _ .vmem, ⟨2, _⟩ => ⟨S1x3x2048, .f32⟩
  | .local _ .vmem, ⟨3, _⟩ => ⟨S1x3x2048, .f32⟩
  | .local _ .vmem, ⟨4, _⟩ => ⟨S256x2048, .f32⟩
  | .local _ .vmem, ⟨5, _⟩ => ⟨S256x2048, .f32⟩
  | .local _ .vmem, ⟨6, _⟩ => ⟨S1x3x2048, .f32⟩
  | .local _ .vmem, ⟨7, _⟩ => ⟨S1x3x2048, .f32⟩
  | .local _ .vmem, ⟨8, _⟩ => ⟨S1x2048, .f32⟩
  | .local _ .vmem, ⟨9, _⟩ => ⟨S2048x4224, .bf16⟩
  | .local _ .vmem, ⟨10, _⟩ => ⟨S4x3072, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S512x1024, .bf16⟩
  | .local _ .vmem, ⟨15, _⟩ => ⟨S512x1024, .bf16⟩
  | .local _ .vmem, ⟨16, _⟩ => ⟨S264x4224, .f32⟩
  | .local _ .vmem, ⟨17, _⟩ => ⟨S264x4224, .f32⟩
  | .local _ .vmem, ⟨18, _⟩ => ⟨S8x128x128, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .f32⟩
  | .local _ .vmem, ⟨23, _⟩ => ⟨S256x1024, .f32⟩
  | .local _ .vmem, ⟨24, _⟩ => ⟨S256x1024, .bf16⟩
  | .local _ .vmem, ⟨25, _⟩ => ⟨S256x1024, .f32⟩
  | .local _ .vmem, ⟨26, _⟩ => ⟨S8x64x256, .f32⟩
  | .local _ .vmem, ⟨27, _⟩ => ⟨S8x64x256, .f32⟩
  | .local _ .vmem, ⟨28, _⟩ => ⟨S8x64x256, .f32⟩
  | .local _ .vmem, ⟨29, _⟩ => ⟨S4x4x192x256, .bf16⟩
  | .local _ .vmem, ⟨30, _⟩ => ⟨S4x8x128x128, .f32⟩
  | .local _ .vmem, ⟨31, _⟩ => ⟨S256x1024, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_call1_v0 : Ref sig .tc := ⟨.hbm, 17, rfl⟩
abbrev main_v6 : Ref sig .tc := ⟨.hbm, 18, rfl⟩
abbrev main_v7 : Ref sig .tc := ⟨.hbm, 19, rfl⟩
abbrev main_c_1 : Ref sig .tc := ⟨.hbm, 20, rfl⟩
abbrev main_call2_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_scratch13 : Ref sig .tc := ⟨.vmem, 29, rfl⟩
abbrev cc0_scratch14 : Ref sig .tc := ⟨.vmem, 30, rfl⟩
abbrev cc0_scratch15 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  let c0_i32_7 : BitVec 32 := 0#32
  let c0_i32_8 : BitVec 32 := 0#32
  ![v19.toNat, c0_i32_6.toNat, c0_i32_7.toNat]

def cc0_transform_2 (i : grid0.Coords) : Fin 2 → Nat :=
  let arg0 : BitVec 32 := BitVec.ofNat 32 (i 0).val
  let c2_i32 : BitVec 32 := 2#32
  let v0 : BitVec 32 := Scalar.muli c2_i32 arg0
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let c2_i32 : BitVec 32 := 2#32
  let v0 : BitVec 32 := Scalar.muli c2_i32 arg0
  let c127_i32 : BitVec 32 := 127#32
  let v1 : BitVec 32 := Scalar.minsi v0 c127_i32
  let c8_i32 : BitVec 32 := 8#32
  let v2 : BitVec 32 := Scalar.divsi v1 c8_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c0_i32_5 : BitVec 32 := 0#32
  let c0_i32_6 : BitVec 32 := 0#32
  ![v18.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x4224 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Proof.Rows.lean ====
module

public import Idealize.ShloMosaic.Lib.Pointwise
public import Idealize.ShloMosaic.Lib.ValueIdx

@[expose] public section

/-! The mathematics of one row of the layer, naming no program: the modulated root-mean-square norm that opens both calls,
and the gated feed-forward of a row. -/

set_option maxRecDepth 16384

noncomputable section

namespace Cert.Rows
open Idealize.ShloMosaic

/-- The reciprocal root mean square of a row of 2048, with its small constant. -/
def rinv (x : Fin 2048 → EReal) : EReal :=
  Ideal.rsqrt (Ideal.div (∑ k, x k * x k) (Ideal.ofBits FTy.f32 0x45000000#32) + Ideal.ofBits FTy.f32 0x358637BD#32)

/-- A row normed, scaled by its gain and the modulation, and shifted. -/
def hrow (x g sc sh : Fin 2048 → EReal) (e : Fin 2048) : EReal :=
  x e * rinv x * (g e * (1 + sc e)) + sh e

/-- One hidden unit of the gated feed-forward: `silu(h·w1) · (h·w3)`. -/
def glu (h w1 w3 : Fin 2048 → EReal) : EReal :=
  (∑ d, h d * w1 d) * Ideal.logistic (∑ d, h d * w1 d) * ∑ d, h d * w3 d

/-- What `n` hidden units add to one output column. -/
def part {n : ℕ} (h : Fin 2048 → EReal) (w1 w3 : Fin 2048 → Fin n → EReal) (w2 : Fin n → EReal) : EReal :=
  ∑ k, glu h (fun d => w1 d k) (fun d => w3 d k) * w2 k

/-- The residual step: the row plus half the gated, normed feed-forward. -/
def resid (x gp f gate : Fin 2048 → EReal) (e : Fin 2048) : EReal :=
  x e + f e * rinv f * (gp e * (Ideal.ofBits FTy.f32 0x3F000000#32 * (1 + gate e)))

/-- `hrow` of rows equal entry by entry. -/
theorem hrow_congr {x x' g g' sc sc' sh sh' : Fin 2048 → EReal} {e e' : Fin 2048} (hx : ∀ k, x k = x' k) (hg : ∀ k, g k = g' k)
    (hc : ∀ k, sc k = sc' k) (hs : ∀ k, sh k = sh' k) (he : e = e') : hrow x g sc sh e = hrow x' g' sc' sh' e' := by
  rw [show x = x' from funext hx, show g = g' from funext hg, show sc = sc' from funext hc, show sh = sh' from funext hs, he]

/-- `part` of a row and weights equal entry by entry. -/
theorem part_congr {n : ℕ} {h h' : Fin 2048 → EReal} {w1 w1' w3 w3' : Fin 2048 → Fin n → EReal} {w2 w2' : Fin n → EReal}
    (hh : ∀ k, h k = h' k) (h1 : ∀ d k, w1 d k = w1' d k) (h3 : ∀ d k, w3 d k = w3' d k) (h2 : ∀ k, w2 k = w2' k) :
    part h w1 w3 w2 = part h' w1' w3' w2' := by
  rw [show h = h' from funext hh, show w1 = w1' from funext₂ h1, show w3 = w3' from funext₂ h3, show w2 = w2' from funext h2]

/-- `resid` of rows equal entry by entry. -/
theorem resid_congr {x x' gp gp' f f' gate gate' : Fin 2048 → EReal} {e e' : Fin 2048} (hx : ∀ k, x k = x' k) (hg : ∀ k, gp k = gp' k)
    (hf : ∀ k, f k = f' k) (ha : ∀ k, gate k = gate' k) (he : e = e') : resid x gp f gate e = resid x' gp' f' gate' e' := by
  rw [show x = x' from funext hx, show gp = gp' from funext hg, show f = f' from funext hf, show gate = gate' from funext ha, he]

end Cert.Rows
-- ==== Proof.RetVec.lean ====
module

public import proofs.«01_k».proof.Proof.Gen.KernelIdeal.Skeleton
public import proofs.«01_k».proof.Proof.Rows

@[expose] public section

/-! One head of the retention over a block of 256 rows as vector expressions of what it loads, and the stored values of the eight
heads (four in each half of a grid point) as these expressions. -/

set_option maxRecDepth 16384

noncomputable section

namespace Cert.KernelIdeal.Head
open Cert.KernelIdeal Cert.KernelIdeal.Gen Idealize.ShloMosaic

/-- The rotary phase of a block of queries or keys. -/
def rotV (cos sin : Vec Ideal S256x128 .f32) (x : Vec Ideal S256x256 .f32) : FVec Ideal S256x256 .f32 :=
  concatenate S256x256 1
    [⟨S256x128, subf (mulf (extractStridedSlice S256x128 ![0, 0] x slices_S256x256_o0_0_S256x128) (shapeCast S256x128 cos shapeCasts_S256x128_S256x128))
        (mulf (extractStridedSlice S256x128 ![0, 128] x slices_S256x256_o0_128_S256x128) (shapeCast S256x128 sin shapeCasts_S256x128_S256x128))⟩,
     ⟨S256x128, addf (mulf (extractStridedSlice S256x128 ![0, 128] x slices_S256x256_o0_128_S256x128) (shapeCast S256x128 cos shapeCasts_S256x128_S256x128))
        (mulf (extractStridedSlice S256x128 ![0, 0] x slices_S256x256_o0_0_S256x128) (shapeCast S256x128 sin shapeCasts_S256x128_S256x128))⟩]
    concatenates_S256x128_S256x128_S256x256_d1

/-- The scaled, rotated keys. -/
def keyV (cos sin : Vec Ideal S256x128 .f32) (k : Vec Ideal S256x256 .f32) : FVec Ideal S256x256 .f32 :=
  mulf (rotV cos sin k) (broadcast S256x256 (Scalar.ofBits .f32 0x3D800000#32))

/-- The decays inside a block: below the diagonal the decay's power of the distance, above it zero. -/
def decayV (lg : Ideal .f32) : FVec Ideal S256x256 .f32 :=
  exp (select (cmpi .sge (iota .tc S256x256 32 [0] iota_S256x256_d0_w32) (iota .tc S256x256 32 [1] iota_S256x256_d1_w32))
    (mulf (sitofp .f32 (subi (iota .tc S256x256 32 [0] iota_S256x256_d0_w32) (iota .tc S256x256 32 [1] iota_S256x256_d1_w32))) (broadcast S256x256 lg))
    (broadcast S256x256 (Scalar.ofBits .f32 0xFF800000#32)))

/-- The row numbers of a block. -/
def posV : FVec Ideal S256x1 .f32 := sitofp .f32 (iota .tc S256x1 32 [0] iota_S256x1_d0_w32)

/-- The state a block starts from: zero where the bit says a sequence starts. -/
def startV (bit : BitVec 1) (s : Vec Ideal S1x256x256 .f32) : FVec Ideal S256x256 .f32 :=
  Scalar.select bit (broadcast S256x256 (Scalar.ofBits .f32 0x00000000#32)) (shapeCast S256x256 s shapeCasts_S1x256x256_S256x256)

/-- The retention of a block: inside the block and from the state before it. -/
def retV (lg : Ideal .f32) (cos sin : Vec Ideal S256x128 .f32) (q k v : Vec Ideal S256x256 .f32) (s : FVec Ideal S256x256 .f32) : FVec Ideal S256x256 .f32 :=
  addf
    (matmul dot_S256x256_S256x256_S256x256_1_0_0_1_n_n none
      (truncf .bf16 (mulf (matmul dot_S256x256_S256x256_S256x256_1_1_0_0_n_n none (truncf .bf16 (rotV cos sin q) bitsLt_bf16_f32)
        (truncf .bf16 (keyV cos sin k) bitsLt_bf16_f32) (constant S256x256 .f32 0x00000000#32)) (decayV lg)) bitsLt_bf16_f32)
      (truncf .bf16 v bitsLt_bf16_f32) (constant S256x256 .f32 0x00000000#32))
    (matmul dot_S256x256_S256x256_S256x256_1_0_0_1_n_n none
      (truncf .bf16 (mulf (rotV cos sin q) (broadcastTo S256x256 (exp (mulf (addf posV (broadcast S256x1 (Scalar.ofBits .f32 0x3F800000#32))) (broadcast S256x1 lg)))
        broadcasts_S256x1_S256x256)) bitsLt_bf16_f32)
      (truncf .bf16 s bitsLt_bf16_f32) (constant S256x256 .f32 0x00000000#32))

/-- The state a block leaves. -/
def stateV (lg gp : Ideal .f32) (cos sin : Vec Ideal S256x128 .f32) (k v : Vec Ideal S256x256 .f32) (s : FVec Ideal S256x256 .f32) : FVec Ideal S1x256x256 .f32 :=
  shapeCast S1x256x256
    (addf (mulf s (broadcast S256x256 gp))
      (matmul dot_S256x256_S256x256_S256x256_0_0_1_1_n_n none
        (truncf .bf16 (mulf (keyV cos sin k) (broadcastTo S256x256 (exp (mulf (subf (broadcast S256x1 (Scalar.ofBits .f32 0x437F0000#32)) posV) (broadcast S256x1 lg)))
          broadcasts_S256x1_S256x256)) bitsLt_bf16_f32)
        (truncf .bf16 v bitsLt_bf16_f32) (constant S256x256 .f32 0x00000000#32)))
    shapeCasts_S256x256_S1x256x256

/-- A head's result: its retention normed over the head, gained, and gated. -/
def outV (o : FVec Ideal S256x256 .f32) (nrm : Vec Ideal S1x256 .f32) (g : Vec Ideal S256x256 .f32) : FVec Ideal S256x256 .bf16 :=
  truncf .bf16
    (mulf
      (mulf
        (mulf o (broadcastTo S256x256 (rsqrt (addf (divf (shapeCast S256x1 (multiReduction .add [1] S256 (mulf o o) 0x00000000#32 reduces_S256x256_S256 (.inl rfl) rfl) shapeCasts_S256_S256x1)
          (broadcast S256x1 (Scalar.ofBits .f32 0x43800000#32))) (broadcast S256x1 (Scalar.ofBits .f32 0x358637BD#32)))) broadcasts_S256x1_S256x256))
        (broadcastTo S256x256 (shapeCast S1x256 nrm shapeCasts_S1x256_S1x256) broadcasts_S1x256_S256x256))
      (mulf g (logistic g))) bitsLt_bf16_f32

/-- The logarithms of the heads' decays. -/
def lgW : Fin 4 → Ideal .f32 :=
  ![Named.named κ "log_gamma0" 0xBD020AEC#32, Named.named κ "log_gamma1" 0xBC8102B3#32, Named.named κ "log_gamma2" 0xBC0080AC#32, Named.named κ "log_gamma3" 0xBB80402B#32]

/-- The heads' decays over a whole block. -/
def gpW : Fin 4 → Ideal .f32 :=
  ![Named.named κ "gamma_pow0" 0x399ACCA1#32, Named.named κ "gamma_pow1" 0x3C9160A5#32, Named.named κ "gamma_pow2" 0x3E097FCE#32, Named.named κ "gamma_pow3" 0x3EBBFC5D#32]

/-- The 256 columns of a block's projections from column `n` on. -/
def colR (n : ℕ) (h : n + 256 ≤ 4096) : Rect S256x4096 :=
  Rect.unit ![0, n] ![256, 256] (by intro a; fin_cases a <;> simp [S256x4096] <;> omega)

/-- A head's slice of the heads' gains. -/
def nrmR (n : ℕ) (h : n + 256 ≤ 1024) : Rect S1x1024 :=
  Rect.unit ![0, n] ![1, 256] (by intro a; fin_cases a <;> simp [S1x1024] <;> omega)

/-- A head's slice of the states. -/
def stR (n : ℕ) (h : n < 4) : Rect S4x256x256 :=
  Rect.unit ![n, 0, 0] ![1, 256, 256] (by intro a; fin_cases a <;> simp [S4x256x256] <;> omega)

/-- A head's place in a half of the output block. -/
def outR (r n : ℕ) (hr : r + 256 ≤ 512) (h : n + 256 ≤ 1024) : Rect S512x1024 :=
  Rect.unit ![r, n] ![256, 256] (by intro a; fin_cases a <;> simp [S512x1024] <;> omega)

/-- A half of the rows of the rotary tables' block. -/
def tabR (r : ℕ) (h : r + 256 ≤ 512) : Rect S512x128 :=
  Rect.unit ![r, 0] ![256, 128] (by intro a; fin_cases a <;> simp [S512x128] <;> omega)

/-- A chunk of 512 columns of the projections. -/
def chR (n : ℕ) (h : n + 512 ≤ 4096) : Rect S256x4096 :=
  Rect.unit ![0, n] ![256, 512] (by intro a; fin_cases a <;> simp [S256x4096] <;> omega)

/-- A chunk of 512 columns of the projection weights. -/
def chW (n : ℕ) (h : n + 512 ≤ 4096) : Rect S2048x4096 :=
  Rect.unit ![0, n] ![2048, 512] (by intro a; fin_cases a <;> simp [S2048x4096] <;> omega)

/-- One of the three modulation rows. -/
def modR (n : ℕ) (h : n < 3) : Rect S1x3x2048 :=
  Rect.unit ![0, n, 0] ![1, 1, 2048] (by intro a; fin_cases a <;> simp [S1x3x2048] <;> omega)

/-- The normed and modulated rows of a block. -/
def hV (x : Vec Ideal S256x2048 .f32) (g : Vec Ideal S1x2048 .f32) (md : Vec Ideal S1x3x2048 .f32) : FVec Ideal S256x2048 .bf16 :=
  k0_pay62 x g (View.ld md (modR 1 (by decide))) (View.ld md (modR 0 (by decide)))

/-- The stored chunks of a block's projections, the last stored first. -/
def projL (h : FVec Ideal S256x2048 .bf16) (w : Vec Ideal S2048x4096 .bf16) : List (View.Piece (Elt Ideal) S256x4096 .f32) :=
  [⟨chR 3584 (by decide), k0_pay68 h (View.ld w (chW 3584 (by decide)))⟩, ⟨chR 3072 (by decide), k0_pay68 h (View.ld w (chW 3072 (by decide)))⟩, ⟨chR 2560 (by decide), k0_pay68 h (View.ld w (chW 2560 (by decide)))⟩,
   ⟨chR 2048 (by decide), k0_pay68 h (View.ld w (chW 2048 (by decide)))⟩, ⟨chR 1536 (by decide), k0_pay68 h (View.ld w (chW 1536 (by decide)))⟩, ⟨chR 1024 (by decide), k0_pay68 h (View.ld w (chW 1024 (by decide)))⟩,
   ⟨chR 512 (by decide), k0_pay68 h (View.ld w (chW 512 (by decide)))⟩, ⟨chR 0 (by decide), k0_pay68 h (View.ld w (chW 0 (by decide)))⟩]

/-- The offsets of a head's slices: in the queries (and gains), keys, values and gates of the projections. -/
structure Off where
  h : ℕ
  q : ℕ
  k : ℕ
  v : ℕ
  g : ℕ
  hh : h < 4
  hq : q = 256 * h
  hk : k = 1024 + 256 * h
  hv : v = 2048 + 256 * h
  hg : g = 3072 + 256 * h

theorem Off.lq (o : Off) : o.q + 256 ≤ 1024 := by have := o.hh; have := o.hq; omega
theorem Off.lk (o : Off) : o.k + 256 ≤ 4096 := by have := o.hh; have := o.hk; omega
theorem Off.lv (o : Off) : o.v + 256 ≤ 4096 := by have := o.hh; have := o.hv; omega
theorem Off.lg (o : Off) : o.g + 256 ≤ 4096 := by have := o.hh; have := o.hg; omega
theorem Off.lq' (o : Off) : o.q + 256 ≤ 4096 := by have := o.lq; omega

/-- The four heads' offsets. -/
def f0 : Off := ⟨0, 0, 1024, 2048, 3072, by decide, rfl, rfl, rfl, rfl⟩
@[inherit_doc f0] def f1 : Off := ⟨1, 256, 1280, 2304, 3328, by decide, rfl, rfl, rfl, rfl⟩
@[inherit_doc f0] def f2 : Off := ⟨2, 512, 1536, 2560, 3584, by decide, rfl, rfl, rfl, rfl⟩
@[inherit_doc f0] def f3 : Off := ⟨3, 768, 1792, 2816, 3840, by decide, rfl, rfl, rfl, rfl⟩

/-- A head's result of the half of a block pair from row `b` on, from the projections and the state before. -/
def oP (f : Off) (l : Ideal .f32) (b : ℕ) (hb : b + 256 ≤ 512) (C D : Vec Ideal S512x128 .f32) (N : Vec Ideal S1x1024 .f32) (P : Vec Ideal S256x4096 .f32)
    (S : FVec Ideal S256x256 .f32) : FVec Ideal S256x256 .bf16 :=
  outV (retV l (View.ld C (tabR b hb)) (View.ld D (tabR b hb)) (View.ld P (colR f.q f.lq')) (View.ld P (colR f.k f.lk)) (View.ld P (colR f.v f.lv)) S)
    (View.ld N (nrmR f.q f.lq)) (View.ld P (colR f.g f.lg))

/-- A head's state after the half of a block pair from row `b` on. -/
def sP (f : Off) (l gp : Ideal .f32) (b : ℕ) (hb : b + 256 ≤ 512) (C D : Vec Ideal S512x128 .f32) (P : Vec Ideal S256x4096 .f32) (S : FVec Ideal S256x256 .f32) :
    FVec Ideal S1x256x256 .f32 :=
  stateV l gp (View.ld C (tabR b hb)) (View.ld D (tabR b hb)) (View.ld P (colR f.k f.lk)) (View.ld P (colR f.v f.lv)) S

/-- The state a head starts the first half with. -/
def s0 (f : Off) (bit : BitVec 1) (s : Vec Ideal S4x256x256 .f32) : FVec Ideal S256x256 .f32 := startV bit (View.ld s (stR f.h f.hh))

/-- The state a head starts the second half with. -/
def s1 (f : Off) (l gp : Ideal .f32) (bit : BitVec 1) (C D : Vec Ideal S512x128 .f32) (P : Vec Ideal S256x4096 .f32) (s : Vec Ideal S4x256x256 .f32) :
    FVec Ideal S256x256 .f32 :=
  startV 0#1 (sP f l gp 0 (by decide) C D P (s0 f bit s))

/-- The stored pieces of the output block. -/
def outL (bit : BitVec 1) (C D : Vec Ideal S512x128 .f32) (N : Vec Ideal S1x1024 .f32) (P Q : Vec Ideal S256x4096 .f32) (s : Vec Ideal S4x256x256 .f32) :
    List (View.Piece (Elt Ideal) S512x1024 .bf16) :=
  [⟨outR 256 768 (by decide) (by decide), oP f3 (lgW 3) 256 (by decide) C D N Q (s1 f3 (lgW 3) (gpW 3) bit C D P s)⟩,
   ⟨outR 256 512 (by decide) (by decide), oP f2 (lgW 2) 256 (by decide) C D N Q (s1 f2 (lgW 2) (gpW 2) bit C D P s)⟩,
   ⟨outR 256 256 (by decide) (by decide), oP f1 (lgW 1) 256 (by decide) C D N Q (s1 f1 (lgW 1) (gpW 1) bit C D P s)⟩,
   ⟨outR 256 0 (by decide) (by decide), oP f0 (lgW 0) 256 (by decide) C D N Q (s1 f0 (lgW 0) (gpW 0) bit C D P s)⟩,
   ⟨outR 0 768 (by decide) (by decide), oP f3 (lgW 3) 0 (by decide) C D N P (s0 f3 bit s)⟩,
   ⟨outR 0 512 (by decide) (by decide), oP f2 (lgW 2) 0 (by decide) C D N P (s0 f2 bit s)⟩,
   ⟨outR 0 256 (by decide) (by decide), oP f1 (lgW 1) 0 (by decide) C D N P (s0 f1 bit s)⟩,
   ⟨outR 0 0 (by decide) (by decide), oP f0 (lgW 0) 0 (by decide) C D N P (s0 f0 bit s)⟩]

/-- The stored pieces of the states. -/
def stL (bit : BitVec 1) (C D : Vec Ideal S512x128 .f32) (P Q : Vec Ideal S256x4096 .f32) (s : Vec Ideal S4x256x256 .f32) :
    List (View.Piece (Elt Ideal) S4x256x256 .f32) :=
  [⟨stR 3 (by decide), sP f3 (lgW 3) (gpW 3) 256 (by decide) C D Q (s1 f3 (lgW 3) (gpW 3) bit C D P s)⟩,
   ⟨stR 2 (by decide), sP f2 (lgW 2) (gpW 2) 256 (by decide) C D Q (s1 f2 (lgW 2) (gpW 2) bit C D P s)⟩,
   ⟨stR 1 (by decide), sP f1 (lgW 1) (gpW 1) 256 (by decide) C D Q (s1 f1 (lgW 1) (gpW 1) bit C D P s)⟩,
   ⟨stR 0 (by decide), sP f0 (lgW 0) (gpW 0) 256 (by decide) C D Q (s1 f0 (lgW 0) (gpW 0) bit C D P s)⟩,
   ⟨stR 3 (by decide), sP f3 (lgW 3) (gpW 3) 0 (by decide) C D P (s0 f3 bit s)⟩,
   ⟨stR 2 (by decide), sP f2 (lgW 2) (gpW 2) 0 (by decide) C D P (s0 f2 bit s)⟩,
   ⟨stR 1 (by decide), sP f1 (lgW 1) (gpW 1) 0 (by decide) C D P (s0 f1 bit s)⟩,
   ⟨stR 0 (by decide), sP f0 (lgW 0) (gpW 0) 0 (by decide) C D P (s0 f0 bit s)⟩]

end Cert.KernelIdeal.Head
end
-- ==== Proof.RetStep.lean ====
module

public import proofs.«01_k».proof.Proof.Gen.KernelIdeal.Frame
public import proofs.«01_k».proof.Proof.RetVec
public import Idealize.ShloMosaic.Lib.Pipeline.ValueKit
public import Idealize.ShloMosaic.Lib.Pipeline.ReadBack

@[expose] public section

/-! What one grid point of the retention kernel leaves in its output block, in the scratch that holds the next block's projections and in
the states, from the blocks it is given and what the point before left. -/

set_option maxRecDepth 16384

noncomputable section

namespace Cert.KernelIdeal.Step
open Cert.KernelIdeal Cert.KernelIdeal.Gen Idealize.ShloMosaic Idealize.ShloMosaic.TcCoe Idealize.SL.Sem Cert.KernelIdeal.Head Cert.Rows
open Idealize.ShloMosaic.Pipeline (Dat)

variable (m : (ℓ : Loc nD τ sig) → Buf (Elt Ideal) ℓ)

/-- A covered load reads what the stored pieces hold. -/
theorem readCov_ld {sig : RefSig} {κ : Kind} {sp : Space} {s : Shape} {e : EltTy} {Val : EltTy → Type} [∀ e, Nonempty (Val e)] (v : View sig κ sp s e) (L : List (View.Piece Val s e)) (r : Rect s) :
    v.readCov L r.toLoadRect = View.ld (View.canon L) r := View.readCov_eq_canon' v L r

/-- The two halves of a rotary phase put together. -/
def cat2 (a b : FVec Ideal S256x128 .f32) : FVec Ideal S256x256 .f32 :=
  concatenate S256x256 1 [⟨S256x128, a⟩, ⟨S256x128, b⟩] concatenates_S256x128_S256x128_S256x256_d1

/-- `cat2` by its definition. -/
theorem cat2_eq (a b : FVec Ideal S256x128 .f32) (h) : concatenate S256x256 1 [⟨S256x128, a⟩, ⟨S256x128, b⟩] h = cat2 a b := rfl

/-- Whether a point's first block starts a sequence. -/
def bit (t : Fin cfg0.N) : BitVec 1 :=
  let r : BitVec 32 := Scalar.remsi (Scalar.subi (Scalar.muli (2#32) (BitVec.ofNat 32 ↑(grid0.coords t 0))) 2#32) 8#32
  Scalar.cmpi CmpIPredicate.eq
    (Scalar.select (Scalar.andi (Scalar.xori (Scalar.cmpi CmpIPredicate.slt r 0#32) 0#1) (Scalar.cmpi CmpIPredicate.ne r 0#32)) (Scalar.addi r 8#32) r) 0#32

/-- The projections of a point's first block. -/
def Q (c : Dev nD) (t : Fin cfg0.N) : Vec Ideal S256x4096 .f32 := View.canon (projL (hV (iblk m c 0 t) (iblk m c 4 t) (iblk m c 1 t)) (iblk m c 5 t))

/-- The projections of a point's second block. -/
def Q' (c : Dev nD) (t : Fin cfg0.N) : Vec Ideal S256x4096 .f32 := View.canon (projL (hV (iblk m c 2 t) (iblk m c 4 t) (iblk m c 3 t)) (iblk m c 5 t))

/-- After the first point: the output block. -/
theorem oB (c : Dev nD) (t : Fin cfg0.N) (h0 : ¬t.val % 65 = 0) (o : Vec Ideal S512x1024 .bf16) (p : Vec Ideal S256x4096 .f32) (s : Vec Ideal S4x256x256 .f32)
    (ho : outsAt0 m c (t.val - 1) (Nat.lt_of_le_of_lt (Nat.sub_le _ _) t.isLt) = (o, p, s)) :
    (outsAt0 m c t.val t.isLt).1 = View.canon (outL (bit t) (iblk m c 6 t) (iblk m c 7 t) (iblk m c 8 t) p (Q m c t) s) := by
  rw [outsAt0_B m c t h0, ho]
  dsimp only
  frame_open
  simp (disch := decide) only [↓ View.readCov_skip (s := S4x256x256), ↓ View.readCov_cons_toLoadRect (s := S4x256x256)]
  simp only [readCov_ld]
  frame_out [cat2_eq, read_unread_whole, readCov_ld]
  exact rfl

/-- After the first point: the states. -/
theorem sB (c : Dev nD) (t : Fin cfg0.N) (h0 : ¬t.val % 65 = 0) (o : Vec Ideal S512x1024 .bf16) (p : Vec Ideal S256x4096 .f32) (s : Vec Ideal S4x256x256 .f32)
    (ho : outsAt0 m c (t.val - 1) (Nat.lt_of_le_of_lt (Nat.sub_le _ _) t.isLt) = (o, p, s)) :
    (outsAt0 m c t.val t.isLt).2.2 = View.canon (stL (bit t) (iblk m c 6 t) (iblk m c 7 t) p (Q m c t) s) := by
  rw [outsAt0_B m c t h0, ho]
  dsimp only
  frame_open
  simp (disch := decide) only [↓ View.readCov_skip (s := S4x256x256), ↓ View.readCov_cons_toLoadRect (s := S4x256x256)]
  simp only [readCov_ld]
  frame_out [cat2_eq, read_unread_whole, readCov_ld]
  exact rfl

/-- After the first point: the scratch holds the second block's projections. -/
theorem pB (c : Dev nD) (t : Fin cfg0.N) (h0 : ¬t.val % 65 = 0) : (outsAt0 m c t.val t.isLt).2.1 = Q' m c t := by
  rw [outsAt0_B m c t h0]
  dsimp only
  frame_out
  exact rfl

/-- The first point: the scratch holds the second block's projections, whatever was stored before. -/
theorem pA (c : Dev nD) (t : Fin cfg0.N) (h0 : t.val % 65 = 0) : ∃ tl, (outsAt0 m c t.val t.isLt).2.1 = View.canon (projL (hV (iblk m c 2 t) (iblk m c 4 t) (iblk m c 3 t)) (iblk m c 5 t) ++ tl) := by
  rw [outsAt0_A m c t h0]
  dsimp only
  frame_out
  exact ⟨[_], rfl⟩

/-- The normed row `r` of a block. -/
def hF (x : Vec Ideal S256x2048 .f32) (g : Vec Ideal S1x2048 .f32) (md : Vec Ideal S1x3x2048 .f32) (r : Fin 256) : Fin 2048 → EReal :=
  hrow (fun k => x (ix2 r k)) (fun k => g (ix2 0 k)) (fun k => md (ix3 0 1 k)) (fun k => md (ix3 0 0 k))

/-- The projection of a normed row, in column `e`. -/
def pF (h : Fin 2048 → EReal) (w : Vec Ideal S2048x4096 .bf16) (e : Fin 4096) : EReal := ∑ k, h k * (w (ix2 k e) : EReal)

/-- The row of an index of the projections. -/
def rI (j : S256x4096.Idx) : Fin 256 := j 0
/-- The column of an index of the projections. -/
def cI (j : S256x4096.Idx) : Fin 4096 := j 1

/-- A load of one of the three modulation rows. -/
theorem ld_mod (X : Vec Ideal S1x3x2048 .f32) (k : ℕ) (hk : k < 3) (e : Fin 2048) : View.ld (Val := Elt Ideal) X (modR k hk) (ix3 0 0 e) = X (ix3 0 ⟨k, hk⟩ e) :=
  View.ld_unit_apply_of _ _ _ _ _ _ (by intro a; fin_cases a <;> simp [ix3])

/-- A load of a chunk of the weights. -/
theorem ld_w (X : Vec Ideal S2048x4096 .bf16) (n : ℕ) (hn) (k : Fin 2048) (e : Fin 512) : View.ld (Val := Elt Ideal) X (chW n hn) (ix2 k e) = X (ix2 k ⟨n + e.val, by omega⟩) :=
  View.ld_unit_apply_of _ _ _ _ _ _ (by intro a; fin_cases a <;> simp [ix2])

/-- The normed rows at an index. -/
theorem h_apply (x : Vec Ideal S256x2048 .f32) (g : Vec Ideal S1x2048 .f32) (sc sh : Vec Ideal S1x1x2048 .f32) (r : Fin 256) (k : Fin 2048) :
    (k0_pay62 x g sc sh (ix2 r k) : EReal) = hrow (fun k => x (ix2 r k)) (fun k => g (ix2 0 k)) (fun k => sc (ix3 0 0 k)) (fun k => sh (ix3 0 0 k)) k := by
  unfold_payloads
  pointwise
  rfl

/-- The normed rows of a block at an index. -/
theorem hV_apply (x : Vec Ideal S256x2048 .f32) (g : Vec Ideal S1x2048 .f32) (md : Vec Ideal S1x3x2048 .f32) (r : Fin 256) (k : Fin 2048) :
    (hV x g md (ix2 r k) : EReal) = hF x g md r k :=
  (h_apply _ _ _ _ _ _).trans (hrow_congr (fun _ => rfl) (fun _ => rfl) (fun k => ld_mod md 1 (by decide) k) (fun k => ld_mod md 0 (by decide) k) rfl)

/-- A chunk of the projections at an index. -/
theorem proj_apply (h : FVec Ideal S256x2048 .bf16) (w : Vec Ideal S2048x512 .bf16) (r : Fin 256) (e : Fin 512) :
    (k0_pay68 h w (ix2 r e) : EReal) = ∑ k, (h (ix2 r k) : EReal) * w (ix2 k e) := by
  unfold_payloads
  pointwise

/-- A stored chunk of the projections at an index. -/
theorem ch_apply (h : FVec Ideal S256x2048 .bf16) (w : Vec Ideal S2048x4096 .bf16) (n : ℕ) (hn) (r : Fin 256) (e : Fin 512) :
    (k0_pay68 h (View.ld w (chW n hn)) (ix2 r e) : EReal) = pF (fun k => h (ix2 r k)) w ⟨n + e.val, by omega⟩ :=
  (proj_apply _ _ _ _).trans (Finset.sum_congr rfl fun k _ => congrArg _ (ld_w _ _ _ _ _))

/-- The stored chunks put together. -/
theorem canon_proj (h : FVec Ideal S256x2048 .bf16) (w : Vec Ideal S2048x4096 .bf16) (tl) (j : S256x4096.Idx) :
    (View.canon (projL h w ++ tl) j : EReal) = pF (fun k => h (ix2 (rI j) k)) w (cI j) := by
  refine View.canon_append_of_pieces (fun j => pF (fun k => h (ix2 (rI j) k)) w (cI j)) tl (projL h w) ?_ j ?_
  · have key : ∀ (n : ℕ) (hn : n + 512 ≤ 4096) (x : (chR n hn).shape.Idx),
        (k0_pay68 h (View.ld w (chW n hn)) x : EReal) = pF (fun k => h (ix2 (rI ((chR n hn).emb x)) k)) w (cI ((chR n hn).emb x)) := by
      intro n hn x
      obtain ⟨a, b, rfl⟩ : ∃ (a : Fin 256) (b : Fin 512), x = ix2 a b := ⟨_, _, eq_ix2 x⟩
      rw [ch_apply]
      have h0 : rI ((chR n hn).emb (ix2 a b)) = a := Fin.ext (by show 0 + 1 * a.val = a.val; omega)
      have h1 : cI ((chR n hn).emb (ix2 a b)) = ⟨n + b.val, by omega⟩ := Fin.ext (by show n + 1 * b.val = n + b.val; omega)
      rw [h0, h1]
    intro p hp x
    simp only [projL, List.mem_cons, List.not_mem_nil, or_false] at hp
    rcases hp with rfl | rfl | rfl | rfl | rfl | rfl | rfl | rfl <;> exact key _ _ x
  · have key : ∀ (n : ℕ) (hn : n + 512 ≤ 4096), n ≤ (cI j).val → (cI j).val < n + 512 → j ∈ (chR n hn).set := by
      intro n hn h1 h2
      refine Rect.mem_set_unit.2 fun a => ?_
      match a with
      | ⟨0, _⟩ => exact ⟨Nat.zero_le _, by show (rI j).val < 0 + 256; omega⟩
      | ⟨1, _⟩ => exact ⟨h1, h2⟩
    have hc := (cI j).isLt
    simp only [projL, List.exists_mem_cons_iff]
    rcases (by omega : (cI j).val / 512 = 0 ∨ (cI j).val / 512 = 1 ∨ (cI j).val / 512 = 2 ∨ (cI j).val / 512 = 3 ∨ (cI j).val / 512 = 4 ∨ (cI j).val / 512 = 5 ∨
      (cI j).val / 512 = 6 ∨ (cI j).val / 512 = 7) with q | q | q | q | q | q | q | q
    · exact .inr (.inr (.inr (.inr (.inr (.inr (.inr (.inl (key 0 (by decide) (by omega) (by omega)))))))))
    · exact .inr (.inr (.inr (.inr (.inr (.inr (.inl (key 512 (by decide) (by omega) (by omega))))))))
    · exact .inr (.inr (.inr (.inr (.inr (.inl (key 1024 (by decide) (by omega) (by omega)))))))
    · exact .inr (.inr (.inr (.inr (.inl (key 1536 (by decide) (by omega) (by omega))))))
    · exact .inr (.inr (.inr (.inl (key 2048 (by decide) (by omega) (by omega)))))
    · exact .inr (.inr (.inl (key 2560 (by decide) (by omega) (by omega))))
    · exact .inr (.inl (key 3072 (by decide) (by omega) (by omega)))
    · exact .inl (key 3584 (by decide) (by omega) (by omega))

end Cert.KernelIdeal.Step
-- ==== Proof.RetMath.lean ====
module

public import proofs.«01_k».proof.Proof.Rows
public import Mathlib.Analysis.SpecialFunctions.Exp
public import Mathlib.Analysis.SpecialFunctions.Log.Basic

@[expose] public section

/-! The mathematics of the retention, naming no program: the rotary phase of a row, one block of 256 rows of a head, the state a block
leaves, and the whole sequence's sum. -/

set_option maxRecDepth 16384

noncomputable section

namespace Cert.Ret
open Idealize.ShloMosaic Cert.Rows

/-- A word's integer. -/
theorem si (n : ℕ) (h : n < 4096) : (FloatOps.sitofp (F := Ideal) FTy.f32 (BitVec.ofNat 32 n) : EReal) = (((n : ℝ)) : EReal) := by
  show ((((BitVec.ofNat 32 n).toInt : ℤ) : ℝ) : EReal) = _
  rw [show (BitVec.ofNat 32 n).toInt = (n : ℤ) from by rw [BitVec.toInt_ofNat']; simp [Int.bmod]; omega]
  norm_cast

/-- The rotary angle of position `t` in lane `n`. -/
def ang (t n : ℕ) : EReal :=
  (FloatOps.sitofp (F := Ideal) FTy.f32 (BitVec.ofNat 32 t) : EReal) * Ideal.pow (Ideal.ofBits FTy.f32 0x461C4000#32)
    (Ideal.div (-(FloatOps.sitofp (F := Ideal) FTy.f32 (BitVec.ofNat 32 n) : EReal)) (Ideal.ofBits FTy.f32 0x43000000#32))

/-- A head's decay from one position to the next. -/
def gam (h : Fin 4) : ℝ := 1 - (1 / 2) ^ (5 + h.val)

/-- The decays are positive. -/
theorem gam_pos (h : Fin 4) : 0 < gam h := by
  unfold gam
  have : ((1 : ℝ) / 2) ^ (5 + h.val) < 1 := pow_lt_one₀ (by norm_num) (by norm_num) (by omega)
  linarith

/-- The rotary phase of a row of a head. -/
def rot (c s : Fin 128 → EReal) (x : Fin 256 → EReal) (e : Fin 256) : EReal :=
  if h : e.val < 128 then x e * c ⟨e.val, h⟩ - x ⟨e.val + 128, by omega⟩ * s ⟨e.val, h⟩
  else x e * c ⟨e.val - 128, by omega⟩ + x ⟨e.val - 128, by omega⟩ * s ⟨e.val - 128, by omega⟩

/-- `rot` of tables and rows equal entry by entry. -/
theorem rot_congr {c c' s s' : Fin 128 → EReal} {x x' : Fin 256 → EReal} {e : Fin 256} (hc : ∀ n, c n = c' n) (hs : ∀ n, s n = s' n) (hx : ∀ n, x n = x' n) :
    rot c s x e = rot c' s' x' e := by
  rw [funext hc, funext hs, funext hx]

/-- The scale of the keys: one over the root of the head's width. -/
def c16 : EReal := Ideal.ofBits FTy.f32 0x3D800000#32

/-- The decay from row `j` to row `i`: zero for a later `j`. -/
def dec (lg : EReal) (i j : ℕ) : EReal := Ideal.exp (if j ≤ i then (((i : ℝ) - (j : ℝ) : ℝ) : EReal) * lg else ⊥)

/-- A row's retention over its block of 256 rows and from the state before it. -/
def retB (lg : EReal) (q : Fin 256 → EReal) (k v : Fin 256 → Fin 256 → EReal) (S : Fin 256 → Fin 256 → EReal) (i : Fin 256) (e : Fin 256) : EReal :=
  (∑ j : Fin 256, (∑ d, q d * k j d) * dec lg i.val j.val * v j e) + ∑ d, q d * Ideal.exp ((((i.val : ℝ) + 1 : ℝ) : EReal) * lg) * S d e

/-- The state after a block of 256 rows. -/
def stB (lg gp : EReal) (k v : Fin 256 → Fin 256 → EReal) (S : Fin 256 → Fin 256 → EReal) (d e : Fin 256) : EReal :=
  S d e * gp + ∑ j : Fin 256, k j d * Ideal.exp (((255 - (j.val : ℝ) : ℝ) : EReal) * lg) * v j e

/-- A head's result in a row: its retention normed over the head, gained, and gated. -/
def outB (o n g : Fin 256 → EReal) (e : Fin 256) : EReal :=
  o e * Ideal.rsqrt (Ideal.div (∑ k, o k * o k) (Ideal.ofBits FTy.f32 0x43800000#32) + Ideal.ofBits FTy.f32 0x358637BD#32) * n e * (g e * Ideal.logistic (g e))

/-- A head's queries in a row of the projections. -/
def qR (c s : Fin 128 → EReal) (p : Fin 4096 → EReal) (h : Fin 4) (d : Fin 256) : EReal := rot c s (fun n => p ⟨256 * h.val + n.val, by omega⟩) d

/-- A head's scaled keys in a row of the projections. -/
def kR (c s : Fin 128 → EReal) (p : Fin 4096 → EReal) (h : Fin 4) (d : Fin 256) : EReal := rot c s (fun n => p ⟨1024 + 256 * h.val + n.val, by omega⟩) d * c16

/-- A head's values in a row of the projections. -/
def vR (p : Fin 4096 → EReal) (h : Fin 4) (e : Fin 256) : EReal := p ⟨2048 + 256 * h.val + e.val, by omega⟩

/-- A head's gates in a row of the projections. -/
def gR (p : Fin 4096 → EReal) (h : Fin 4) (e : Fin 256) : EReal := p ⟨3072 + 256 * h.val + e.val, by omega⟩

/-- A head's gains. -/
def nR (n : Fin 1024 → EReal) (h : Fin 4) (e : Fin 256) : EReal := n ⟨256 * h.val + e.val, by omega⟩

/-! ### Finite values -/

/-- A finite value. -/
def IsR (x : EReal) : Prop := ∃ r : ℝ, x = (r : EReal)

/-- Finite values are closed under sums of two. -/
theorem IsR.add {x y : EReal} : IsR x → IsR y → IsR (x + y) := fun ⟨a, ha⟩ ⟨b, hb⟩ => ⟨a + b, by rw [ha, hb, EReal.coe_add]⟩

/-- Finite values are closed under differences. -/
theorem IsR.sub {x y : EReal} : IsR x → IsR y → IsR (x - y) := fun ⟨a, ha⟩ ⟨b, hb⟩ => ⟨a - b, by rw [ha, hb, EReal.coe_sub]⟩

/-- Finite values are closed under products. -/
theorem IsR.mul {x y : EReal} : IsR x → IsR y → IsR (x * y) := fun ⟨a, ha⟩ ⟨b, hb⟩ => ⟨a * b, by rw [ha, hb, EReal.coe_mul]⟩

/-- A sum of real numbers is the real sum. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Finite values are closed under finite sums. -/
theorem IsR.sum {ι : Type} (s : Finset ι) (f : ι → EReal) (h : ∀ i, IsR (f i)) : IsR (∑ i ∈ s, f i) := by
  choose r hr using h
  exact ⟨∑ i ∈ s, r i, by rw [← coe_sum]; exact Finset.sum_congr rfl fun i _ => hr i⟩

/-- The reciprocal root mean square of a finite row is finite. -/
theorem IsR.rinv {x : Fin 2048 → EReal} (h : ∀ k, IsR (x k)) : IsR (rinv x) := by
  choose r hr using h
  have h1 : Ideal.ofBits FTy.f32 0x45000000#32 = ((2048 : ℝ) : EReal) := by
    simp [Ideal.ofBits, Ideal.ieee, -EReal.coe_mul]
    norm_num
  have h2 : ∃ c : ℝ, 0 < c ∧ Ideal.ofBits FTy.f32 0x358637BD#32 = ((c : ℝ) : EReal) := by
    refine ⟨_, ?_, by simp [Ideal.ofBits, Ideal.ieee, -EReal.coe_mul]; rfl⟩
    norm_num
  obtain ⟨c, hc, h2⟩ := h2
  have hs : ∑ k, x k * x k = ((∑ k, r k * r k : ℝ) : EReal) := by
    rw [← coe_sum]
    exact Finset.sum_congr rfl fun k _ => by rw [hr k, EReal.coe_mul]
  have h0 : 0 ≤ ∑ k, r k * r k := Finset.sum_nonneg fun k _ => mul_self_nonneg _
  unfold Cert.Rows.rinv
  rw [hs, h1, h2]
  have hd : Ideal.div (((∑ k, r k * r k : ℝ)) : EReal) ((2048 : ℝ) : EReal) = (((∑ k, r k * r k) / 2048 : ℝ) : EReal) := by
    unfold Ideal.div
    rw [if_neg (by simp), ← EReal.coe_inv, ← EReal.coe_mul, div_eq_mul_inv]
  rw [hd, ← EReal.coe_add]
  have hp : 0 < (∑ k, r k * r k) / 2048 + c := by positivity
  refine ⟨(Real.sqrt ((∑ k, r k * r k) / 2048 + c))⁻¹, ?_⟩
  show (if (∑ k, r k * r k) / 2048 + c < 0 then (⊥ : EReal) else if (∑ k, r k * r k) / 2048 + c = 0 then ⊤ else _) = _
  rw [if_neg (not_lt.2 hp.le), if_neg hp.ne']

/-- A finite row's normed row is finite. -/
theorem IsR.hrow {x g sc sh : Fin 2048 → EReal} (hx : ∀ k, IsR (x k)) (hg : ∀ k, IsR (g k)) (hc : ∀ k, IsR (sc k)) (hs : ∀ k, IsR (sh k)) (e : Fin 2048) :
    IsR (hrow x g sc sh e) :=
  (((hx e).mul (IsR.rinv hx)).mul ((hg e).mul (IsR.add ⟨1, EReal.coe_one.symm⟩ (hc e)))).add (hs e)

/-- The rotary angles are finite. -/
theorem IsR.ang (t n : ℕ) (ht : t < 4096) (hn : n < 4096) : IsR (ang t n) := by
  unfold Cert.Ret.ang
  rw [si t ht, si n hn]
  have h1 : Ideal.ofBits FTy.f32 0x43000000#32 = ((128 : ℝ) : EReal) := by
    simp [Ideal.ofBits, Ideal.ieee, -EReal.coe_mul]
    norm_num
  have h2 : Ideal.ofBits FTy.f32 0x461C4000#32 = ((10000 : ℝ) : EReal) := by
    simp [Ideal.ofBits, Ideal.ieee, -EReal.coe_mul]
    norm_num
  rw [h1, h2]
  unfold Ideal.div
  rw [if_neg (by simp), ← EReal.coe_inv, ← EReal.coe_neg, ← EReal.coe_mul]
  exact IsR.mul ⟨_, rfl⟩ ⟨_, rfl⟩

/-- The cosines are finite. -/
theorem IsR.cos {x : EReal} : IsR x → IsR (Ideal.cos x) := fun ⟨a, ha⟩ => ⟨Real.cos a, by rw [ha]; rfl⟩

/-- The sines are finite. -/
theorem IsR.sin {x : EReal} : IsR x → IsR (Ideal.sin x) := fun ⟨a, ha⟩ => ⟨Real.sin a, by rw [ha]; rfl⟩

/-- The rotary phase of a finite row is finite. -/
theorem IsR.rot {c s : Fin 128 → EReal} {x : Fin 256 → EReal} (hc : ∀ n, IsR (c n)) (hs : ∀ n, IsR (s n)) (hx : ∀ n, IsR (x n)) (e : Fin 256) : IsR (rot c s x e) := by
  unfold Cert.Ret.rot
  split
  · exact ((hx _).mul (hc _)).sub ((hx _).mul (hs _))
  · exact ((hx _).mul (hc _)).add ((hx _).mul (hs _))

/-- The keys' scale is finite. -/
theorem IsR.c16 : IsR c16 := by
  unfold Cert.Ret.c16
  exact ⟨_, by simp [Ideal.ofBits, Ideal.ieee, -EReal.coe_mul]; rfl⟩

/-- A head's queries of finite rows are finite. -/
theorem IsR.qR {c s : Fin 128 → EReal} {p : Fin 4096 → EReal} (hc : ∀ n, IsR (c n)) (hs : ∀ n, IsR (s n)) (hp : ∀ n, IsR (p n)) (h : Fin 4) (d : Fin 256) : IsR (qR c s p h d) :=
  IsR.rot hc hs (fun _ => hp _) d

/-- A head's keys of finite rows are finite. -/
theorem IsR.kR {c s : Fin 128 → EReal} {p : Fin 4096 → EReal} (hc : ∀ n, IsR (c n)) (hs : ∀ n, IsR (s n)) (hp : ∀ n, IsR (p n)) (h : Fin 4) (d : Fin 256) : IsR (kR c s p h d) :=
  (IsR.rot hc hs (fun _ => hp _) d).mul IsR.c16

/-! ### The blocks' states add up to the whole sum -/

/-- The decay from row `j` to row `i` as a real number. -/
def decR (l : ℝ) (i j : ℕ) : ℝ := if j ≤ i then Real.exp (((i : ℝ) - (j : ℝ)) * l) else 0

/-- The decay of a real logarithm is real. -/
theorem dec_coe (l : ℝ) (i j : ℕ) : dec (l : EReal) i j = (decR l i j : EReal) := by
  unfold dec decR
  split
  · rw [← EReal.coe_mul]
    rfl
  · exact EReal.coe_zero.symm

/-- The state before row `256 n` of a sequence: every earlier row's key and value, decayed to the last of them. -/
def Sc (l : ℝ) (k v : ℕ → Fin 256 → ℝ) (n : ℕ) (d e : Fin 256) : ℝ :=
  ∑ j ∈ Finset.range (256 * n), k j d * Real.exp (((256 * n : ℝ) - 1 - (j : ℝ)) * l) * v j e

/-- The state after one more block. -/
theorem Sc_succ (l : ℝ) (k v : ℕ → Fin 256 → ℝ) (n : ℕ) (d e : Fin 256) :
    Sc l k v (n + 1) d e = Sc l k v n d e * Real.exp (256 * l) + ∑ j : Fin 256, k (256 * n + j.val) d * Real.exp ((255 - (j.val : ℝ)) * l) * v (256 * n + j.val) e := by
  unfold Sc
  rw [show 256 * (n + 1) = 256 * n + 256 by ring, Finset.sum_range_add, Finset.sum_mul]
  refine congrArg₂ (· + ·) (Finset.sum_congr rfl fun j _ => ?_) ?_
  · rw [show ((256 * ((n + 1 : ℕ) : ℝ)) - 1 - (j : ℝ)) * l = ((256 * n : ℝ) - 1 - (j : ℝ)) * l + 256 * l by push_cast; ring, Real.exp_add]
    ring
  · rw [Finset.sum_range]
    refine Finset.sum_congr rfl fun j _ => ?_
    rw [show ((256 * ((n + 1 : ℕ) : ℝ)) - 1 - ((256 * n + j.val : ℕ) : ℝ)) = 255 - (j.val : ℝ) by push_cast; ring]

/-- A row's retention over its block and from the state is the retention over the whole sequence. -/
theorem ret_real (l : ℝ) (q : Fin 256 → ℝ) (k v : ℕ → Fin 256 → ℝ) (n r : ℕ) (i e : Fin 256) :
    (∑ j : Fin 256, (∑ d, q d * k (256 * n + j.val) d) * decR l i.val j.val * v (256 * n + j.val) e) + ∑ d, q d * Real.exp (((i.val : ℝ) + 1) * l) * Sc l k v n d e
      = ∑ j ∈ Finset.range (256 * n + 256 + r), (∑ d, q d * k j d) * decR l (256 * n + i.val) j * v j e := by
  rw [Finset.sum_range_add, Finset.sum_range_add _ (256 * n)]
  have h3 : ∑ x ∈ Finset.range r, (∑ d, q d * k (256 * n + 256 + x) d) * decR l (256 * n + i.val) (256 * n + 256 + x) * v (256 * n + 256 + x) e = 0 :=
    Finset.sum_eq_zero fun x _ => by
      rw [show decR l (256 * n + i.val) (256 * n + 256 + x) = 0 from if_neg (by omega)]
      ring
  have h2 : ∑ x ∈ Finset.range 256, (∑ d, q d * k (256 * n + x) d) * decR l (256 * n + i.val) (256 * n + x) * v (256 * n + x) e
      = ∑ j : Fin 256, (∑ d, q d * k (256 * n + j.val) d) * decR l i.val j.val * v (256 * n + j.val) e := by
    rw [Finset.sum_range]
    refine Finset.sum_congr rfl fun j _ => ?_
    rw [show decR l (256 * n + i.val) (256 * n + j.val) = decR l i.val j.val by
      unfold decR
      refine if_congr (by omega) ?_ rfl
      push_cast
      congr 2
      ring]
  have h1 : ∑ d, q d * Real.exp (((i.val : ℝ) + 1) * l) * Sc l k v n d e
      = ∑ x ∈ Finset.range (256 * n), (∑ d, q d * k x d) * decR l (256 * n + i.val) x * v x e := by
    unfold Sc
    simp only [Finset.mul_sum, Finset.sum_mul]
    rw [Finset.sum_comm]
    refine Finset.sum_congr rfl fun j hj => Finset.sum_congr rfl fun d _ => ?_
    have hj := Finset.mem_range.1 hj
    rw [show decR l (256 * n + i.val) j = Real.exp (((i.val : ℝ) + 1) * l) * Real.exp (((256 * n : ℝ) - 1 - (j : ℝ)) * l) by
      rw [← Real.exp_add]
      unfold decR
      rw [if_pos (by omega)]
      push_cast
      congr 1
      ring]
    ring
  rw [h3, h2, h1]
  ring

/-- The state before block `B` of the flattened rows: zero where a sequence starts. -/
def bef (lg gp : EReal) (K V : ℕ → Fin 256 → EReal) : ℕ → Fin 256 → Fin 256 → EReal
  | 0 => fun _ _ => 0
  | B + 1 => if (B + 1) % 8 = 0 then fun _ _ => 0 else stB lg gp (fun j => K (256 * B + j.val)) (fun j => V (256 * B + j.val)) (bef lg gp K V B)

/-- The state before a sequence's first block is zero. -/
theorem bef_zero (lg gp : EReal) (K V : ℕ → Fin 256 → EReal) (B : ℕ) (h : B % 8 = 0) : bef lg gp K V B = fun _ _ => 0 := by
  cases B with
  | zero => rfl
  | succ B => exact if_pos h

/-- The state before a later block is the one the block before it leaves. -/
theorem bef_succ (lg gp : EReal) (K V : ℕ → Fin 256 → EReal) (B : ℕ) (h : ¬(B + 1) % 8 = 0) :
    bef lg gp K V (B + 1) = stB lg gp (fun j => K (256 * B + j.val)) (fun j => V (256 * B + j.val)) (bef lg gp K V B) := if_neg h

/-- The states of finite keys and values are the sums over the earlier rows of the sequence. -/
theorem bef_coe (l : ℝ) (K V : ℕ → Fin 256 → EReal) (k v : ℕ → Fin 256 → ℝ) (hK : ∀ t d, K t d = (k t d : EReal)) (hV : ∀ t d, V t d = (v t d : EReal)) (b : ℕ) :
    ∀ n, n < 8 → ∀ d e, bef (l : EReal) ((Real.exp (256 * l) : ℝ) : EReal) K V (8 * b + n) d e
      = (Sc l (fun j => k (2048 * b + j)) (fun j => v (2048 * b + j)) n d e : EReal) := by
  intro n
  induction n with
  | zero =>
    intro _ d e
    rw [bef_zero _ _ _ _ _ (by omega)]
    simp [Sc]
  | succ n ih =>
    intro hn d e
    rw [← Nat.add_assoc, bef_succ _ _ _ _ _ (by omega)]
    unfold stB
    rw [ih (by omega), Sc_succ]
    have hs : (∑ j : Fin 256, K (256 * (8 * b + n) + j.val) d * Ideal.exp (((255 - (j.val : ℝ) : ℝ) : EReal) * (l : EReal)) * V (256 * (8 * b + n) + j.val) e)
        = ((∑ j : Fin 256, k (2048 * b + (256 * n + j.val)) d * Real.exp ((255 - (j.val : ℝ)) * l) * v (2048 * b + (256 * n + j.val)) e : ℝ) : EReal) := by
      rw [← coe_sum]
      refine Finset.sum_congr rfl fun j _ => ?_
      rw [hK, hV, ← EReal.coe_mul, show 256 * (8 * b + n) + j.val = 2048 * b + (256 * n + j.val) by ring, EReal.coe_mul, EReal.coe_mul]
      rfl
    rw [hs, ← EReal.coe_mul, ← EReal.coe_add]

/-- The retention over the whole sequence, of row `256 B + i` of the flattened rows. -/
def retS (lg : EReal) (q : Fin 256 → EReal) (K V : ℕ → Fin 256 → EReal) (B : ℕ) (i e : Fin 256) : EReal :=
  ∑ j : Fin 2048, (∑ d, q d * K (2048 * (B / 8) + j.val) d) * dec lg (256 * (B % 8) + i.val) j.val * V (2048 * (B / 8) + j.val) e

/-- On finite queries, keys and values the blockwise retention is the whole one. -/
theorem ret_eq (l : ℝ) (q : Fin 256 → EReal) (K V : ℕ → Fin 256 → EReal) (hq : ∀ d, IsR (q d)) (hK : ∀ t d, IsR (K t d)) (hV : ∀ t d, IsR (V t d)) (B : ℕ) (i e : Fin 256) :
    retB (l : EReal) q (fun j => K (256 * B + j.val)) (fun j => V (256 * B + j.val)) (bef (l : EReal) ((Real.exp (256 * l) : ℝ) : EReal) K V B) i e
      = retS (l : EReal) q K V B i e := by
  choose q' hq using hq
  choose k hK using hK
  choose v hV using hV
  have hB : B = 8 * (B / 8) + B % 8 := by omega
  have hb := bef_coe l K V k v hK hV (B / 8) (B % 8) (by omega)
  rw [← hB] at hb
  have main := ret_real l q' (fun j => k (2048 * (B / 8) + j)) (fun j => v (2048 * (B / 8) + j)) (B % 8) (2048 - (256 * (B % 8) + 256)) i e
  rw [show 256 * (B % 8) + 256 + (2048 - (256 * (B % 8) + 256)) = 2048 by omega, Finset.sum_range] at main
  have hr : retS (l : EReal) q K V B i e
      = ((∑ j : Fin 2048, (∑ d, q' d * k (2048 * (B / 8) + j.val) d) * decR l (256 * (B % 8) + i.val) j.val * v (2048 * (B / 8) + j.val) e : ℝ) : EReal) := by
    unfold retS
    rw [← coe_sum]
    refine Finset.sum_congr rfl fun j _ => ?_
    rw [dec_coe, hV, EReal.coe_mul, EReal.coe_mul, ← coe_sum]
    simp only [hq, hK, EReal.coe_mul]
  rw [hr, ← main]
  unfold retB
  refine (congrArg₂ (· + ·) ?_ ?_).trans (EReal.coe_add _ _).symm
  all_goals rw [← coe_sum]
  on_goal 1 => refine Finset.sum_congr rfl fun j _ => ?_
  on_goal 2 => refine Finset.sum_congr rfl fun d _ => ?_
  all_goals beta_reduce
  · rw [dec_coe, hV, EReal.coe_mul, EReal.coe_mul, ← coe_sum, show 256 * B + j.val = 2048 * (B / 8) + (256 * (B % 8) + j.val) by omega]
    simp only [hq, hK, EReal.coe_mul]
  · rw [hb, hq, ← EReal.coe_mul, EReal.coe_mul, EReal.coe_mul]
    rfl

/-! ### The retention of the flattened rows from the call's arguments -/

/-- The arguments of the call: the activations, the modulation, the gain before the projections, the weights, the heads' gains. -/
structure Args where
  /-- The activations. -/
  x : Fin 32768 → Fin 2048 → EReal
  /-- The modulation. -/
  md : Fin 16 → Fin 3 → Fin 2048 → EReal
  /-- The gain before the projections. -/
  g : Fin 2048 → EReal
  /-- The weights. -/
  w : Fin 2048 → Fin 4096 → EReal
  /-- The heads' gains. -/
  n : Fin 1024 → EReal

/-- Row `R` of the flattened activations. -/
def fR (R : ℕ) : Fin 32768 := ⟨R % 32768, Nat.mod_lt _ (by decide)⟩

/-- The sequence of row `R`. -/
def sR (R : ℕ) : Fin 16 := ⟨R % 32768 / 2048, by omega⟩

/-- The normed row. -/
def hG (A : Args) (R : ℕ) : Fin 2048 → EReal := hrow (A.x (fR R)) A.g (A.md (sR R) 1) (A.md (sR R) 0)

/-- The row's projections. -/
def pG (A : Args) (R : ℕ) (e : Fin 4096) : EReal := ∑ k, hG A R k * A.w k e

/-- The cosines of the row's position. -/
def cG (R : ℕ) (n : Fin 128) : EReal := Ideal.cos (ang (R % 2048) n.val)

/-- The sines of the row's position. -/
def sG (R : ℕ) (n : Fin 128) : EReal := Ideal.sin (ang (R % 2048) n.val)

/-- The row's queries of a head. -/
def qG (A : Args) (H : Fin 4) (R : ℕ) : Fin 256 → EReal := qR (cG R) (sG R) (pG A R) H

/-- The row's keys of a head. -/
def kG (A : Args) (H : Fin 4) (R : ℕ) : Fin 256 → EReal := kR (cG R) (sG R) (pG A R) H

/-- The row's values of a head. -/
def vG (A : Args) (H : Fin 4) (R : ℕ) : Fin 256 → EReal := vR (pG A R) H

/-- The logarithm of a head's decay. -/
def lG (H : Fin 4) : EReal := ((Real.log (gam H) : ℝ) : EReal)

/-- A head's decay over a whole block. -/
def pwG (H : Fin 4) : EReal := ((Real.exp (256 * Real.log (gam H)) : ℝ) : EReal)

/-- A head's state before block `B`. -/
def befG (A : Args) (H : Fin 4) (B : ℕ) : Fin 256 → Fin 256 → EReal := bef (lG H) (pwG H) (kG A H) (vG A H) B

/-- A head's state after block `B`. -/
def aftG (A : Args) (H : Fin 4) (B : ℕ) : Fin 256 → Fin 256 → EReal :=
  stB (lG H) (pwG H) (fun j => kG A H (256 * B + j.val)) (fun j => vG A H (256 * B + j.val)) (befG A H B)

/-- The state before a block is what the block before left, within a sequence. -/
theorem befG_succ (A : Args) (H : Fin 4) (B : ℕ) (h : ¬(B + 1) % 8 = 0) : befG A H (B + 1) = aftG A H B := bef_succ _ _ _ _ _ h

/-- The result of row `i` of block `B`, blockwise. -/
def outK (A : Args) (H : Fin 4) (B : ℕ) (i e : Fin 256) : EReal :=
  outB (retB (lG H) (qG A H (256 * B + i.val)) (fun j => kG A H (256 * B + j.val)) (fun j => vG A H (256 * B + j.val)) (befG A H B) i)
    (nR A.n H) (gR (pG A (256 * B + i.val)) H) e

/-- The result of row `i` of block `B` by the whole sum. -/
def outS (A : Args) (H : Fin 4) (B : ℕ) (i e : Fin 256) : EReal :=
  outB (retS (lG H) (qG A H (256 * B + i.val)) (kG A H) (vG A H) B i) (nR A.n H) (gR (pG A (256 * B + i.val)) H) e

/-- On finite arguments the two agree. -/
theorem outK_eq (A : Args) (hx : ∀ R k, IsR (A.x R k)) (hm : ∀ b p k, IsR (A.md b p k)) (hg : ∀ k, IsR (A.g k)) (hw : ∀ k e, IsR (A.w k e))
    (H : Fin 4) (B : ℕ) (i e : Fin 256) : outK A H B i e = outS A H B i e := by
  have hh : ∀ R k, IsR (hG A R k) := fun R k => IsR.hrow (hx _) hg (hm _ _) (hm _ _) k
  have hp : ∀ R e, IsR (pG A R e) := fun R e => IsR.sum _ _ fun k => (hh R k).mul (hw k e)
  have hc : ∀ R n, IsR (cG R n) := fun R n => IsR.cos (IsR.ang _ _ (by omega) (by omega))
  have hs : ∀ R n, IsR (sG R n) := fun R n => IsR.sin (IsR.ang _ _ (by omega) (by omega))
  unfold outK outS
  refine congrArg (fun o => outB o _ _ e) (funext fun e => ?_)
  exact ret_eq _ _ (kG A H) (vG A H) (fun d => IsR.qR (hc _) (hs _) (hp _) H d) (fun t d => IsR.kR (hc _) (hs _) (hp _) H d) (fun t d => hp _ _) B i e

end Cert.Ret
-- ==== Proof.RetBlk.lean ====
module

public import proofs.«01_k».proof.Proof.RetStep
public import proofs.«01_k».proof.Proof.RetMath

@[expose] public section

/-! The blocks a grid point of the retention kernel is given, read from the call's arguments, and the kernel's named constants. -/

set_option maxRecDepth 16384

noncomputable section

namespace Cert.KernelIdeal.Step
open Cert.KernelIdeal Cert.KernelIdeal.Gen Idealize.ShloMosaic Idealize.ShloMosaic.TcCoe Idealize.SL.Sem Cert.KernelIdeal.Head Cert.Rows Cert.Ret
open Idealize.ShloMosaic.Pipeline (Dat)

variable (m : (ℓ : Loc nD τ sig) → Buf (Elt Ideal) ℓ)

/-- The arguments of the call. -/
def args (c : Dev nD) : Args where
  x R k := m ((c : Thread nD τ).loc main_arg0) (ix2 R k)
  md b p k := m ((c : Thread nD τ).loc main_arg1) (ix3 b p k)
  g k := m ((c : Thread nD τ).loc main_arg2) (ix1 k)
  w k e := m ((c : Thread nD τ).loc main_arg3) (ix2 k e)
  n e := m ((c : Thread nD τ).loc main_arg4) (ix1 e)

/-- The block indices of the windows at a point. -/
theorem idx : ∀ t : Fin cfg0.N, win0_0.index t = ![2 * t.val - 1, 0] ∧ win0_1.index t = ![(2 * t.val - 1) / 8, 0, 0]
    ∧ win0_2.index t = ![min (2 * t.val) 127, 0] ∧ win0_3.index t = ![min (2 * t.val) 127 / 8, 0, 0]
    ∧ win0_4.index t = ![0, 0] ∧ win0_5.index t = ![0, 0] ∧ win0_6.index t = ![(t.val - 1) % 4, 0] ∧ win0_7.index t = ![(t.val - 1) % 4, 0]
    ∧ win0_8.index t = ![0, 0] ∧ win0_9.index t = ![t.val - 1, 0] := by
  decide +kernel

/-- Whether a point's first block starts a sequence, by its number. -/
theorem bit_iff : ∀ t : Fin cfg0.N, bit t = 1#1 ↔ (2 * t.val + 6) % 8 = 0 := by
  decide +kernel

/-- The point's number bounded. -/
theorem lt65 (t : Fin cfg0.N) : t.val < 65 := lt_of_lt_of_eq t.isLt N_0

/-- The first block's activations at an index. -/
theorem blk0 (c : Dev nD) (t : Fin cfg0.N) (r : Fin 256) (k : Fin 2048) :
    (iblk m c 0 t (ix2 r k) : EReal) = m ((c : Thread nD τ).loc main_arg0) (ix2 ⟨256 * (2 * t.val - 1) + r.val, by have := lt65 t; omega⟩ k) := by
  blk_ext [iblk, V, idx t]

/-- The first block's modulation at an index. -/
theorem blk1 (c : Dev nD) (t : Fin cfg0.N) (r : Fin 3) (k : Fin 2048) :
    (iblk m c 1 t (ix3 0 r k) : EReal) = m ((c : Thread nD τ).loc main_arg1) (ix3 ⟨(2 * t.val - 1) / 8, by have := lt65 t; omega⟩ r k) := by
  blk_ext [iblk, V, idx t]

/-- The second block's activations at an index. -/
theorem blk2 (c : Dev nD) (t : Fin cfg0.N) (r : Fin 256) (k : Fin 2048) :
    (iblk m c 2 t (ix2 r k) : EReal) = m ((c : Thread nD τ).loc main_arg0) (ix2 ⟨256 * min (2 * t.val) 127 + r.val, by have := lt65 t; omega⟩ k) := by
  blk_ext [iblk, V, idx t]

/-- The second block's modulation at an index. -/
theorem blk3 (c : Dev nD) (t : Fin cfg0.N) (r : Fin 3) (k : Fin 2048) :
    (iblk m c 3 t (ix3 0 r k) : EReal) = m ((c : Thread nD τ).loc main_arg1) (ix3 ⟨min (2 * t.val) 127 / 8, by have := lt65 t; omega⟩ r k) := by
  blk_ext [iblk, V, idx t]

/-- The gain before the projections at an index. -/
theorem blk4 (c : Dev nD) (t : Fin cfg0.N) (k : Fin 2048) :
    (iblk m c 4 t (ix2 0 k) : EReal) = m ((c : Thread nD τ).loc main_arg2) (ix1 k) := by
  have hb : iblk m c 4 t (ix2 0 k) = V m c main_v15 (ix2 0 k) := by blk_ext [iblk, idx t]
  rw [hb]
  entry_read
  pointwise

/-- The weights at an index. -/
theorem blk5 (c : Dev nD) (t : Fin cfg0.N) (k : Fin 2048) (e : Fin 4096) :
    (iblk m c 5 t (ix2 k e) : EReal) = m ((c : Thread nD τ).loc main_arg3) (ix2 k e) := by
  have hb : iblk m c 5 t (ix2 k e) = V m c main_v0 (ix2 k e) := by blk_ext [iblk, idx t]
  rw [hb]
  entry_read
  pointwise

/-- The cosines at an index. -/
theorem blk6 (c : Dev nD) (t : Fin cfg0.N) (r : Fin 512) (n : Fin 128) :
    (iblk m c 6 t (ix2 r n) : EReal) = Ideal.cos (ang (512 * ((t.val - 1) % 4) + r.val) n.val) := by
  have hb : iblk m c 6 t (ix2 r n) = V m c main_v13 (ix2 ⟨512 * ((t.val - 1) % 4) + r.val, by omega⟩ n) := by blk_ext [iblk, idx t]
  rw [hb]
  entry_read
  pointwise
  rfl

/-- The sines at an index. -/
theorem blk7 (c : Dev nD) (t : Fin cfg0.N) (r : Fin 512) (n : Fin 128) :
    (iblk m c 7 t (ix2 r n) : EReal) = Ideal.sin (ang (512 * ((t.val - 1) % 4) + r.val) n.val) := by
  have hb : iblk m c 7 t (ix2 r n) = V m c main_v14 (ix2 ⟨512 * ((t.val - 1) % 4) + r.val, by omega⟩ n) := by blk_ext [iblk, idx t]
  rw [hb]
  entry_read
  pointwise
  rfl

/-- The heads' gains at an index. -/
theorem blk8 (c : Dev nD) (t : Fin cfg0.N) (e : Fin 1024) :
    (iblk m c 8 t (ix2 0 e) : EReal) = m ((c : Thread nD τ).loc main_arg4) (ix1 e) := by
  have hb : iblk m c 8 t (ix2 0 e) = V m c main_v16 (ix2 0 e) := by blk_ext [iblk, idx t]
  rw [hb]
  entry_read
  pointwise

/-- The named logarithms are the decays'. -/
theorem lgW_eq (H : Fin 4) : (lgW H : EReal) = lG H := by
  unfold lG gam
  match H with
  | 0 => exact (IdealRules.named_const.ideal_named_scalar _ _ _ _ rfl).trans (by norm_num)
  | 1 => exact (IdealRules.named_const.ideal_named_scalar _ _ _ _ rfl).trans (by norm_num)
  | 2 => exact (IdealRules.named_const.ideal_named_scalar _ _ _ _ rfl).trans (by norm_num)
  | 3 => exact (IdealRules.named_const.ideal_named_scalar _ _ _ _ rfl).trans (by norm_num)

/-- The decay over a block as a power. -/
theorem pwG_eq (H : Fin 4) : pwG H = ((gam H ^ 256 : ℝ) : EReal) := by
  unfold pwG
  congr 1
  rw [show (256 : ℝ) = ((256 : ℕ) : ℝ) by norm_num, Real.exp_nat_mul, Real.exp_log (gam_pos H)]

/-- The named powers are the decays' over a block. -/
theorem gpW_eq (H : Fin 4) : (gpW H : EReal) = pwG H := by
  rw [pwG_eq]
  unfold gam
  match H with
  | 0 => exact (IdealRules.named_const.ideal_named_scalar _ _ _ _ rfl).trans (by norm_num)
  | 1 => exact (IdealRules.named_const.ideal_named_scalar _ _ _ _ rfl).trans (by norm_num)
  | 2 => exact (IdealRules.named_const.ideal_named_scalar _ _ _ _ rfl).trans (by norm_num)
  | 3 => exact (IdealRules.named_const.ideal_named_scalar _ _ _ _ rfl).trans (by norm_num)

end Cert.KernelIdeal.Step
-- ==== Proof.RetPay.lean ====
module

public import proofs.«01_k».proof.Proof.RetVec
public import proofs.«01_k».proof.Proof.RetMath
public import Idealize.ShloMosaic.Lib.Pipeline.ValueKit
public import Idealize.ShloMosaic.Lib.Affine

@[expose] public section

/-! The vector expressions of one head at an index. -/

set_option maxRecDepth 16384

noncomputable section

namespace Cert.KernelIdeal.Pay
open Cert.KernelIdeal Cert.KernelIdeal.Gen Idealize.ShloMosaic Cert.KernelIdeal.Head Cert.Ret

/-- The integer of a difference of two small words. -/
theorem si_sub (i j : ℕ) (hi : i < 256) (hj : j < 256) :
    (FloatOps.sitofp (F := Ideal) FTy.f32 (IntOp.subi (BitVec.ofNat 32 i) (BitVec.ofNat 32 j)) : EReal) = (((i : ℝ) - (j : ℝ) : ℝ) : EReal) := by
  show ((((BitVec.ofNat 32 i - BitVec.ofNat 32 j).toInt : ℤ) : ℝ) : EReal) = _
  rw [show (BitVec.ofNat 32 i - BitVec.ofNat 32 j).toInt = (i : ℤ) - (j : ℤ) from by
    rw [BitVec.toInt_sub, BitVec.toInt_ofNat', BitVec.toInt_ofNat']; simp [Int.bmod]; omega]
  push_cast
  rfl

/-- The words' order is the numbers'. -/
theorem ge (i j : ℕ) (hi : i < 256) (hj : j < 256) : IntOp.cmpi CmpIPredicate.sge (BitVec.ofNat 32 i) (BitVec.ofNat 32 j) = 1#1 ↔ j ≤ i := by
  rw [IntOp.cmpi_sge, BitVec.toInt_ofNat', BitVec.toInt_ofNat']
  simp [Int.bmod]
  omega

/-- The rotary phase at an index. -/
theorem rotV_apply (cos sin : Vec Ideal S256x128 .f32) (x : Vec Ideal S256x256 .f32) (r e : Fin 256) :
    (rotV cos sin x (ix2 r e) : EReal) = rot (fun n => cos (ix2 r n)) (fun n => sin (ix2 r n)) (fun n => x (ix2 r n)) e := by
  unfold rotV rot
  pointwise
  by_cases h : e.val < 128
  · simp only [h, dite_true, Nat.add_comm]
  · simp only [h, dite_false]
    simp only [show 128 + (e.val - 128) = e.val from by omega]

/-- The decay inside a block at an index. -/
theorem decayV_apply (lg : Ideal .f32) (i j : Fin 256) : (decayV lg (ix2 i j) : EReal) = dec lg i.val j.val := by
  unfold decayV dec
  pointwise
  rw [si_sub _ _ i.isLt j.isLt]
  unfold Scalar.select
  simp only [show (1 : BitVec 1) = 1#1 from rfl, ge _ _ i.isLt j.isLt]
  congr 2

/-- The state a block starts from, at an index. -/
theorem startV_apply (b : BitVec 1) (s : Vec Ideal S1x256x256 .f32) (d e : Fin 256) : (startV b s (ix2 d e) : EReal) = if b = 1#1 then 0 else s (ix3 0 d e) := by
  unfold startV
  pointwise
  rfl

/-- The literal of the last row's number. -/
theorem lit255 : Ideal.ofBits FTy.f32 0x437F0000#32 = ((255 : ℝ) : EReal) := by
  simp [Ideal.ofBits, Ideal.ieee, -EReal.coe_mul]
  norm_num

/-- The state a block leaves, at an index. -/
theorem stateV_apply (lg gp : Ideal .f32) (cos sin : Vec Ideal S256x128 .f32) (k v : Vec Ideal S256x256 .f32) (s : FVec Ideal S256x256 .f32) (d e : Fin 256) :
    (stateV lg gp cos sin k v s (ix3 0 d e) : EReal)
      = stB lg gp (fun j d => rotV cos sin k (ix2 j d) * c16) (fun j e => v (ix2 j e)) (fun d e => s (ix2 d e)) d e := by
  unfold stateV keyV stB posV c16
  pointwise
  refine congrArg₂ (· + ·) rfl (Finset.sum_congr rfl fun j _ => ?_)
  rw [si _ (lt_trans j.isLt (by decide)), lit255, ← EReal.coe_sub]

/-- A block's retention at an index. -/
theorem retV_apply (lg : Ideal .f32) (cos sin : Vec Ideal S256x128 .f32) (q k v : Vec Ideal S256x256 .f32) (s : FVec Ideal S256x256 .f32) (i e : Fin 256) :
    (retV lg cos sin q k v s (ix2 i e) : EReal)
      = retB lg (fun d => rotV cos sin q (ix2 i d)) (fun j d => rotV cos sin k (ix2 j d) * c16) (fun j e => v (ix2 j e)) (fun d e => s (ix2 d e)) i e := by
  unfold retV keyV retB posV c16
  pointwise
  simp only [decayV_apply, si _ (lt_trans i.isLt (by decide))]
  rw [← EReal.coe_one, ← EReal.coe_add]

/-- A head's result at an index. -/
theorem outV_apply (o : FVec Ideal S256x256 .f32) (nrm : Vec Ideal S1x256 .f32) (g : Vec Ideal S256x256 .f32) (i e : Fin 256) :
    (outV o nrm g (ix2 i e) : EReal) = outB (fun k => o (ix2 i k)) (fun k => nrm (ix2 0 k)) (fun k => g (ix2 i k)) e := by
  unfold outV outB
  pointwise

end Cert.KernelIdeal.Pay
-- ==== Proof.RetHead.lean ====
module

public import proofs.«01_k».proof.Proof.RetPay
public import Idealize.ShloMosaic.Lib.Pipeline.ValueKit
public import Idealize.ShloMosaic.Lib.Pipeline.ReadBack

@[expose] public section

/-! The eight heads' results and states of a grid point at an index, and the output block and the states put together from them. -/

set_option maxRecDepth 16384

noncomputable section

namespace Cert.KernelIdeal.Pay
open Cert.KernelIdeal Cert.KernelIdeal.Gen Idealize.ShloMosaic Cert.KernelIdeal.Head Cert.Ret

/-- The heads' offsets. -/
def F : Fin 4 → Off := ![f0, f1, f2, f3]

/-- The heads' offsets are numbered by the head. -/
theorem F_h : ∀ H : Fin 4, (F H).h = H.val := by decide

/-- A load of 256 columns of the projections. -/
theorem ld_col (P : Vec Ideal S256x4096 .f32) (n : ℕ) (hn) (i e : Fin 256) : View.ld (Val := Elt Ideal) P (colR n hn) (ix2 i e) = P (ix2 i ⟨n + e.val, by omega⟩) :=
  View.ld_unit_apply_of _ _ _ _ _ _ (by intro a; fin_cases a <;> simp [ix2])

/-- A load of a head's gains. -/
theorem ld_nrm (N : Vec Ideal S1x1024 .f32) (n : ℕ) (hn) (e : Fin 256) : View.ld (Val := Elt Ideal) N (nrmR n hn) (ix2 0 e) = N (ix2 0 ⟨n + e.val, by omega⟩) :=
  View.ld_unit_apply_of _ _ _ _ _ _ (by intro a; fin_cases a <;> simp [ix2])

/-- A load of a head's state. -/
theorem ld_st (s : Vec Ideal S4x256x256 .f32) (n : ℕ) (hn : n < 4) (d e : Fin 256) : View.ld (Val := Elt Ideal) s (stR n hn) (ix3 0 d e) = s (ix3 ⟨n, hn⟩ d e) :=
  View.ld_unit_apply_of _ _ _ _ _ _ (by intro a; fin_cases a <;> simp [ix3])

/-- A load of half the rows of a rotary table. -/
theorem ld_tab (C : Vec Ideal S512x128 .f32) (b : ℕ) (hb) (i : Fin 256) (n : Fin 128) : View.ld (Val := Elt Ideal) C (tabR b hb) (ix2 i n) = C (ix2 ⟨b + i.val, by omega⟩ n) :=
  View.ld_unit_apply_of _ _ _ _ _ _ (by intro a; fin_cases a <;> simp [ix2])

/-- Row `b + i` of a rotary table. -/
def tab (C : Vec Ideal S512x128 .f32) (b : ℕ) (hb : b + 256 ≤ 512) (i : Fin 256) (n : Fin 128) : EReal := C (ix2 ⟨b + i.val, by omega⟩ n)

/-- Row `i` of the projections. -/
def prow (P : Vec Ideal S256x4096 .f32) (i : Fin 256) (c : Fin 4096) : EReal := P (ix2 i c)

/-- The rotary phase of loaded columns. -/
theorem rot_ld (C D : Vec Ideal S512x128 .f32) (b : ℕ) (hb : b + 256 ≤ 512) (P : Vec Ideal S256x4096 .f32) (n : ℕ) (hn) (i d : Fin 256) :
    (rotV (View.ld C (tabR b hb)) (View.ld D (tabR b hb)) (View.ld P (colR n hn)) (ix2 i d) : EReal)
      = rot (tab C b hb i) (tab D b hb i) (fun e => prow P i ⟨n + e.val, by omega⟩) d := by
  refine (rotV_apply _ _ _ _ _).trans (rot_congr (fun n => ld_tab C b hb i n) (fun n => ld_tab D b hb i n) (fun n => ld_col P _ hn i n))

/-- A head's result from loaded vectors known entry by entry. -/
theorem outV_at {o : FVec Ideal S256x256 .f32} {nrm : Vec Ideal S1x256 .f32} {g : Vec Ideal S256x256 .f32} {i : Fin 256} {o' n' g' : Fin 256 → EReal}
    (ho : ∀ e, o (ix2 i e) = o' e) (hn : ∀ e, nrm (ix2 0 e) = n' e) (hg : ∀ e, g (ix2 i e) = g' e) (e : Fin 256) : (outV o nrm g (ix2 i e) : EReal) = outB o' n' g' e := by
  rw [outV_apply, ← funext ho, ← funext hn, ← funext hg]

/-- The retention of loaded vectors known entry by entry. -/
theorem retV_at {lg : Ideal .f32} {cos sin : Vec Ideal S256x128 .f32} {q k v : Vec Ideal S256x256 .f32} {s : FVec Ideal S256x256 .f32} {i : Fin 256}
    {q' : Fin 256 → EReal} {k' v' s' : Fin 256 → Fin 256 → EReal}
    (hq : ∀ d, rotV cos sin q (ix2 i d) = q' d) (hk : ∀ j d, (rotV cos sin k (ix2 j d) : EReal) * c16 = k' j d) (hv : ∀ j e, v (ix2 j e) = v' j e) (hs : ∀ d e, s (ix2 d e) = s' d e)
    (e : Fin 256) : (retV lg cos sin q k v s (ix2 i e) : EReal) = retB lg q' k' v' s' i e := by
  rw [retV_apply, ← funext hq, ← funext₂ hk, ← funext₂ hv, ← funext₂ hs]

/-- The state left from loaded vectors known entry by entry. -/
theorem stateV_at {lg gp : Ideal .f32} {cos sin : Vec Ideal S256x128 .f32} {k v : Vec Ideal S256x256 .f32} {s : FVec Ideal S256x256 .f32}
    {k' v' s' : Fin 256 → Fin 256 → EReal}
    (hk : ∀ j d, (rotV cos sin k (ix2 j d) : EReal) * c16 = k' j d) (hv : ∀ j e, v (ix2 j e) = v' j e) (hs : ∀ d e, s (ix2 d e) = s' d e)
    (d e : Fin 256) : (stateV lg gp cos sin k v s (ix3 0 d e) : EReal) = stB lg gp k' v' s' d e := by
  rw [stateV_apply, ← funext₂ hk, ← funext₂ hv, ← funext₂ hs]

/-- A head's queries. -/
theorem q_ld (C D : Vec Ideal S512x128 .f32) (b : ℕ) (hb : b + 256 ≤ 512) (P : Vec Ideal S256x4096 .f32) (H : Fin 4) (i d : Fin 256) :
    (rotV (View.ld C (tabR b hb)) (View.ld D (tabR b hb)) (View.ld P (colR (F H).q (F H).lq')) (ix2 i d) : EReal) = qR (tab C b hb i) (tab D b hb i) (prow P i) H d := by
  refine (rot_ld C D b hb P _ _ i d).trans ?_
  unfold qR
  refine congrArg (fun f => rot _ _ f d) (funext fun e => congrArg _ (Fin.ext ?_))
  show (F H).q + e.val = 256 * H.val + e.val
  rw [(F H).hq, F_h]

/-- A head's scaled keys. -/
theorem k_ld (C D : Vec Ideal S512x128 .f32) (b : ℕ) (hb : b + 256 ≤ 512) (P : Vec Ideal S256x4096 .f32) (H : Fin 4) (i d : Fin 256) :
    (rotV (View.ld C (tabR b hb)) (View.ld D (tabR b hb)) (View.ld P (colR (F H).k (F H).lk)) (ix2 i d) : EReal) * c16 = kR (tab C b hb i) (tab D b hb i) (prow P i) H d := by
  refine (congrArg (· * c16) (rot_ld C D b hb P _ _ i d)).trans ?_
  unfold kR
  refine congrArg (fun f => rot _ _ f d * c16) (funext fun e => congrArg _ (Fin.ext ?_))
  show (F H).k + e.val = 1024 + 256 * H.val + e.val
  rw [(F H).hk, F_h]

/-- A head's values. -/
theorem v_ld (P : Vec Ideal S256x4096 .f32) (H : Fin 4) (i e : Fin 256) : (View.ld (Val := Elt Ideal) P (colR (F H).v (F H).lv) (ix2 i e) : EReal) = vR (prow P i) H e := by
  refine (ld_col P _ _ i e).trans ?_
  refine congrArg (prow P i) (Fin.ext ?_)
  show (F H).v + e.val = 2048 + 256 * H.val + e.val
  rw [(F H).hv, F_h]

/-- A head's gates. -/
theorem g_ld (P : Vec Ideal S256x4096 .f32) (H : Fin 4) (i e : Fin 256) : (View.ld (Val := Elt Ideal) P (colR (F H).g (F H).lg) (ix2 i e) : EReal) = gR (prow P i) H e := by
  refine (ld_col P _ _ i e).trans ?_
  refine congrArg (prow P i) (Fin.ext ?_)
  show (F H).g + e.val = 3072 + 256 * H.val + e.val
  rw [(F H).hg, F_h]

/-- A head's gains. -/
theorem n_ld (N : Vec Ideal S1x1024 .f32) (H : Fin 4) (e : Fin 256) : (View.ld (Val := Elt Ideal) N (nrmR (F H).q (F H).lq) (ix2 0 e) : EReal) = nR (fun c => N (ix2 0 c)) H e := by
  refine (ld_nrm N _ _ e).trans ?_
  refine congrArg (fun c => N (ix2 0 c)) (Fin.ext ?_)
  show (F H).q + e.val = 256 * H.val + e.val
  rw [(F H).hq, F_h]

/-- A head's result from the projections' rows and the state before. -/
def outM (lg : EReal) (C D : Fin 256 → Fin 128 → EReal) (n : Fin 1024 → EReal) (P : Fin 256 → Fin 4096 → EReal) (H : Fin 4) (S : Fin 256 → Fin 256 → EReal) (i e : Fin 256) : EReal :=
  outB (retB lg (qR (C i) (D i) (P i) H) (fun j => kR (C j) (D j) (P j) H) (fun j => vR (P j) H) S i) (nR n H) (gR (P i) H) e

/-- A head's state after a block. -/
def stM (lg gp : EReal) (C D : Fin 256 → Fin 128 → EReal) (P : Fin 256 → Fin 4096 → EReal) (H : Fin 4) (S : Fin 256 → Fin 256 → EReal) : Fin 256 → Fin 256 → EReal :=
  stB lg gp (fun j => kR (C j) (D j) (P j) H) (fun j => vR (P j) H) S

/-- A head's stored result at an index. -/
theorem oP_apply (H : Fin 4) (l : Ideal .f32) (b : ℕ) (hb : b + 256 ≤ 512) (C D : Vec Ideal S512x128 .f32) (N : Vec Ideal S1x1024 .f32) (P : Vec Ideal S256x4096 .f32)
    (S : FVec Ideal S256x256 .f32) (i e : Fin 256) :
    (oP (F H) l b hb C D N P S (ix2 i e) : EReal) = outM l (tab C b hb) (tab D b hb) (fun c => N (ix2 0 c)) (prow P) H (fun d e => S (ix2 d e)) i e := by
  exact outV_at (fun e => retV_at (q_ld C D b hb P H i) (k_ld C D b hb P H) (v_ld P H) (fun _ _ => rfl) e) (n_ld N H) (g_ld P H i) e

/-- A head's stored state at an index. -/
theorem sP_apply (H : Fin 4) (l gp : Ideal .f32) (b : ℕ) (hb : b + 256 ≤ 512) (C D : Vec Ideal S512x128 .f32) (P : Vec Ideal S256x4096 .f32)
    (S : FVec Ideal S256x256 .f32) (d e : Fin 256) :
    (sP (F H) l gp b hb C D P S (ix3 0 d e) : EReal) = stM l gp (tab C b hb) (tab D b hb) (prow P) H (fun d e => S (ix2 d e)) d e := by
  exact stateV_at (k_ld C D b hb P H) (v_ld P H) (fun _ _ => rfl) d e

/-- The state a head starts the first half with. -/
def S0 (bit : BitVec 1) (s : Vec Ideal S4x256x256 .f32) (H : Fin 4) (d e : Fin 256) : EReal := if bit = 1#1 then 0 else s (ix3 H d e)

/-- The state a head starts the first half with, at an index. -/
theorem s0_apply (H : Fin 4) (bit : BitVec 1) (s : Vec Ideal S4x256x256 .f32) (d e : Fin 256) : (s0 (F H) bit s (ix2 d e) : EReal) = S0 bit s H d e := by
  refine (startV_apply bit _ d e).trans ?_
  unfold S0
  refine if_congr Iff.rfl rfl ((ld_st s _ _ d e).trans (congrArg (fun h => s (ix3 h d e)) (Fin.ext (F_h H))))

/-- The state a head starts the second half with, at an index. -/
theorem s1_apply (H : Fin 4) (l gp : Ideal .f32) (bit : BitVec 1) (C D : Vec Ideal S512x128 .f32) (P : Vec Ideal S256x4096 .f32) (s : Vec Ideal S4x256x256 .f32) (d e : Fin 256) :
    (s1 (F H) l gp bit C D P s (ix2 d e) : EReal) = stM l gp (tab C 0 (by decide)) (tab D 0 (by decide)) (prow P) H (S0 bit s H) d e := by
  refine (startV_apply 0#1 _ d e).trans ?_
  rw [if_neg (by decide)]
  exact (sP_apply H l gp 0 _ C D P _ d e).trans (congrArg (fun S => stM l gp _ _ _ H S d e) (funext₂ fun d e => s0_apply H bit s d e))

/-- The row of an index of the output block. -/
def orI (j : S512x1024.Idx) : Fin 512 := j 0

/-- The column of an index of the output block. -/
def ocI (j : S512x1024.Idx) : Fin 1024 := j 1

/-- The output block at an index. -/
def outG (bit : BitVec 1) (C D : Vec Ideal S512x128 .f32) (N : Vec Ideal S1x1024 .f32) (P Q : Vec Ideal S256x4096 .f32) (s : Vec Ideal S4x256x256 .f32) (r : Fin 512) (c : Fin 1024) : EReal :=
  let H : Fin 4 := ⟨c.val / 256, by omega⟩
  let e : Fin 256 := ⟨c.val % 256, by omega⟩
  let n : Fin 1024 → EReal := fun c => N (ix2 0 c)
  if h : r.val < 256 then outM (lgW H) (tab C 0 (by decide)) (tab D 0 (by decide)) n (prow P) H (S0 bit s H) ⟨r.val, h⟩ e
  else outM (lgW H) (tab C 256 (by decide)) (tab D 256 (by decide)) n (prow Q) H
    (stM (lgW H) (gpW H) (tab C 0 (by decide)) (tab D 0 (by decide)) (prow P) H (S0 bit s H)) ⟨r.val - 256, by omega⟩ e

/-- The stored pieces of the output block put together. -/
theorem canon_out (bit : BitVec 1) (C D : Vec Ideal S512x128 .f32) (N : Vec Ideal S1x1024 .f32) (P Q : Vec Ideal S256x4096 .f32) (s : Vec Ideal S4x256x256 .f32) (j : S512x1024.Idx) :
    (View.canon (outL bit C D N P Q s) j : EReal) = outG bit C D N P Q s (orI j) (ocI j) := by
  rw [← List.append_nil (outL bit C D N P Q s)]
  refine View.canon_append_of_pieces (fun j => outG bit C D N P Q s (orI j) (ocI j)) [] (outL bit C D N P Q s) ?_ j ?_
  · have lo : ∀ (H : Fin 4) (n : ℕ) (hn : n + 256 ≤ 1024) (x : (outR 0 n (by decide) hn).shape.Idx), n = 256 * H.val →
        (oP (F H) (lgW H) 0 (by decide) C D N P (s0 (F H) bit s) x : EReal)
          = outG bit C D N P Q s (orI ((outR 0 n (by decide) hn).emb x)) (ocI ((outR 0 n (by decide) hn).emb x)) := by
      intro H n hn x h
      obtain ⟨a, b, rfl⟩ : ∃ (a b : Fin 256), x = ix2 a b := ⟨_, _, eq_ix2 x⟩
      have h0 : orI ((outR 0 n (by decide) hn).emb (ix2 a b)) = ⟨a.val, by omega⟩ := Fin.ext (by show 0 + 1 * a.val = a.val; omega)
      have h1 : ocI ((outR 0 n (by decide) hn).emb (ix2 a b)) = ⟨256 * H.val + b.val, by omega⟩ := Fin.ext (by show n + 1 * b.val = 256 * H.val + b.val; omega)
      rw [oP_apply, h0, h1]
      unfold outG
      have e1 : (⟨(256 * H.val + b.val) / 256, by omega⟩ : Fin 4) = H := Fin.ext (by show (256 * H.val + b.val) / 256 = H.val; omega)
      have e2 : (⟨(256 * H.val + b.val) % 256, by omega⟩ : Fin 256) = b := Fin.ext (by show (256 * H.val + b.val) % 256 = b.val; omega)
      simp only [e1, e2, a.isLt, dite_true, s0_apply]
    have hi : ∀ (H : Fin 4) (n : ℕ) (hn : n + 256 ≤ 1024) (x : (outR 256 n (by decide) hn).shape.Idx), n = 256 * H.val →
        (oP (F H) (lgW H) 256 (by decide) C D N Q (s1 (F H) (lgW H) (gpW H) bit C D P s) x : EReal)
          = outG bit C D N P Q s (orI ((outR 256 n (by decide) hn).emb x)) (ocI ((outR 256 n (by decide) hn).emb x)) := by
      intro H n hn x h
      obtain ⟨a, b, rfl⟩ : ∃ (a b : Fin 256), x = ix2 a b := ⟨_, _, eq_ix2 x⟩
      have h0 : orI ((outR 256 n (by decide) hn).emb (ix2 a b)) = ⟨256 + a.val, by omega⟩ := Fin.ext (by show 256 + 1 * a.val = 256 + a.val; omega)
      have h1 : ocI ((outR 256 n (by decide) hn).emb (ix2 a b)) = ⟨256 * H.val + b.val, by omega⟩ := Fin.ext (by show n + 1 * b.val = 256 * H.val + b.val; omega)
      rw [oP_apply, h0, h1]
      unfold outG
      have e1 : (⟨(256 * H.val + b.val) / 256, by omega⟩ : Fin 4) = H := Fin.ext (by show (256 * H.val + b.val) / 256 = H.val; omega)
      have e2 : (⟨(256 * H.val + b.val) % 256, by omega⟩ : Fin 256) = b := Fin.ext (by show (256 * H.val + b.val) % 256 = b.val; omega)
      have e3 : ¬ 256 + a.val < 256 := by omega
      have e4 : (⟨256 + a.val - 256, by omega⟩ : Fin 256) = a := Fin.ext (by show 256 + a.val - 256 = a.val; omega)
      simp only [e1, e2, e3, e4, dite_false, s1_apply]
    intro p hp x
    simp only [outL, List.mem_cons, List.not_mem_nil, or_false] at hp
    rcases hp with rfl | rfl | rfl | rfl | rfl | rfl | rfl | rfl
    · exact hi 3 768 (by decide) x rfl
    · exact hi 2 512 (by decide) x rfl
    · exact hi 1 256 (by decide) x rfl
    · exact hi 0 0 (by decide) x rfl
    · exact lo 3 768 (by decide) x rfl
    · exact lo 2 512 (by decide) x rfl
    · exact lo 1 256 (by decide) x rfl
    · exact lo 0 0 (by decide) x rfl
  · have key : ∀ (r n : ℕ) (hr : r + 256 ≤ 512) (hn : n + 256 ≤ 1024), r ≤ (orI j).val → (orI j).val < r + 256 → n ≤ (ocI j).val → (ocI j).val < n + 256 →
        j ∈ (outR r n hr hn).set := by
      intro r n hr hn h1 h2 h3 h4
      refine Rect.mem_set_unit.2 fun a => ?_
      match a with
      | ⟨0, _⟩ => exact ⟨h1, h2⟩
      | ⟨1, _⟩ => exact ⟨h3, h4⟩
    have hc := (ocI j).isLt
    have hr := (orI j).isLt
    simp only [outL, List.exists_mem_cons_iff]
    rcases (by omega : (orI j).val / 256 = 0 ∨ (orI j).val / 256 = 1) with p | p <;>
    rcases (by omega : (ocI j).val / 256 = 0 ∨ (ocI j).val / 256 = 1 ∨ (ocI j).val / 256 = 2 ∨ (ocI j).val / 256 = 3) with q | q | q | q
    · exact .inr (.inr (.inr (.inr (.inr (.inr (.inr (.inl (key 0 0 (by decide) (by decide) (by omega) (by omega) (by omega) (by omega)))))))))
    · exact .inr (.inr (.inr (.inr (.inr (.inr (.inl (key 0 256 (by decide) (by decide) (by omega) (by omega) (by omega) (by omega))))))))
    · exact .inr (.inr (.inr (.inr (.inr (.inl (key 0 512 (by decide) (by decide) (by omega) (by omega) (by omega) (by omega)))))))
    · exact .inr (.inr (.inr (.inr (.inl (key 0 768 (by decide) (by decide) (by omega) (by omega) (by omega) (by omega))))))
    · exact .inr (.inr (.inr (.inl (key 256 0 (by decide) (by decide) (by omega) (by omega) (by omega) (by omega)))))
    · exact .inr (.inr (.inl (key 256 256 (by decide) (by decide) (by omega) (by omega) (by omega) (by omega))))
    · exact .inr (.inl (key 256 512 (by decide) (by decide) (by omega) (by omega) (by omega) (by omega)))
    · exact .inl (key 256 768 (by decide) (by decide) (by omega) (by omega) (by omega) (by omega))

/-- The head of an index of the states. -/
def shI (j : S4x256x256.Idx) : Fin 4 := j 0

/-- The row of an index of the states. -/
def sdI (j : S4x256x256.Idx) : Fin 256 := j 1

/-- The column of an index of the states. -/
def seI (j : S4x256x256.Idx) : Fin 256 := j 2

/-- The states a grid point leaves. -/
def stG (bit : BitVec 1) (C D : Vec Ideal S512x128 .f32) (P Q : Vec Ideal S256x4096 .f32) (s : Vec Ideal S4x256x256 .f32) (H : Fin 4) : Fin 256 → Fin 256 → EReal :=
  stM (lgW H) (gpW H) (tab C 256 (by decide)) (tab D 256 (by decide)) (prow Q) H
    (stM (lgW H) (gpW H) (tab C 0 (by decide)) (tab D 0 (by decide)) (prow P) H (S0 bit s H))

/-- The stored states put together: the second half's cover the first's. -/
theorem canon_st (bit : BitVec 1) (C D : Vec Ideal S512x128 .f32) (P Q : Vec Ideal S256x4096 .f32) (s : Vec Ideal S4x256x256 .f32) (j : S4x256x256.Idx) :
    (View.canon (stL bit C D P Q s) j : EReal) = stG bit C D P Q s (shI j) (sdI j) (seI j) := by
  refine View.canon_append_of_pieces (fun j => stG bit C D P Q s (shI j) (sdI j) (seI j)) ((stL bit C D P Q s).drop 4) ((stL bit C D P Q s).take 4) ?_ j ?_
  · have key : ∀ (H : Fin 4) (n : ℕ) (hn : n < 4) (x : (stR n hn).shape.Idx), n = H.val →
        (sP (F H) (lgW H) (gpW H) 256 (by decide) C D Q (s1 (F H) (lgW H) (gpW H) bit C D P s) x : EReal)
          = stG bit C D P Q s (shI ((stR n hn).emb x)) (sdI ((stR n hn).emb x)) (seI ((stR n hn).emb x)) := by
      intro H n hn x h
      obtain ⟨z, a, b, rfl⟩ : ∃ (z : Fin 1) (a b : Fin 256), x = ix3 z a b := ⟨_, _, _, eq_ix3 x⟩
      obtain rfl : z = 0 := Subsingleton.elim _ _
      have h0 : shI ((stR n hn).emb (ix3 0 a b)) = H := Fin.ext (by show n + 1 * 0 = H.val; omega)
      have h1 : sdI ((stR n hn).emb (ix3 0 a b)) = a := Fin.ext (by show 0 + 1 * a.val = a.val; omega)
      have h2 : seI ((stR n hn).emb (ix3 0 a b)) = b := Fin.ext (by show 0 + 1 * b.val = b.val; omega)
      rw [sP_apply, h0, h1, h2]
      unfold stG
      simp only [s1_apply]
    intro p hp x
    simp only [stL, List.take_succ_cons, List.take_zero, List.mem_cons, List.not_mem_nil, or_false] at hp
    rcases hp with rfl | rfl | rfl | rfl
    · exact key 3 3 (by decide) x rfl
    · exact key 2 2 (by decide) x rfl
    · exact key 1 1 (by decide) x rfl
    · exact key 0 0 (by decide) x rfl
  · have key : ∀ (n : ℕ) (hn : n < 4), (shI j).val = n → j ∈ (stR n hn).set := by
      intro n hn h
      refine Rect.mem_set_unit.2 fun a => ?_
      match a with
      | ⟨0, _⟩ => exact ⟨h.ge, by show (shI j).val < n + 1; omega⟩
      | ⟨1, _⟩ => exact ⟨Nat.zero_le _, by show (sdI j).val < 0 + 256; omega⟩
      | ⟨2, _⟩ => exact ⟨Nat.zero_le _, by show (seI j).val < 0 + 256; omega⟩
    have hc := (shI j).isLt
    simp only [stL, List.take_succ_cons, List.take_zero, List.exists_mem_cons_iff]
    rcases (by omega : (shI j).val = 0 ∨ (shI j).val = 1 ∨ (shI j).val = 2 ∨ (shI j).val = 3) with q | q | q | q
    · exact .inr (.inr (.inr (.inl (key 0 (by decide) q))))
    · exact .inr (.inr (.inl (key 1 (by decide) q)))
    · exact .inr (.inl (key 2 (by decide) q))
    · exact .inl (key 3 (by decide) q)

end Cert.KernelIdeal.Pay
-- ==== Proof.RetRun.lean ====
module

public import proofs.«01_k».proof.Proof.RetBlk
public import proofs.«01_k».proof.Proof.RetHead
public import proofs.«01_k».proof.Proof.Gen.KernelIdeal.Value

@[expose] public section

/-! The retention kernel's result at an index: point `t` puts the results of the blocks `2 t - 2` and `2 t - 1`, the first from the projections the
point before left, and leaves the states after block `2 t - 1` and the projections of block `2 t`. -/

set_option maxRecDepth 16384

noncomputable section

namespace Cert.KernelIdeal.Step
open Cert.KernelIdeal Cert.KernelIdeal.Gen Idealize.ShloMosaic Idealize.ShloMosaic.TcCoe Idealize.SL.Sem Cert.KernelIdeal.Head Cert.KernelIdeal.Pay Cert.Rows Cert.Ret
open Idealize.ShloMosaic.Pipeline (Dat)

variable (m : (ℓ : Loc nD τ sig) → Buf (Elt Ideal) ℓ)

/-- A row number below the array's height is itself. -/
theorem fR_eq (R : ℕ) (h : R < 32768) : (⟨R, h⟩ : Fin 32768) = fR R := Fin.ext (Nat.mod_eq_of_lt h).symm

/-- The sequence of a row of block `B`. -/
theorem sR_eq (B : ℕ) (i : Fin 256) (hB : B < 128) (h) : (⟨B / 8, h⟩ : Fin 16) = sR (256 * B + i.val) := Fin.ext (by
  show B / 8 = (256 * B + i.val) % 32768 / 2048
  omega)

/-- A point's first block's projections are those of its rows. -/
theorem Q_eq (c : Dev nD) (t : Fin cfg0.N) (i : Fin 256) (e : Fin 4096) : (Q m c t (ix2 i e) : EReal) = pG (args m c) (256 * (2 * t.val - 1) + i.val) e := by
  have ht := lt65 t
  unfold Q
  rw [← List.append_nil (projL _ _)]
  refine (canon_proj _ _ [] _).trans (Finset.sum_congr rfl fun k _ => congrArg₂ (· * ·) ?_ (blk5 m c t k e))
  refine (hV_apply _ _ _ _ _).trans (hrow_congr (fun k => (blk0 m c t i k).trans ?_) (fun k => blk4 m c t k)
    (fun k => (blk1 m c t 1 k).trans ?_) (fun k => (blk1 m c t 0 k).trans ?_) rfl)
  · rw [fR_eq]
    rfl
  · rw [sR_eq (2 * t.val - 1) i (by omega)]
    rfl
  · rw [sR_eq (2 * t.val - 1) i (by omega)]
    rfl

/-- The same of a row of them. -/
theorem prow_Q (c : Dev nD) (t : Fin cfg0.N) (i : Fin 256) : prow (Q m c t) i = pG (args m c) (256 * (2 * t.val - 1) + i.val) := by
  funext e
  unfold prow
  exact Q_eq m c t i e

/-- A point's second block's normed rows. -/
theorem h'_eq (c : Dev nD) (t : Fin cfg0.N) (i : Fin 256) (k : Fin 2048) :
    (hV (iblk m c 2 t) (iblk m c 4 t) (iblk m c 3 t) (ix2 i k) : EReal) = hG (args m c) (256 * min (2 * t.val) 127 + i.val) k := by
  have ht := lt65 t
  refine (hV_apply _ _ _ _ _).trans (hrow_congr (fun k => (blk2 m c t i k).trans ?_) (fun k => blk4 m c t k)
    (fun k => (blk3 m c t 1 k).trans ?_) (fun k => (blk3 m c t 0 k).trans ?_) rfl)
  · rw [fR_eq]
    rfl
  · rw [sR_eq (min (2 * t.val) 127) i (by omega)]
    rfl
  · rw [sR_eq (min (2 * t.val) 127) i (by omega)]
    rfl

/-- After every point the scratch holds the projections of its second block. -/
theorem p_inv (c : Dev nD) (t : Fin cfg0.N) (i : Fin 256) (e : Fin 4096) :
    ((outsAt0 m c t.val t.isLt).2.1 (ix2 i e) : EReal) = pG (args m c) (256 * min (2 * t.val) 127 + i.val) e := by
  have key : ∀ tl, (View.canon (projL (hV (iblk m c 2 t) (iblk m c 4 t) (iblk m c 3 t)) (iblk m c 5 t) ++ tl) (ix2 i e) : EReal)
      = pG (args m c) (256 * min (2 * t.val) 127 + i.val) e := fun tl =>
    (canon_proj _ _ tl _).trans (Finset.sum_congr rfl fun k _ => congrArg₂ (· * ·) (h'_eq m c t i k) (blk5 m c t k e))
  by_cases h0 : t.val % 65 = 0
  · obtain ⟨tl, h⟩ := pA m c t h0
    rw [h]
    exact key tl
  · rw [pB m c t h0]
    unfold Q'
    rw [← List.append_nil (projL _ _)]
    exact key []

/-- A point's rotary rows: the first half of the tables. -/
theorem tab_lo (c : Dev nD) (t : Fin cfg0.N) (ht : 1 ≤ t.val) (i : Fin 256) (h) :
    tab (iblk m c 6 t) 0 h i = cG (256 * (2 * t.val - 2) + i.val) ∧ tab (iblk m c 7 t) 0 h i = sG (256 * (2 * t.val - 2) + i.val) := by
  have e : 512 * ((t.val - 1) % 4) + (0 + i.val) = (256 * (2 * t.val - 2) + i.val) % 2048 := by omega
  refine ⟨funext fun n => (blk6 m c t _ n).trans ?_, funext fun n => (blk7 m c t _ n).trans ?_⟩
  · show Ideal.cos (ang (512 * ((t.val - 1) % 4) + (0 + i.val)) n.val) = _
    rw [e]
    rfl
  · show Ideal.sin (ang (512 * ((t.val - 1) % 4) + (0 + i.val)) n.val) = _
    rw [e]
    rfl

/-- A point's rotary rows: the second half of the tables. -/
theorem tab_hi (c : Dev nD) (t : Fin cfg0.N) (ht : 1 ≤ t.val) (i : Fin 256) (h) :
    tab (iblk m c 6 t) 256 h i = cG (256 * (2 * t.val - 1) + i.val) ∧ tab (iblk m c 7 t) 256 h i = sG (256 * (2 * t.val - 1) + i.val) := by
  have e : 512 * ((t.val - 1) % 4) + (256 + i.val) = (256 * (2 * t.val - 1) + i.val) % 2048 := by omega
  refine ⟨funext fun n => (blk6 m c t _ n).trans ?_, funext fun n => (blk7 m c t _ n).trans ?_⟩
  · show Ideal.cos (ang (512 * ((t.val - 1) % 4) + (256 + i.val)) n.val) = _
    rw [e]
    rfl
  · show Ideal.sin (ang (512 * ((t.val - 1) % 4) + (256 + i.val)) n.val) = _
    rw [e]
    rfl

/-- What a block leaves in a head's state, from its tables' and projections' rows. -/
theorem stM_eq (A : Args) (H : Fin 4) (B : ℕ) {C D : Fin 256 → Fin 128 → EReal} {P : Fin 256 → Fin 4096 → EReal} {S : Fin 256 → Fin 256 → EReal}
    (hC : ∀ i, C i = cG (256 * B + i.val)) (hD : ∀ i, D i = sG (256 * B + i.val)) (hP : ∀ i, P i = pG A (256 * B + i.val)) (hS : S = befG A H B) :
    stM (lgW H) (gpW H) C D P H S = aftG A H B := by
  obtain rfl := funext hC
  obtain rfl := funext hD
  obtain rfl := funext hP
  subst hS
  rw [lgW_eq, gpW_eq]
  rfl

/-- A block's results, from its tables' and projections' rows. -/
theorem outM_eq (A : Args) (H : Fin 4) (B : ℕ) {C D : Fin 256 → Fin 128 → EReal} {n : Fin 1024 → EReal} {P : Fin 256 → Fin 4096 → EReal} {S : Fin 256 → Fin 256 → EReal}
    (hC : ∀ i, C i = cG (256 * B + i.val)) (hD : ∀ i, D i = sG (256 * B + i.val)) (hn : n = A.n) (hP : ∀ i, P i = pG A (256 * B + i.val)) (hS : S = befG A H B)
    (i e : Fin 256) : outM (lgW H) C D n P H S i e = outK A H B i e := by
  obtain rfl := funext hC
  obtain rfl := funext hD
  obtain rfl := funext hP
  subst hS hn
  rw [lgW_eq]
  rfl

/-- What the point before leaves for a point: its second block's projections, and the states unless a sequence starts. -/
theorem S0_eq (c : Dev nD) (t : Fin cfg0.N) (ht : 1 ≤ t.val) (s : Vec Ideal S4x256x256 .f32)
    (hs : 2 ≤ t.val → ∀ H d e, (s (ix3 H d e) : EReal) = aftG (args m c) H (2 * t.val - 3) d e) (H : Fin 4) : S0 (bit t) s H = befG (args m c) H (2 * t.val - 2) := by
  funext d e
  unfold S0
  by_cases hb : (2 * t.val + 6) % 8 = 0
  · rw [if_pos ((bit_iff t).2 hb)]
    unfold befG
    rw [bef_zero _ _ _ _ _ (by omega)]
  · rw [if_neg (fun h => hb ((bit_iff t).1 h)), hs (by omega), show 2 * t.val - 2 = (2 * t.val - 3) + 1 by omega, befG_succ _ _ _ (by omega)]

/-- A head's state before a point's second block. -/
theorem S1_eq (c : Dev nD) (t : Fin cfg0.N) (ht : 1 ≤ t.val) (p : Vec Ideal S256x4096 .f32) (s : Vec Ideal S4x256x256 .f32)
    (hp : ∀ i e, (p (ix2 i e) : EReal) = pG (args m c) (256 * (2 * t.val - 2) + i.val) e)
    (hs : 2 ≤ t.val → ∀ H d e, (s (ix3 H d e) : EReal) = aftG (args m c) H (2 * t.val - 3) d e) (H : Fin 4) (h) :
    stM (lgW H) (gpW H) (tab (iblk m c 6 t) 0 h) (tab (iblk m c 7 t) 0 h) (prow p) H (S0 (bit t) s H) = befG (args m c) H (2 * t.val - 1) := by
  have hP : ∀ i, prow p i = pG (args m c) (256 * (2 * t.val - 2) + i.val) := fun i => funext fun e => hp i e
  rw [stM_eq (args m c) H (2 * t.val - 2) (fun i => (tab_lo m c t ht i h).1) (fun i => (tab_lo m c t ht i h).2) hP (S0_eq m c t ht s hs H),
    show 2 * t.val - 1 = (2 * t.val - 2) + 1 by omega, befG_succ _ _ _ (by omega)]

/-- A head's state a point leaves. -/
theorem stG_eq (c : Dev nD) (t : Fin cfg0.N) (ht : 1 ≤ t.val) (p : Vec Ideal S256x4096 .f32) (s : Vec Ideal S4x256x256 .f32)
    (hp : ∀ i e, (p (ix2 i e) : EReal) = pG (args m c) (256 * (2 * t.val - 2) + i.val) e)
    (hs : 2 ≤ t.val → ∀ H d e, (s (ix3 H d e) : EReal) = aftG (args m c) H (2 * t.val - 3) d e) (H : Fin 4) :
    stG (bit t) (iblk m c 6 t) (iblk m c 7 t) p (Q m c t) s H = aftG (args m c) H (2 * t.val - 1) := by
  have hP : ∀ i, prow (Q m c t) i = pG (args m c) (256 * (2 * t.val - 1) + i.val) := prow_Q m c t
  unfold stG
  exact stM_eq (args m c) H (2 * t.val - 1) (fun i => (tab_hi m c t ht i _).1) (fun i => (tab_hi m c t ht i _).2) hP (S1_eq m c t ht p s hp hs H _)

/-- The result of row `R` in column `C`, blockwise. -/
def res (c : Dev nD) (R : ℕ) (C : Fin 1024) : EReal :=
  outK (args m c) ⟨C.val / 256, by omega⟩ (R / 256) ⟨R % 256, Nat.mod_lt _ (by decide)⟩ ⟨C.val % 256, Nat.mod_lt _ (by decide)⟩

/-- A point's results at an index. -/
theorem outG_eq (c : Dev nD) (t : Fin cfg0.N) (ht : 1 ≤ t.val) (p : Vec Ideal S256x4096 .f32) (s : Vec Ideal S4x256x256 .f32)
    (hp : ∀ i e, (p (ix2 i e) : EReal) = pG (args m c) (256 * (2 * t.val - 2) + i.val) e)
    (hs : 2 ≤ t.val → ∀ H d e, (s (ix3 H d e) : EReal) = aftG (args m c) H (2 * t.val - 3) d e) (r : Fin 512) (C : Fin 1024) :
    outG (bit t) (iblk m c 6 t) (iblk m c 7 t) (iblk m c 8 t) p (Q m c t) s r C = res m c (512 * (t.val - 1) + r.val) C := by
  have hn : (fun e => (iblk m c 8 t (ix2 0 e) : EReal)) = (args m c).n := funext fun e => blk8 m c t e
  have hP : ∀ i, prow p i = pG (args m c) (256 * (2 * t.val - 2) + i.val) := fun i => funext fun e => hp i e
  have hQ : ∀ i, prow (Q m c t) i = pG (args m c) (256 * (2 * t.val - 1) + i.val) := prow_Q m c t
  unfold outG res
  dsimp only
  split
  · next h =>
    refine (outM_eq (args m c) _ (2 * t.val - 2) (fun i => (tab_lo m c t ht i _).1) (fun i => (tab_lo m c t ht i _).2) hn hP (S0_eq m c t ht _ hs _) _ _).trans ?_
    congr 1
    · omega
    · apply Fin.ext
      show r.val = (512 * (t.val - 1) + r.val) % 256
      omega
  · next h =>
    refine (outM_eq (args m c) _ (2 * t.val - 1) (fun i => (tab_hi m c t ht i _).1) (fun i => (tab_hi m c t ht i _).2) hn hQ (S1_eq m c t ht _ _ hp hs _ _) _ _).trans ?_
    congr 1
    · omega
    · apply Fin.ext
      show r.val - 256 = (512 * (t.val - 1) + r.val) % 256
      omega

/-- The states after every point but the first. -/
theorem s_inv (c : Dev nD) : ∀ (n : ℕ) (hn : n < cfg0.N), 1 ≤ n → ∀ H d e, ((outsAt0 m c n hn).2.2 (ix3 H d e) : EReal) = aftG (args m c) H (2 * n - 1) d e := by
  intro n
  induction n with
  | zero => intro _ h; omega
  | succ n ih =>
    intro hn h1 H d e
    have hl : n + 1 < 65 := lt65 ⟨n + 1, hn⟩
    have hp : ∀ i e, ((outsAt0 m c n (by omega)).2.1 (ix2 i e) : EReal) = pG (args m c) (256 * (2 * (n + 1) - 2) + i.val) e := fun i e => by
      refine (p_inv m c ⟨n, by omega⟩ i e).trans ?_
      rw [show min (2 * n) 127 = 2 * (n + 1) - 2 by omega]
    have hs : 2 ≤ n + 1 → ∀ H d e, ((outsAt0 m c n (by omega)).2.2 (ix3 H d e) : EReal) = aftG (args m c) H (2 * (n + 1) - 3) d e := fun h2 H d e =>
      (ih (by omega) (by omega) H d e).trans (by rw [show 2 * n - 1 = 2 * (n + 1) - 3 by omega])
    rw [sB m c ⟨n + 1, hn⟩ (show ¬(n + 1) % 65 = 0 by omega) _ _ _ rfl]
    exact (canon_st _ _ _ _ _ _ _).trans (congrFun (congrFun (stG_eq m c ⟨n + 1, hn⟩ h1 _ _ hp hs H) d) e)

/-- The output block after every point but the first. -/
theorem o_inv (c : Dev nD) (t : Fin cfg0.N) (h1 : 1 ≤ t.val) (j : S512x1024.Idx) :
    ((outsAt0 m c t.val t.isLt).1 j : EReal) = res m c (512 * (t.val - 1) + (orI j).val) (ocI j) := by
  have hl := lt65 t
  have hp : ∀ i e, ((outsAt0 m c (t.val - 1) (by omega)).2.1 (ix2 i e) : EReal) = pG (args m c) (256 * (2 * t.val - 2) + i.val) e := fun i e => by
    refine (p_inv m c ⟨t.val - 1, by omega⟩ i e).trans ?_
    rw [show min (2 * (t.val - 1)) 127 = 2 * t.val - 2 by omega]
  have hs : 2 ≤ t.val → ∀ H d e, ((outsAt0 m c (t.val - 1) (by omega)).2.2 (ix3 H d e) : EReal) = aftG (args m c) H (2 * t.val - 3) d e := fun h2 H d e =>
    (s_inv m c (t.val - 1) (by omega) (by omega) H d e).trans (by rw [show 2 * (t.val - 1) - 1 = 2 * t.val - 3 by omega])
  rw [oB m c t (show ¬t.val % 65 = 0 by omega) _ _ _ rfl]
  exact (canon_out _ _ _ _ _ _ _ _).trans (outG_eq m c t h1 _ _ hp hs _ _)

/-- The row of an index of the result. -/
def grI (j : S32768x1024.Idx) : Fin 32768 := j 0

/-- The column of an index of the result. -/
def gcI (j : S32768x1024.Idx) : Fin 1024 := j 1

/-- The first point does not write its output block back. -/
theorem flush_pos : ∀ t : Fin cfg0.N, (cfg0.win 9).flush t = true → 1 ≤ t.val := by
  decide +kernel

/-- The result array at an index. -/
theorem arr_eq (c : Dev nD) : (dats m 0 c).arrAt 9 cfg0.N = fun j => res m c (grI j).val (gcI j) := by
  refine (dats m 0 c).arrAt_eq_of_covers 9 _ (by decide +kernel) fun t hf y => ?_
  have h1 := flush_pos t hf
  have hl := lt65 t
  have e : (dats m 0 c).after 9 t = (outsAt0 m c t.val t.isLt).1 := after0_9 m c t
  rw [cast_eq, e]
  refine (o_inv m c t h1 _).trans (congrArg₂ (res m c) ?_ (Fin.ext ?_))
  · show 512 * (t.val - 1) + ((cfg0.win 9).xinj (cfg0.grid.coords t) y 0).val = (((cfg0.win 9).blk t).view.emb y 0).val
    blk_simp [idx t]
    exact congrArg (· + (y 0).val) (Nat.mul_comm _ _)
  · show ((cfg0.win 9).xinj (cfg0.grid.coords t) y 1).val = (((cfg0.win 9).blk t).view.emb y 1).val
    blk_simp [idx t]

end Cert.KernelIdeal.Step
-- ==== Proof.RetRef.lean ====
module

public import proofs.«01_k».proof.Proof.Gen.ReferenceIdeal.Read
public import proofs.«01_k».proof.Proof.RetMath
public import Idealize.ShloMosaic.Lib.Pipeline.ValueKit

@[expose] public section

/-! The retention reference's result at an index, as the row functions of `Rows` and `RetMath`. -/

set_option maxRecDepth 16384

noncomputable section

namespace Cert.ReferenceIdeal.Rd
open Cert.ReferenceIdeal Cert.ReferenceIdeal.Read Idealize.ShloMosaic Cert.Rows Cert.Ret

variable (x0 : (⟨S32768x2048, .f32⟩ : BufTy).Contents (Elt Ideal)) (x1 : (⟨S16x3x2048, .f32⟩ : BufTy).Contents (Elt Ideal))
  (x2 : (⟨S2048, .f32⟩ : BufTy).Contents (Elt Ideal)) (x3 : (⟨S2048x4096, .f32⟩ : BufTy).Contents (Elt Ideal))
  (x4 : (⟨S1024, .f32⟩ : BufTy).Contents (Elt Ideal))

/-- The flattened row of a sequence's position. -/
def row (b : Fin 16) (t : Fin 2048) : Fin 32768 := ⟨b.val * 2048 + t.val, by omega⟩

/-- The activations by sequence and position. -/
theorem x_at (b : Fin 16) (t e : Fin 2048) : (val_main_v0 x0 (ix3 b t e) : EReal) = x0 (ix2 (row b t) e) := by
  rw [val_main_v0_apply]
  congr 1
  funext a
  apply Fin.ext
  match a with
  | ⟨0, _⟩ =>
    show ((b.val * 2048 + t.val) * 2048 + e.val) / 2048 = b.val * 2048 + t.val
    omega
  | ⟨1, _⟩ =>
    show ((b.val * 2048 + t.val) * 2048 + e.val) % 2048 = e.val
    omega

/-- The normed and modulated rows. -/
theorem h_at (b : Fin 16) (t e : Fin 2048) : (val_main_v25 x0 x1 x2 (ix3 b t e) : EReal)
    = hrow (fun k => x0 (ix2 (row b t) k)) (fun k => x2 (ix1 k)) (fun k => x1 (ix3 b 1 k)) (fun k => x1 (ix3 b 0 k)) e := by
  unfold val_main_v25 val_main_v24 val_main_v23 val_main_v22 val_main_v21 val_main_v20
    val_main_v19 val_main_v18 val_main_v17 val_main_v16 val_main_v15 val_main_v14 val_main_v13 val_main_v12 val_main_v11
    val_main_v10 val_main_v9 val_main_v8 val_main_v7 val_main_v6 val_main_v5 val_main_v4 val_main_v3 val_main_v2 val_main_v1
    val_main_cst val_main_cst_0 val_main_cst_1 val_main_cst_2
  pointwise
  simp only [x_at]
  rw [mul_assoc]
  rfl

/-- The projections. -/
theorem p_at (b : Fin 16) (t : Fin 2048) (c : Fin 4096) : (val_main_v26 x0 x1 x2 x3 (ix3 b t c) : EReal)
    = ∑ d : Fin 2048, val_main_v25 x0 x1 x2 (ix3 b t d) * x3 (ix2 d c) := by
  unfold val_main_v26
  pointwise

/-- The queries. -/
theorem q_at (b : Fin 16) (t : Fin 2048) (h : Fin 4) (e : Fin 256) : (val_main_v31 x0 x1 x2 x3 (ix4 b t h e) : EReal)
    = val_main_v26 x0 x1 x2 x3 (ix3 b t ⟨256 * h.val + e.val, by omega⟩) := by
  unfold val_main_v31 val_main_v27
  pointwise
  exact congrArg (fun c => val_main_v26 x0 x1 x2 x3 (ix3 b t c)) (Fin.ext (by show h.val * 256 + e.val = 256 * h.val + e.val; omega))

/-- The keys. -/
theorem k_at (b : Fin 16) (t : Fin 2048) (h : Fin 4) (e : Fin 256) : (val_main_v32 x0 x1 x2 x3 (ix4 b t h e) : EReal)
    = val_main_v26 x0 x1 x2 x3 (ix3 b t ⟨1024 + 256 * h.val + e.val, by omega⟩) := by
  unfold val_main_v32 val_main_v28
  pointwise
  exact congrArg (fun c => val_main_v26 x0 x1 x2 x3 (ix3 b t c)) (Fin.ext (by show 1024 + (h.val * 256 + e.val) = 1024 + 256 * h.val + e.val; omega))

/-- The values. -/
theorem v_at (b : Fin 16) (t : Fin 2048) (h : Fin 4) (e : Fin 256) : (val_main_v33 x0 x1 x2 x3 (ix4 b t h e) : EReal)
    = val_main_v26 x0 x1 x2 x3 (ix3 b t ⟨2048 + 256 * h.val + e.val, by omega⟩) := by
  unfold val_main_v33 val_main_v29
  pointwise
  exact congrArg (fun c => val_main_v26 x0 x1 x2 x3 (ix3 b t c)) (Fin.ext (by show 2048 + (h.val * 256 + e.val) = 2048 + 256 * h.val + e.val; omega))

/-- The gates. -/
theorem g_at (b : Fin 16) (t : Fin 2048) (h : Fin 4) (e : Fin 256) : (val_main_v34 x0 x1 x2 x3 (ix4 b t h e) : EReal)
    = val_main_v26 x0 x1 x2 x3 (ix3 b t ⟨3072 + 256 * h.val + e.val, by omega⟩) := by
  unfold val_main_v34 val_main_v30
  pointwise
  exact congrArg (fun c => val_main_v26 x0 x1 x2 x3 (ix3 b t c)) (Fin.ext (by show 3072 + (h.val * 256 + e.val) = 3072 + 256 * h.val + e.val; omega))

/-- The cosines. -/
theorem cos_at (t : Fin 2048) (n : Fin 128) : (val_main_v47 (F := Ideal) (ix2 t n) : EReal) = Ideal.cos (ang t.val n.val) := by
  unfold val_main_v47 val_main_v46 val_main_v45 val_main_v44 val_main_v43 val_main_v42 val_main_v41 val_main_v40 val_main_v39 val_main_v38 val_main_v37 val_main_v36 val_main_v35
    val_main_cst_3 val_main_cst_4
  pointwise
  rfl

/-- The sines. -/
theorem sin_at (t : Fin 2048) (n : Fin 128) : (val_main_v49 (F := Ideal) (ix2 t n) : EReal) = Ideal.sin (ang t.val n.val) := by
  unfold val_main_v49 val_main_v46 val_main_v45 val_main_v44 val_main_v43 val_main_v42 val_main_v41 val_main_v40 val_main_v39 val_main_v38 val_main_v37 val_main_v36 val_main_v35
    val_main_cst_3 val_main_cst_4
  pointwise
  rfl

/-- The keys' cosines. -/
theorem cosk_at (t : Fin 2048) (n : Fin 128) : (val_main_v76 (F := Ideal) (ix2 t n) : EReal) = Ideal.cos (ang t.val n.val) := by
  unfold val_main_v76 val_main_v75 val_main_v74 val_main_v73 val_main_v72 val_main_v71 val_main_v70 val_main_v69 val_main_v68 val_main_v67 val_main_v66 val_main_v65 val_main_v35
    val_main_cst_5 val_main_cst_6
  pointwise
  rfl

/-- The keys' sines. -/
theorem sink_at (t : Fin 2048) (n : Fin 128) : (val_main_v78 (F := Ideal) (ix2 t n) : EReal) = Ideal.sin (ang t.val n.val) := by
  unfold val_main_v78 val_main_v75 val_main_v74 val_main_v73 val_main_v72 val_main_v71 val_main_v70 val_main_v69 val_main_v68 val_main_v67 val_main_v66 val_main_v65 val_main_v35
    val_main_cst_5 val_main_cst_6
  pointwise
  rfl

/-- The rotated queries. -/
theorem qr_at (b : Fin 16) (t : Fin 2048) (h : Fin 4) (e : Fin 256) : (val_main_v64 x0 x1 x2 x3 (ix4 b h t e) : EReal)
    = rot (fun n => val_main_v47 (F := Ideal) (ix2 t n)) (fun n => val_main_v49 (F := Ideal) (ix2 t n)) (fun n => val_main_v31 x0 x1 x2 x3 (ix4 b t h n)) e := by
  unfold val_main_v64 val_main_v63 val_main_v62 val_main_v61 val_main_v60 val_main_v59 val_main_v58 val_main_v57 val_main_v56 val_main_v55 val_main_v54 val_main_v53 val_main_v52 val_main_v51
    val_main_v50 val_main_v48 rot
  pointwise
  by_cases g : e.val < 128
  · simp only [g, dite_true, Nat.add_comm]
  · simp only [g, dite_false]
    simp only [show 128 + (e.val - 128) = e.val from by omega]

/-- The rotated keys. -/
theorem kr_at (b : Fin 16) (t : Fin 2048) (h : Fin 4) (e : Fin 256) : (val_main_v93 x0 x1 x2 x3 (ix4 b h t e) : EReal)
    = rot (fun n => val_main_v76 (F := Ideal) (ix2 t n)) (fun n => val_main_v78 (F := Ideal) (ix2 t n)) (fun n => val_main_v32 x0 x1 x2 x3 (ix4 b t h n)) e := by
  unfold val_main_v93 val_main_v92 val_main_v91 val_main_v90 val_main_v89 val_main_v88 val_main_v87 val_main_v86 val_main_v85 val_main_v84 val_main_v83 val_main_v82 val_main_v81 val_main_v80
    val_main_v79 val_main_v77 rot
  pointwise
  by_cases g : e.val < 128
  · simp only [g, dite_true, Nat.add_comm]
  · simp only [g, dite_false]
    simp only [show 128 + (e.val - 128) = e.val from by omega]

/-- The decays. -/
theorem dec_at (h : Fin 4) (i j : Fin 2048) : (val_main_v119 (F := Ideal) (ix3 h i j) : EReal) = dec (val_main_v101 (F := Ideal) (ix1 h)) i.val j.val := by
  unfold val_main_v119 val_main_v118 val_main_call0_v2 val_main_call0_v1 val_main_call0_v0 val_main_cst_9 val_main_v117 val_main_v116 val_main_v115 val_main_v114 val_main_v113 val_main_v112 val_main_v111 val_main_v110
    val_main_v109 val_main_v108 val_main_v107 val_main_v106 val_main_v105 val_main_v104 val_main_v103 val_main_v102 dec
  pointwise
  simp only [si _ (lt_trans i.isLt (by decide)), si _ (lt_trans j.isLt (by decide))]
  refine congrArg Ideal.exp (if_congr ?_ ?_ ?_)
  · rw [EReal.coe_le_coe_iff, Nat.cast_le]
  · rw [← EReal.coe_sub]
  · show Ideal.ofBits FTy.f32 0xFF800000#32 = ⊥
    simp [Ideal.ofBits, Ideal.ieee]

/-- The logarithms of the heads' decays. -/
theorem lg_at (h : Fin 4) : (val_main_v101 (F := Ideal) (ix1 h) : EReal) = ((Real.log (gam h) : ℝ) : EReal) := by
  unfold val_main_v101 val_main_v100 val_main_v99 val_main_v98 val_main_v97 val_main_v96 val_main_v95 val_main_cst_7 val_main_cst_8
  pointwise
  rw [si _ (lt_trans h.isLt (by decide))]
  have h2 : Ideal.ofBits FTy.f32 0x40000000#32 = ((2 : ℝ) : EReal) := by
    simp [Ideal.ofBits, Ideal.ieee, -EReal.coe_mul]
    norm_num
  have h5 : Ideal.ofBits FTy.f32 0xC0A00000#32 = ((-5 : ℝ) : EReal) := by
    simp [Ideal.ofBits, Ideal.ieee, -EReal.coe_mul]
    norm_num
  rw [h2, h5, ← EReal.coe_sub]
  show Ideal.log (1 + -((Real.rpow 2 (-5 - (h.val : ℝ)) : ℝ) : EReal)) = _
  have hp : Real.rpow 2 (-5 - (h.val : ℝ)) = (1 / 2) ^ (5 + h.val) := by
    show (2 : ℝ) ^ (-5 - (h.val : ℝ)) = _
    rw [show (-5 - (h.val : ℝ)) = -((5 + h.val : ℕ) : ℝ) by push_cast; ring, Real.rpow_neg (by norm_num), Real.rpow_natCast, one_div, inv_pow]
  rw [hp, ← EReal.coe_neg, ← EReal.coe_one, ← EReal.coe_add, show (1 : ℝ) + -(1 / 2) ^ (5 + h.val) = gam h from (sub_eq_add_neg _ _).symm]
  show (if gam h ≤ 0 then ⊥ else ((Real.log (gam h) : ℝ) : EReal)) = _
  rw [if_neg (not_le.2 (gam_pos h))]

/-- The retention. -/
theorem o_at (b : Fin 16) (t : Fin 2048) (h : Fin 4) (e : Fin 256) : (val_main_v127 x0 x1 x2 x3 (ix4 b t h e) : EReal)
    = ∑ j : Fin 2048, (∑ d : Fin 256, val_main_v64 x0 x1 x2 x3 (ix4 b h t d) * (val_main_v93 x0 x1 x2 x3 (ix4 b h j d) * c16))
        * val_main_v119 (F := Ideal) (ix3 h t j) * val_main_v33 x0 x1 x2 x3 (ix4 b j h e) := by
  unfold val_main_v127 val_main_v126 val_main_v125 val_main_v124 val_main_v123 val_main_v122 val_main_v121 val_main_v120 val_main_cst_10 val_main_v94
  pointwise
  rfl

/-- The result by sequence and position. -/
theorem out_at (b : Fin 16) (t : Fin 2048) (h : Fin 4) (e : Fin 256) : (val_main_v143 x0 x1 x2 x3 x4 (ix4 b t h e) : EReal)
    = outB (fun e => val_main_v127 x0 x1 x2 x3 (ix4 b t h e)) (nR (fun c => x4 (ix1 c)) h) (fun e => val_main_v34 x0 x1 x2 x3 (ix4 b t h e)) e := by
  unfold val_main_v143 val_main_v142 val_main_call1_v5 val_main_call1_v4 val_main_call1_v3 val_main_call1_v2 val_main_call1_v1 val_main_call1_v0 val_main_call1_cst val_main_call1_cst_0
    val_main_v141 val_main_v140 val_main_v139 val_main_v138 val_main_v137 val_main_v136 val_main_v135 val_main_v134 val_main_v133 val_main_v132 val_main_v131 val_main_v130 val_main_v129
    val_main_v128 val_main_cst_11 val_main_cst_12 val_main_cst_13
  pointwise
  unfold outB nR
  simp only [Nat.mul_comm 256]
  rfl

/-- The arguments of the call. -/
def argsR : Args where
  x R k := x0 (ix2 R k)
  md b p k := x1 (ix3 b p k)
  g k := x2 (ix1 k)
  w k e := x3 (ix2 k e)
  n e := x4 (ix1 e)

/-- The flattened row of position `t` of sequence `b`. -/
theorem row_fR (b : Fin 16) (t : Fin 2048) : row b t = fR (2048 * b.val + t.val) := Fin.ext (by
  show b.val * 2048 + t.val = (2048 * b.val + t.val) % 32768
  omega)

/-- Its sequence. -/
theorem sR_row (b : Fin 16) (t : Fin 2048) : b = sR (2048 * b.val + t.val) := Fin.ext (by
  show b.val = (2048 * b.val + t.val) % 32768 / 2048
  omega)

/-- Its position. -/
theorem pos_row (b : Fin 16) (t : Fin 2048) : (2048 * b.val + t.val) % 2048 = t.val := by omega

/-- The projections at an index. -/
theorem pG_at (b : Fin 16) (t : Fin 2048) (c : Fin 4096) : (val_main_v26 x0 x1 x2 x3 (ix3 b t c) : EReal) = pG (argsR x0 x1 x2 x3 x4) (2048 * b.val + t.val) c := by
  rw [p_at]
  refine Finset.sum_congr rfl fun k _ => congrArg₂ (· * ·) ?_ rfl
  rw [h_at]
  unfold hG
  rw [← row_fR, ← sR_row]
  rfl

/-- The queries at an index. -/
theorem qG_at (b : Fin 16) (t : Fin 2048) (h : Fin 4) (e : Fin 256) : (val_main_v64 x0 x1 x2 x3 (ix4 b h t e) : EReal) = qG (argsR x0 x1 x2 x3 x4) h (2048 * b.val + t.val) e := by
  rw [qr_at]
  unfold qG qR
  refine rot_congr (fun n => ?_) (fun n => ?_) (fun n => ?_)
  · rw [cos_at]
    unfold cG
    rw [pos_row]
  · rw [sin_at]
    unfold sG
    rw [pos_row]
  · rw [q_at, pG_at x0 x1 x2 x3 x4]

/-- The scaled keys at an index. -/
theorem kG_at (b : Fin 16) (t : Fin 2048) (h : Fin 4) (e : Fin 256) : (val_main_v93 x0 x1 x2 x3 (ix4 b h t e) : EReal) * c16 = kG (argsR x0 x1 x2 x3 x4) h (2048 * b.val + t.val) e := by
  rw [kr_at]
  unfold kG kR
  refine congrArg (· * c16) (rot_congr (fun n => ?_) (fun n => ?_) (fun n => ?_))
  · rw [cosk_at]
    unfold cG
    rw [pos_row]
  · rw [sink_at]
    unfold sG
    rw [pos_row]
  · rw [k_at, pG_at x0 x1 x2 x3 x4]

/-- The values at an index. -/
theorem vG_at (b : Fin 16) (t : Fin 2048) (h : Fin 4) (e : Fin 256) : (val_main_v33 x0 x1 x2 x3 (ix4 b t h e) : EReal) = vG (argsR x0 x1 x2 x3 x4) h (2048 * b.val + t.val) e := by
  rw [v_at, pG_at x0 x1 x2 x3 x4]
  rfl

/-- The retention at an index. -/
theorem retS_at (b : Fin 16) (t : Fin 2048) (h : Fin 4) (B : ℕ) (i e : Fin 256) (hB : 256 * B + i.val = 2048 * b.val + t.val) :
    (val_main_v127 x0 x1 x2 x3 (ix4 b t h e) : EReal)
      = retS (lG h) (qG (argsR x0 x1 x2 x3 x4) h (256 * B + i.val)) (kG (argsR x0 x1 x2 x3 x4) h) (vG (argsR x0 x1 x2 x3 x4) h) B i e := by
  have e1 : 256 * (B % 8) + i.val = t.val := by omega
  have e2 : B / 8 = b.val := by omega
  rw [o_at]
  unfold retS
  rw [hB, e1, e2]
  refine Finset.sum_congr rfl fun j _ => ?_
  rw [dec_at, lg_at, vG_at x0 x1 x2 x3 x4]
  simp only [qG_at x0 x1 x2 x3 x4, kG_at x0 x1 x2 x3 x4]
  rfl

/-- The result at an index. -/
theorem res_at (R : Fin 32768) (C : Fin 1024) : (val_main_v145 x0 x1 x2 x3 x4 (ix2 R C) : EReal)
    = outS (argsR x0 x1 x2 x3 x4) ⟨C.val / 256, by omega⟩ (R.val / 256) ⟨R.val % 256, Nat.mod_lt _ (by decide)⟩ ⟨C.val % 256, Nat.mod_lt _ (by decide)⟩ := by
  have hi : idx_main_v144 (ix2 R C) = ix4 (⟨R.val / 2048, by omega⟩ : Fin 16) (⟨R.val % 2048, by omega⟩ : Fin 2048) (⟨C.val / 256, by omega⟩ : Fin 4)
      (⟨C.val % 256, by omega⟩ : Fin 256) := by
    funext a
    apply Fin.ext
    match a with
    | ⟨0, _⟩ =>
      show (R.val * 1024 + C.val) / 2097152 = R.val / 2048
      omega
    | ⟨1, _⟩ =>
      show (R.val * 1024 + C.val) / 1024 % 2048 = R.val % 2048
      omega
    | ⟨2, _⟩ =>
      show (R.val * 1024 + C.val) / 256 % 4 = C.val / 256
      omega
    | ⟨3, _⟩ =>
      show (R.val * 1024 + C.val) % 256 = C.val % 256
      omega
  have hB : 256 * (R.val / 256) + R.val % 256 = 2048 * (R.val / 2048) + R.val % 2048 := by omega
  refine (val_main_v144_apply x0 x1 x2 x3 x4 (ix2 R C)).trans ?_
  rw [hi, out_at]
  unfold outS
  refine congrArg₂ (fun o g => outB o _ g _) (funext fun e => retS_at x0 x1 x2 x3 x4 _ _ _ _ _ e hB) (funext fun e => ?_)
  rw [g_at, pG_at x0 x1 x2 x3 x4]
  show pG _ (2048 * (R.val / 2048) + R.val % 2048) _ = pG _ (256 * (R.val / 256) + R.val % 256) _
  rw [hB]

end Cert.ReferenceIdeal.Rd
-- ==== Proof.RetFrame.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run

@[expose] public section

/-! The frames and the named constants of the retention. -/

set_option maxRecDepth 16384

noncomputable section

namespace Cert.Proof
open Idealize.ShloMosaic Idealize.ShloMosaic.TcCoe Idealize.SL.Sem

/-- The retention as printed runs, keeps its arguments and ends quiescent. -/
theorem frame_ret : Cert.quiescent_Kernel := fun m ρ _ => Cert.Kernel.Gen.frame m ρ

/-- The idealized retention likewise. -/
theorem frame_ret_ideal : Cert.quiescent_KernelIdeal := fun m ρ _ => Cert.KernelIdeal.Gen.frame m ρ

/-- The retention's reference runs, keeps its arguments and ends quiescent: it declares no semaphore. -/
theorem frame_ret_ref : Cert.quiescent_ReferenceIdeal := fun m ρ _ =>
  (θ_run _ _ _).mono (fun _ h => ⟨fun c => (h c).2, Idealize.ShloMosaic.sem_eq_zero_of_no_sems (by decide) _⟩) (Cert.ReferenceIdeal.Value.run (F := Ideal) m ρ)

/-- The retention's named constants: the logarithm of each head's decay and its power over a block. -/
theorem preserves_ret : Cert.preserves_Kernel_KernelIdeal :=
  ⟨IdealRules.named_const.statement Cert.KernelIdeal.κ "log_gamma0" .f32 0xBD020AEC#32 _ rfl,
   IdealRules.named_const.statement Cert.KernelIdeal.κ "gamma_pow0" .f32 0x399ACCA1#32 _ rfl,
   IdealRules.named_const.statement Cert.KernelIdeal.κ "log_gamma1" .f32 0xBC8102B3#32 _ rfl,
   IdealRules.named_const.statement Cert.KernelIdeal.κ "gamma_pow1" .f32 0x3C9160A5#32 _ rfl,
   IdealRules.named_const.statement Cert.KernelIdeal.κ "log_gamma2" .f32 0xBC0080AC#32 _ rfl,
   IdealRules.named_const.statement Cert.KernelIdeal.κ "gamma_pow2" .f32 0x3E097FCE#32 _ rfl,
   IdealRules.named_const.statement Cert.KernelIdeal.κ "log_gamma3" .f32 0xBB80402B#32 _ rfl,
   IdealRules.named_const.statement Cert.KernelIdeal.κ "gamma_pow3" .f32 0x3EBBFC5D#32 _ rfl⟩

end Cert.Proof
-- ==== Proof.RetClaim.lean ====
module

public import proofs.«01_k».proof.Proof.RetRun
public import proofs.«01_k».proof.Proof.RetRef
public import proofs.«01_k».proof.Proof.RetFrame
public import proofs.«01_k».proof.Proof.Gen.Pre_finite
public import Idealize.ShloMosaic.Lib.ReduceAll

@[expose] public section

/-! The retention's value: on finite arguments the kernel's blockwise results are the reference's whole sums. -/

set_option maxRecDepth 16384

noncomputable section

namespace Cert.Proof
open Idealize.ShloMosaic Idealize.ShloMosaic.TcCoe Idealize.SL.Sem Cert.Ret

/-- The idealized retention's frame under the precondition. -/
theorem frame_ret_ideal_finite : Cert.quiescent_KernelIdeal_pre_finite := fun m ρ _ => Cert.KernelIdeal.Gen.frame m ρ

/-- The retention's reference's frame under the precondition. -/
theorem frame_ret_ref_finite : Cert.quiescent_ReferenceIdeal_pre_finite := fun m ρ _ => frame_ret_ref m ρ trivial

/-- A conjunction of truth values that holds. -/
theorem and_split {a b : BitVec 1} (h : IntOp.andi a b = 1#1) : a = 1#1 ∧ b = 1#1 := by
  revert a b
  decide

/-- A value whose absolute value is below infinity is finite. -/
theorem isR_of_lt {x : EReal} (h : Ideal.cmp .olt (max x (-x)) (Ideal.ofBits FTy.f32 0x7F800000#32) = 1#1) : IsR x := by
  have hi : Ideal.ofBits FTy.f32 0x7F800000#32 = ⊤ := by simp [Ideal.ofBits, Ideal.ieee]
  rw [hi] at h
  have h' : max x (-x) < ⊤ := by
    by_contra hn
    simp [Ideal.cmp, hn] at h
  induction x with
  | bot => simp at h'
  | top => simp at h'
  | coe r => exact ⟨r, rfl⟩

/-- The precondition at an index. -/
theorem finite_at {m : (ℓ : Loc KernelIdeal.nD KernelIdeal.τ KernelIdeal.sig) → Buf (Elt Ideal) ℓ} (h : Pre_KernelIdeal_finite m) (c : Dev KernelIdeal.nD) :
    (∀ R k, IsR ((KernelIdeal.Step.args m c).x R k)) ∧ (∀ b p k, IsR ((KernelIdeal.Step.args m c).md b p k)) ∧ (∀ k, IsR ((KernelIdeal.Step.args m c).g k))
      ∧ (∀ k e, IsR ((KernelIdeal.Step.args m c).w k e)) := by
  have h1 := congrFun (h c) (fun a => a.elim0)
  dsimp only [Pre_finite.fn, Pre_finite.fn_part1] at h1
  obtain ⟨h2, h3⟩ := and_split h1
  obtain ⟨h2, h4⟩ := and_split h2
  obtain ⟨h2, h5⟩ := and_split h2
  haveI : Subsingleton Pre_finite.S_.Idx := ⟨fun a b => funext fun i => i.elim0⟩
  exact ⟨fun R k => isR_of_lt (Host.reduce_andi_all _ _ _ _ _ h2 (ix2 R k)), fun b p k => isR_of_lt (Host.reduce_andi_all _ _ _ _ _ h5 (ix3 b p k)),
    fun k => isR_of_lt (Host.reduce_andi_all _ _ _ _ _ h4 (ix1 k)), fun k e => isR_of_lt (Host.reduce_andi_all _ _ _ _ _ h3 (ix2 k e))⟩

/-- The retention kernel computes its reference on finite arguments. -/
theorem algebraic_ret : Cert.algebraic_KernelIdeal_ReferenceIdeal_pre_finite := by
  intro m ρ m' ρ' hpre hag
  refine ⟨fun c j => KernelIdeal.Step.res m c (KernelIdeal.Step.grI j).val (KernelIdeal.Step.gcI j),
    (θ_run _ _ _).mono (fun r h c => ⟨(h c).1.trans (KernelIdeal.Step.arr_eq m c), (h c).2⟩) (Cert.KernelIdeal.Value.run_blocks (F := Ideal) m ρ),
    (θ_run _ _ _).mono (fun r h c => ⟨(h c).1.trans ?_, (h c).2⟩) (Cert.ReferenceIdeal.Value.run (F := Ideal) m' ρ')⟩
  obtain ⟨h0, h1, h2, h3, h4⟩ := hag c
  obtain ⟨hx, hm, hg, hw⟩ := finite_at hpre c
  rw [ReferenceIdeal.Read.val_main_v145_eq, h0, h1, h2, h3, h4]
  funext i
  obtain ⟨R, C, rfl⟩ : ∃ (R : Fin 32768) (C : Fin 1024), i = ix2 R C := ⟨_, _, eq_ix2 i⟩
  refine (ReferenceIdeal.Rd.res_at _ _ _ _ _ R C).trans ?_
  exact (outK_eq (KernelIdeal.Step.args m c) hx hm hg hw _ _ _ _).symm

end Cert.Proof
-- ==== Proof.FfnPay.lean ====
module

public import proofs.«01_k».proof.Proof.Gen.Kernel2Ideal.Skeleton
public import proofs.«01_k».proof.Proof.Rows

@[expose] public section

/-! The words the feed-forward kernel stores, read at an index: each is a row function of `Rows`. -/

set_option maxRecDepth 16384

noncomputable section

namespace Cert.Kernel2Ideal.Pay
open Cert.Kernel2Ideal Cert.Kernel2Ideal.Gen Idealize.ShloMosaic Cert.Rows

/-- The normed and modulated rows, first half. -/
theorem h_lo (x : Vec Ideal S512x2048 .f32) (g : Vec Ideal S1x2048 .f32) (sc sh : Vec Ideal S1x1x2048 .f32) (r : Fin 512) (e : Fin 2048) :
    (k0_pay5 x g sc sh (ix2 r e) : EReal) = hrow (fun k => x (ix2 r k)) (fun k => g (ix2 0 k)) (fun k => sc (ix3 0 0 k)) (fun k => sh (ix3 0 0 k)) e := by
  unfold_payloads
  pointwise
  rfl

/-- The normed and modulated rows, second half. -/
theorem h_hi (x : Vec Ideal S512x2048 .f32) (g : Vec Ideal S1x2048 .f32) (sc sh : Vec Ideal S1x1x2048 .f32) (r : Fin 512) (e : Fin 2048) :
    (k0_pay1 (k0_pay8 x g sc sh) (ix2 r e) : EReal) = hrow (fun k => x (ix2 r k)) (fun k => g (ix2 0 k)) (fun k => sc (ix3 0 0 k)) (fun k => sh (ix3 0 0 k)) e := by
  unfold_payloads
  pointwise
  rfl

/-- The first chunk's contribution, first half of the rows. -/
theorem first_lo (h : Vec Ideal S512x2048 .bf16) (w1 w3 : Vec Ideal S1x1x2048x512 .bf16) (w2 : Vec Ideal S1x1x512x2048 .bf16) (r : Fin 512) (e : Fin 2048) :
    (k0_pay7 h (k0_pay6 h w1) w3 w2 (ix2 r e) : EReal) = part (fun d => h (ix2 r d)) (fun d k => w1 (ix4 0 0 d k)) (fun d k => w3 (ix4 0 0 d k)) (fun k => w2 (ix4 0 0 k e)) := by
  unfold_payloads
  pointwise
  rfl

/-- The first chunk's contribution, second half of the rows. -/
theorem first_hi (h : Vec Ideal S512x2048 .bf16) (w1 w3 : Vec Ideal S1x1x2048x512 .bf16) (w2 : Vec Ideal S1x1x512x2048 .bf16) (r : Fin 512) (e : Fin 2048) :
    (k0_pay2 h w1 w3 w2 (ix2 r e) : EReal) = part (fun d => h (ix2 r d)) (fun d k => w1 (ix4 0 0 d k)) (fun d k => w3 (ix4 0 0 d k)) (fun k => w2 (ix4 0 0 k e)) := by
  unfold_payloads
  pointwise
  rfl

/-- A middle chunk added on, first half of the rows. -/
theorem next_lo (o : Vec Ideal S512x2048 .f32) (h : Vec Ideal S512x2048 .bf16) (w1 w3 : Vec Ideal S1x1x2048x512 .bf16) (w2 : Vec Ideal S1x1x512x2048 .bf16) (r : Fin 512) (e : Fin 2048) :
    (k0_pay9 o h w1 w3 w2 (ix2 r e) : EReal) = o (ix2 r e) + part (fun d => h (ix2 r d)) (fun d k => w1 (ix4 0 0 d k)) (fun d k => w3 (ix4 0 0 d k)) (fun k => w2 (ix4 0 0 k e)) := by
  unfold_payloads
  pointwise
  rfl

/-- A middle chunk added on, second half of the rows. -/
theorem next_hi (o : Vec Ideal S512x2048 .f32) (h : Vec Ideal S512x2048 .bf16) (w1 w3 : Vec Ideal S1x1x2048x512 .bf16) (w2 : Vec Ideal S1x1x512x2048 .bf16) (r : Fin 512) (e : Fin 2048) :
    (k0_pay3 (k0_pay10 o) h (k0_pay11 h w1) w3 w2 (ix2 r e) : EReal) = o (ix2 r e) + part (fun d => h (ix2 r d)) (fun d k => w1 (ix4 0 0 d k)) (fun d k => w3 (ix4 0 0 d k)) (fun k => w2 (ix4 0 0 k e)) := by
  unfold_payloads
  pointwise
  rfl

/-- The last chunk added on and the residual step taken, first half of the rows. -/
theorem last_lo (x o : Vec Ideal S512x2048 .f32) (gp : Vec Ideal S1x2048 .f32) (gate : Vec Ideal S1x1x2048 .f32) (h : Vec Ideal S512x2048 .bf16) (w1 w3 : Vec Ideal S1x1x2048x512 .bf16) (w2 : Vec Ideal S1x1x512x2048 .bf16) (r : Fin 512) (e : Fin 2048) :
    (k0_pay14 x (k0_pay12 gp) (k0_pay13 o h w1 w3 w2) gate (ix2 r e) : EReal) = resid (fun k => x (ix2 r k)) (fun k => gp (ix2 0 k))
      (fun k => o (ix2 r k) + part (fun d => h (ix2 r d)) (fun d k => w1 (ix4 0 0 d k)) (fun d k => w3 (ix4 0 0 d k)) (fun j => w2 (ix4 0 0 j k))) (fun k => gate (ix3 0 0 k)) e := by
  unfold_payloads
  pointwise
  rfl

/-- The last chunk added on and the residual step taken, second half of the rows. -/
theorem last_hi (x o : Vec Ideal S512x2048 .f32) (gp : Vec Ideal S1x2048 .f32) (gate : Vec Ideal S1x1x2048 .f32) (h : Vec Ideal S512x2048 .bf16) (w1 w3 : Vec Ideal S1x1x2048x512 .bf16) (w2 : Vec Ideal S1x1x512x2048 .bf16) (r : Fin 512) (e : Fin 2048) :
    (k0_pay4 (k0_pay15 o h w1 w3 w2) x (k0_pay16 gp) (k0_pay17 o h w1 w3 w2) gate (ix2 r e) : EReal) = resid (fun k => x (ix2 r k)) (fun k => gp (ix2 0 k))
      (fun k => o (ix2 r k) + part (fun d => h (ix2 r d)) (fun d k => w1 (ix4 0 0 d k)) (fun d k => w3 (ix4 0 0 d k)) (fun j => w2 (ix4 0 0 j k))) (fun k => gate (ix3 0 0 k)) e := by
  unfold_payloads
  pointwise
  rfl

end Cert.Kernel2Ideal.Pay
-- ==== Proof.FfnStep.lean ====
module

public import proofs.«01_k».proof.Proof.Gen.Kernel2Ideal.Frame
public import proofs.«01_k».proof.Proof.FfnPay
public import Idealize.ShloMosaic.Lib.Pipeline.ValueKit
public import Idealize.ShloMosaic.Lib.Pipeline.ReadBack

@[expose] public section

/-! What one grid point of the feed-forward kernel leaves in its output block and in the scratch that holds the normed rows,
read at an index, from the blocks it is given and what the point before left. -/

set_option maxRecDepth 16384

noncomputable section

namespace Cert.Kernel2Ideal.Step
open Cert.Kernel2Ideal Cert.Kernel2Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The row of an index of a block. -/
def rI (j : S1024x2048.Idx) : Fin 1024 := j 0

/-- The column of an index of a block. -/
def cI (j : S1024x2048.Idx) : Fin 2048 := j 1

/-- Row `a` of the first half of a block. -/
def loRow (a : Fin 512) : Fin 1024 := ⟨a.val, by omega⟩

/-- Row `a` of the last half of a block. -/
def hiRow (a : Fin 512) : Fin 1024 := ⟨512 + a.val, by omega⟩

/-- A load of the first 512 rows at an index. -/
theorem ld_lo {φ : EltTy} (X : S1024x2048.Idx → Elt Ideal φ) (inb) (r : Fin 512) (e : Fin 2048) :
    View.ld (Val := Elt Ideal) X (Rect.unit ![0, 0] ![512, 2048] inb) (ix2 r e) = X (ix2 (loRow r) e) :=
  View.ld_unit_apply_of _ _ _ _ _ _ (by intro a; fin_cases a <;> simp [ix2, loRow, hiRow])

/-- A load of the last 512 rows at an index. -/
theorem ld_hi {φ : EltTy} (X : S1024x2048.Idx → Elt Ideal φ) (inb) (r : Fin 512) (e : Fin 2048) :
    View.ld (Val := Elt Ideal) X (Rect.unit ![512, 0] ![512, 2048] inb) (ix2 r e) = X (ix2 (hiRow r) e) :=
  View.ld_unit_apply_of _ _ _ _ _ _ (by intro a; fin_cases a <;> simp [ix2, loRow, hiRow])

/-- A load of one of the three modulation rows at an index. -/
theorem ld_mod (X : S1x3x2048.Idx → Elt Ideal .f32) (k : ℕ) (hk : k < 3) (inb) (e : Fin 2048) :
    View.ld (Val := Elt Ideal) X (Rect.unit ![0, k, 0] ![1, 1, 2048] inb) (ix3 0 0 e) = X (ix3 0 ⟨k, hk⟩ e) :=
  View.ld_unit_apply_of _ _ _ _ _ _ (by intro a; fin_cases a <;> simp [ix3])

/-- The normed and modulated row `r` of a point's block. -/
def H (c : Dev nD) (t : Fin cfg0.N) (r : Fin 1024) : Fin 2048 → EReal :=
  hrow (fun k => iblk m c 0 t (ix2 r k)) (fun k => iblk m c 2 t (ix2 0 k)) (fun k => iblk m c 1 t (ix3 0 1 k)) (fun k => iblk m c 1 t (ix3 0 0 k))

/-- What a point's chunk of the hidden units adds for a row `h`, in column `e`. -/
def P (c : Dev nD) (t : Fin cfg0.N) (h : Fin 2048 → EReal) (e : Fin 2048) : EReal :=
  part h (fun d k => iblk m c 4 t (ix4 0 0 d k)) (fun d k => iblk m c 5 t (ix4 0 0 d k)) (fun k => iblk m c 6 t (ix4 0 0 k e))

/-- An index of the block in its first 512 rows, from the piece's coordinates. -/
theorem idx_lo (j : S1024x2048.Idx) (a : Fin 512) (b : Fin 2048) (h0 : (j 0 : ℕ) = a.val) (h1 : (j 1 : ℕ) = b.val) :
    j = ix2 (loRow a) b := by
  funext i
  fin_cases i
  · exact Fin.ext h0
  · exact Fin.ext h1

/-- An index of the block in its last 512 rows, from the piece's coordinates. -/
theorem idx_hi (j : S1024x2048.Idx) (a : Fin 512) (b : Fin 2048) (h0 : (j 0 : ℕ) = 512 + a.val) (h1 : (j 1 : ℕ) = b.val) :
    j = ix2 (hiRow a) b := by
  funext i
  fin_cases i
  · exact Fin.ext h0
  · exact Fin.ext h1

/-- The first point of a row block: the scratch gets the normed rows. -/
theorem hA (c : Dev nD) (t : Fin cfg0.N) (h0 : t.val % 11 = 0) (h1 : ¬(1 ≤ t.val % 11 ∧ t.val % 11 ≤ 9)) (h2 : ¬t.val % 11 = 10) (j : S1024x2048.Idx) :
    ((outsAt0 m c t.val t.isLt).2 j : EReal) = H m c t (rI j) (cI j) := by
  rw [outsAt0_A m c t h0 h1 h2]
  dsimp only
  frame_open
  simp (disch := decide) only [↓ View.readCov_skip, ↓ View.readCov_cons_toLoadRect, ↓ View.readCov_fill]
  frame_out
  canon_tiles y p
  all_goals obtain ⟨a, b, rfl⟩ : ∃ a b, y = ix2 a b := ⟨_, _, eq_ix2 y⟩
  · obtain rfl := idx_hi j a b p0 p1
    exact (Pay.h_hi _ _ _ _ _ _).trans (hrow_congr (fun k => ld_hi _ _ _ k) (fun _ => rfl) (fun k => ld_mod _ 1 (by decide) _ k) (fun k => ld_mod _ 0 (by decide) _ k) rfl)
  · obtain rfl := idx_lo j a b p0 p1
    exact (Pay.h_lo _ _ _ _ _ _).trans (hrow_congr (fun k => ld_lo _ _ _ k) (fun _ => rfl) (fun k => ld_mod _ 1 (by decide) _ k) (fun k => ld_mod _ 0 (by decide) _ k) rfl)

/-- The first point of a row block: the output block gets its first chunk. -/
theorem oA (c : Dev nD) (t : Fin cfg0.N) (h0 : t.val % 11 = 0) (h1 : ¬(1 ≤ t.val % 11 ∧ t.val % 11 ≤ 9)) (h2 : ¬t.val % 11 = 10) (j : S1024x2048.Idx) :
    ((outsAt0 m c t.val t.isLt).1 j : EReal) = P m c t (H m c t (rI j)) (cI j) := by
  rw [outsAt0_A m c t h0 h1 h2]
  dsimp only
  frame_open
  simp (disch := decide) only [↓ View.readCov_skip, ↓ View.readCov_cons_toLoadRect, ↓ View.readCov_fill]
  frame_out
  canon_tiles y p
  all_goals obtain ⟨a, b, rfl⟩ : ∃ a b, y = ix2 a b := ⟨_, _, eq_ix2 y⟩
  · obtain rfl := idx_hi j a b p0 p1
    exact (Pay.first_hi _ _ _ _ _ _).trans (part_congr (fun d => (Pay.h_hi _ _ _ _ _ _).trans
      (hrow_congr (fun k => ld_hi _ _ _ k) (fun _ => rfl) (fun k => ld_mod _ 1 (by decide) _ k) (fun k => ld_mod _ 0 (by decide) _ k) rfl)) (fun _ _ => rfl) (fun _ _ => rfl) (fun _ => rfl))
  · obtain rfl := idx_lo j a b p0 p1
    exact (Pay.first_lo _ _ _ _ _ _).trans (part_congr (fun d => (Pay.h_lo _ _ _ _ _ _).trans
      (hrow_congr (fun k => ld_lo _ _ _ k) (fun _ => rfl) (fun k => ld_mod _ 1 (by decide) _ k) (fun k => ld_mod _ 0 (by decide) _ k) rfl)) (fun _ _ => rfl) (fun _ _ => rfl) (fun _ => rfl))

/-- A middle point of a row block: the scratch is kept. -/
theorem hB (c : Dev nD) (t : Fin cfg0.N) (h0 : ¬t.val % 11 = 0) (h1 : (1 ≤ t.val % 11 ∧ t.val % 11 ≤ 9)) (h2 : ¬t.val % 11 = 10) :
    (outsAt0 m c t.val t.isLt).2 = (outsAt0 m c (t.val - 1) (Nat.lt_of_le_of_lt (Nat.sub_le _ _) t.isLt)).2 := by
  rw [outsAt0_B m c t h0 h1 h2]
  rfl

/-- The last point of a row block: the scratch is kept. -/
theorem hC (c : Dev nD) (t : Fin cfg0.N) (h0 : ¬t.val % 11 = 0) (h1 : ¬(1 ≤ t.val % 11 ∧ t.val % 11 ≤ 9)) (h2 : t.val % 11 = 10) :
    (outsAt0 m c t.val t.isLt).2 = (outsAt0 m c (t.val - 1) (Nat.lt_of_le_of_lt (Nat.sub_le _ _) t.isLt)).2 := by
  rw [outsAt0_C m c t h0 h1 h2]
  rfl

/-- A middle point of a row block: its chunk is added to the output block. -/
theorem oB (c : Dev nD) (t : Fin cfg0.N) (h0 : ¬t.val % 11 = 0) (h1 : (1 ≤ t.val % 11 ∧ t.val % 11 ≤ 9)) (h2 : ¬t.val % 11 = 10)
    (o : Vec Ideal S1024x2048 .f32) (h : Vec Ideal S1024x2048 .bf16)
    (ho : outsAt0 m c (t.val - 1) (Nat.lt_of_le_of_lt (Nat.sub_le _ _) t.isLt) = (o, h)) (j : S1024x2048.Idx) :
    ((outsAt0 m c t.val t.isLt).1 j : EReal) = o j + P m c t (fun d => h (ix2 (rI j) d)) (cI j) := by
  rw [outsAt0_B m c t h0 h1 h2, ho]
  dsimp only
  frame_out
  simp only [read_unread_whole]
  canon_tiles y p
  all_goals obtain ⟨a, b, rfl⟩ : ∃ a b, y = ix2 a b := ⟨_, _, eq_ix2 y⟩
  · obtain rfl := idx_hi j a b p0 p1
    exact (Pay.next_hi _ _ _ _ _ _ _).trans (congrArg₂ (· + ·) (ld_hi _ _ _ _) (part_congr (fun d => ld_hi _ _ _ d) (fun _ _ => rfl) (fun _ _ => rfl) (fun _ => rfl)))
  · obtain rfl := idx_lo j a b p0 p1
    exact (Pay.next_lo _ _ _ _ _ _ _).trans (congrArg₂ (· + ·) (ld_lo _ _ _ _) (part_congr (fun d => ld_lo _ _ _ d) (fun _ _ => rfl) (fun _ _ => rfl) (fun _ => rfl)))

/-- The last point of a row block: its chunk is added and the residual step taken. -/
theorem oC (c : Dev nD) (t : Fin cfg0.N) (h0 : ¬t.val % 11 = 0) (h1 : ¬(1 ≤ t.val % 11 ∧ t.val % 11 ≤ 9)) (h2 : t.val % 11 = 10)
    (o : Vec Ideal S1024x2048 .f32) (h : Vec Ideal S1024x2048 .bf16)
    (ho : outsAt0 m c (t.val - 1) (Nat.lt_of_le_of_lt (Nat.sub_le _ _) t.isLt) = (o, h)) (j : S1024x2048.Idx) :
    ((outsAt0 m c t.val t.isLt).1 j : EReal) = resid (fun k => iblk m c 0 t (ix2 (rI j) k)) (fun k => iblk m c 3 t (ix2 0 k))
      (fun k => o (ix2 (rI j) k) + P m c t (fun d => h (ix2 (rI j) d)) k) (fun k => iblk m c 1 t (ix3 0 2 k)) (cI j) := by
  rw [outsAt0_C m c t h0 h1 h2, ho]
  dsimp only
  frame_out
  simp only [read_unread_whole]
  canon_tiles y p
  all_goals obtain ⟨a, b, rfl⟩ : ∃ a b, y = ix2 a b := ⟨_, _, eq_ix2 y⟩
  · obtain rfl := idx_hi j a b p0 p1
    exact (Pay.last_hi _ _ _ _ _ _ _ _ _ _).trans (resid_congr (fun k => ld_hi _ _ _ k) (fun _ => rfl)
      (fun k => congrArg₂ (· + ·) (ld_hi _ _ _ k) (part_congr (fun d => ld_hi _ _ _ d) (fun _ _ => rfl) (fun _ _ => rfl) (fun _ => rfl))) (fun k => ld_mod _ 2 (by decide) _ k) rfl)
  · obtain rfl := idx_lo j a b p0 p1
    exact (Pay.last_lo _ _ _ _ _ _ _ _ _ _).trans (resid_congr (fun k => ld_lo _ _ _ k) (fun _ => rfl)
      (fun k => congrArg₂ (· + ·) (ld_lo _ _ _ k) (part_congr (fun d => ld_lo _ _ _ d) (fun _ _ => rfl) (fun _ _ => rfl) (fun _ => rfl))) (fun k => ld_mod _ 2 (by decide) _ k) rfl)

end Cert.Kernel2Ideal.Step
-- ==== Proof.FfnBlk.lean ====
module

public import proofs.«01_k».proof.Proof.FfnStep

@[expose] public section

/-! The blocks a grid point of the feed-forward kernel is given, read from the call's arguments: point `t` works on row block
`t / 11` with chunk `t % 11` of the hidden units. -/

set_option maxRecDepth 16384

noncomputable section

namespace Cert.Kernel2Ideal.Step
open Cert.Kernel2Ideal Cert.Kernel2Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The block indices of the windows at a point. -/
theorem idx : ∀ t : Fin cfg0.N, win0_0.index t = ![t.val / 11, 0] ∧ win0_1.index t = ![t.val / 22, 0, 0] ∧ win0_2.index t = ![0, 0]
    ∧ win0_3.index t = ![0, 0] ∧ win0_4.index t = ![0, 0, 0, t.val % 11] ∧ win0_5.index t = ![0, 0, 0, 11 + t.val % 11]
    ∧ win0_6.index t = ![0, 0, t.val % 11, 0] := by
  decide +kernel

/-- The point's number bounded. -/
theorem lt352 (t : Fin cfg0.N) : t.val < 352 := lt_of_lt_of_eq t.isLt N_0

/-- The activations' block at an index. -/
theorem blk0 (c : Dev nD) (t : Fin cfg0.N) (r : Fin 1024) (k : Fin 2048) :
    (iblk m c 0 t (ix2 r k) : EReal) = m ((c : Thread nD τ).loc main_arg0) (ix2 ⟨1024 * (t.val / 11) + r.val, by have := lt352 t; omega⟩ k) := by
  blk_ext [iblk, V, idx t]

/-- The modulation's block at an index. -/
theorem blk1 (c : Dev nD) (t : Fin cfg0.N) (r : Fin 3) (k : Fin 2048) :
    (iblk m c 1 t (ix3 0 r k) : EReal) = m ((c : Thread nD τ).loc main_arg1) (ix3 ⟨t.val / 22, by have := lt352 t; omega⟩ r k) := by
  blk_ext [iblk, V, idx t]

/-- The gain before the feed-forward at an index. -/
theorem blk2 (c : Dev nD) (t : Fin cfg0.N) (k : Fin 2048) :
    (iblk m c 2 t (ix2 0 k) : EReal) = m ((c : Thread nD τ).loc main_arg2) (ix1 k) := by
  have hb : iblk m c 2 t (ix2 0 k) = V m c main_v2 (ix2 0 k) := by blk_ext [iblk, idx t]
  rw [hb]
  entry_read
  pointwise

/-- The gain after the feed-forward at an index. -/
theorem blk3 (c : Dev nD) (t : Fin cfg0.N) (k : Fin 2048) :
    (iblk m c 3 t (ix2 0 k) : EReal) = m ((c : Thread nD τ).loc main_arg3) (ix1 k) := by
  have hb : iblk m c 3 t (ix2 0 k) = V m c main_v3 (ix2 0 k) := by blk_ext [iblk, idx t]
  rw [hb]
  entry_read
  pointwise

/-- The gate weights' chunk at an index. -/
theorem blk4 (c : Dev nD) (t : Fin cfg0.N) (d : Fin 2048) (k : Fin 512) :
    (iblk m c 4 t (ix4 0 0 d k) : EReal) = m ((c : Thread nD τ).loc main_arg4) (ix4 0 0 d ⟨512 * (t.val % 11) + k.val, by omega⟩) := by
  blk_ext [iblk, V, idx t]

/-- The up-projection weights' chunk at an index. -/
theorem blk5 (c : Dev nD) (t : Fin cfg0.N) (d : Fin 2048) (k : Fin 512) :
    (iblk m c 5 t (ix4 0 0 d k) : EReal) = m ((c : Thread nD τ).loc main_arg4) (ix4 0 0 d ⟨5632 + (512 * (t.val % 11) + k.val), by omega⟩) := by
  blk_ext [iblk, V, idx t]

/-- The down-projection weights' chunk at an index. -/
theorem blk6 (c : Dev nD) (t : Fin cfg0.N) (k : Fin 512) (e : Fin 2048) :
    (iblk m c 6 t (ix4 0 0 k e) : EReal) = m ((c : Thread nD τ).loc main_arg5) (ix4 0 0 ⟨512 * (t.val % 11) + k.val, by omega⟩ e) := by
  blk_ext [iblk, V, idx t]

end Cert.Kernel2Ideal.Step
-- ==== Proof.FfnRun.lean ====
module

public import proofs.«01_k».proof.Proof.FfnBlk
public import proofs.«01_k».proof.Proof.Gen.Kernel2Ideal.Value

@[expose] public section

/-! The feed-forward kernel's result at an index: over the eleven points of a row block the chunks of the hidden units add up
to the whole gated feed-forward of each row, and the last point takes the residual step. -/

set_option maxRecDepth 16384

noncomputable section

namespace Cert.Kernel2Ideal.Step
open Cert.Kernel2Ideal Cert.Kernel2Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The sequence a row of the flattened activations belongs to. -/
def seqOf (R : Fin 32768) : Fin 16 := ⟨R.val / 2048, by omega⟩

/-- A row of the activations. -/
def xr (c : Dev nD) (R : Fin 32768) (k : Fin 2048) : EReal := m ((c : Thread nD τ).loc main_arg0) (ix2 R k)

/-- One of a row's three modulation vectors: shift, scale, gate. -/
def mr (c : Dev nD) (p : Fin 3) (R : Fin 32768) (k : Fin 2048) : EReal := m ((c : Thread nD τ).loc main_arg1) (ix3 (seqOf R) p k)

/-- The gain before the feed-forward. -/
def gpre (c : Dev nD) (k : Fin 2048) : EReal := m ((c : Thread nD τ).loc main_arg2) (ix1 k)

/-- The gain after the feed-forward. -/
def gpost (c : Dev nD) (k : Fin 2048) : EReal := m ((c : Thread nD τ).loc main_arg3) (ix1 k)

/-- The normed and modulated row. -/
def hG (c : Dev nD) (R : Fin 32768) : Fin 2048 → EReal := hrow (xr m c R) (gpre m c) (mr m c 1 R) (mr m c 0 R)

/-- What hidden unit `n` adds to column `e` of a row's feed-forward. -/
def unit (c : Dev nD) (R : Fin 32768) (e : Fin 2048) (n : Fin 5632) : EReal :=
  glu (hG m c R) (fun d => m ((c : Thread nD τ).loc main_arg4) (ix4 0 0 d ⟨n.val, by omega⟩))
    (fun d => m ((c : Thread nD τ).loc main_arg4) (ix4 0 0 d ⟨5632 + n.val, by omega⟩))
    * m ((c : Thread nD τ).loc main_arg5) (ix4 0 0 n e)

/-- The same with the unit's number any natural number, nothing past the last. -/
def unitN (c : Dev nD) (R : Fin 32768) (e : Fin 2048) (n : ℕ) : EReal := if h : n < 5632 then unit m c R e ⟨n, h⟩ else 0

/-- Chunk `q` of the hidden units. -/
def chunk (c : Dev nD) (R : Fin 32768) (e : Fin 2048) (q : ℕ) : EReal := ∑ k ∈ Finset.range 512, unitN m c R e (512 * q + k)

/-- The whole gated feed-forward of a row. -/
def ff (c : Dev nD) (R : Fin 32768) (e : Fin 2048) : EReal := ∑ n, unit m c R e n

/-- The result row. -/
def outRow (c : Dev nD) (R : Fin 32768) (e : Fin 2048) : EReal := resid (xr m c R) (gpost m c) (ff m c R) (mr m c 2 R) e

/-- The array row that row `r` of a point's block is. -/
def rowOf (t : Fin cfg0.N) (r : Fin 1024) : Fin 32768 := ⟨1024 * (t.val / 11) + r.val, by have := lt352 t; omega⟩

/-- Its sequence, from the point. -/
theorem seq_rowOf (t : Fin cfg0.N) (r : Fin 1024) (h) : (⟨t.val / 22, h⟩ : Fin 16) = seqOf (rowOf t r) := by
  apply Fin.ext
  show t.val / 22 = (1024 * (t.val / 11) + r.val) / 2048
  omega

/-- The point's normed row is the array row's. -/
theorem H_eq (c : Dev nD) (t : Fin cfg0.N) (r : Fin 1024) : H m c t r = hG m c (rowOf t r) := by
  funext e
  exact hrow_congr (fun k => blk0 m c t r k) (fun k => blk2 m c t k)
    (fun k => (blk1 m c t 1 k).trans (by rw [seq_rowOf t r]; rfl)) (fun k => (blk1 m c t 0 k).trans (by rw [seq_rowOf t r]; rfl)) rfl

/-- The point's chunk is the array row's chunk. -/
theorem P_eq (c : Dev nD) (t : Fin cfg0.N) (R : Fin 32768) (e : Fin 2048) :
    P m c t (hG m c R) e = chunk m c R e (t.val % 11) := by
  unfold P chunk part
  rw [Finset.sum_range]
  refine Finset.sum_congr rfl fun k _ => ?_
  unfold unitN
  rw [dif_pos (by omega)]
  unfold unit
  refine congrArg₂ (· * ·) ?_ (blk6 m c t k e)
  exact congrArg₂ (glu _) (funext fun d => blk4 m c t d k) (funext fun d => blk5 m c t d k)

/-- The eleven chunks are the whole feed-forward. -/
theorem sum_chunks (c : Dev nD) (R : Fin 32768) (e : Fin 2048) : ∑ q ∈ Finset.range 11, chunk m c R e q = ff m c R e := by
  unfold chunk ff
  rw [show (∑ n, unit m c R e n) = ∑ n ∈ Finset.range (11 * 512), unitN m c R e n by
    rw [Finset.sum_range]
    refine Finset.sum_congr rfl fun n _ => ?_
    unfold unitN
    rw [dif_pos n.isLt]]
  rw [← Finset.sum_range_range_mul_add]
  exact Finset.sum_congr rfl fun q _ => Finset.sum_congr rfl fun k _ => by rw [Nat.mul_comm]

/-- What holds after point `t`: the scratch has the normed rows, and the output block the chunks so far, or at the last point
    of a row block the result. -/
def Inv (c : Dev nD) (t : Fin cfg0.N) : Prop :=
  (∀ j : S1024x2048.Idx, ((outsAt0 m c t.val t.isLt).2 j : EReal) = hG m c (rowOf t (rI j)) (cI j))
  ∧ (t.val % 11 ≠ 10 → ∀ j : S1024x2048.Idx, ((outsAt0 m c t.val t.isLt).1 j : EReal)
      = ∑ q ∈ Finset.range (t.val % 11 + 1), chunk m c (rowOf t (rI j)) (cI j) q)
  ∧ (t.val % 11 = 10 → ∀ j : S1024x2048.Idx, ((outsAt0 m c t.val t.isLt).1 j : EReal) = outRow m c (rowOf t (rI j)) (cI j))

/-- The invariant holds after every point. -/
theorem inv (c : Dev nD) : ∀ (n : ℕ) (hn : n < cfg0.N), Inv m c ⟨n, hn⟩ := by
  intro n
  induction n with
  | zero =>
    intro hn
    refine ⟨fun j => ?_, fun _ j => ?_, fun h => absurd h (show ¬(0 % 11 = 10) by decide)⟩
    · rw [hA m c ⟨0, hn⟩ (by rfl) (show ¬(1 ≤ 0 % 11 ∧ 0 % 11 ≤ 9) by decide) (show ¬(0 % 11 = 10) by decide), H_eq]
    · rw [oA m c ⟨0, hn⟩ (by rfl) (show ¬(1 ≤ 0 % 11 ∧ 0 % 11 ≤ 9) by decide) (show ¬(0 % 11 = 10) by decide), H_eq, P_eq]
      exact (Finset.sum_range_one _).symm
  | succ n ih =>
    intro hn
    obtain ⟨i1, i2, -⟩ := ih (by omega)
    by_cases h0 : (n + 1) % 11 = 0
    · have hb : ¬(1 ≤ (n + 1) % 11 ∧ (n + 1) % 11 ≤ 9) := by omega
      have hc : ¬(n + 1) % 11 = 10 := by omega
      refine ⟨fun j => ?_, fun _ j => ?_, fun h => absurd h hc⟩
      · rw [hA m c ⟨n + 1, hn⟩ h0 hb hc, H_eq]
      · rw [oA m c ⟨n + 1, hn⟩ h0 hb hc, H_eq, P_eq]
        simp only [h0]
        exact (Finset.sum_range_one _).symm
    · have hr : ∀ r, rowOf ⟨n, by omega⟩ r = rowOf ⟨n + 1, hn⟩ r := fun r => by
        apply Fin.ext
        show 1024 * (n / 11) + r.val = 1024 * ((n + 1) / 11) + r.val
        omega
      have hm : (n + 1) % 11 = n % 11 + 1 := by omega
      have i2' := i2 (by show n % 11 ≠ 10; omega)
      simp only [hr] at i1 i2'
      have hP : ∀ (j : S1024x2048.Idx) e, P m c ⟨n + 1, hn⟩ (fun d => (outsAt0 m c n (by omega)).2 (ix2 (rI j) d)) e
          = chunk m c (rowOf ⟨n + 1, hn⟩ (rI j)) e (n % 11 + 1) := fun j e => by
        rw [show (fun d => (outsAt0 m c n (by omega)).2 (ix2 (rI j) d)) = hG m c (rowOf ⟨n + 1, hn⟩ (rI j)) from funext fun d => i1 _,
          P_eq]
        simp only [hm]
      by_cases h2 : (n + 1) % 11 = 10
      · have hb : ¬(1 ≤ (n + 1) % 11 ∧ (n + 1) % 11 ≤ 9) := by omega
        refine ⟨fun j => ?_, fun h => absurd h2 h, fun _ j => ?_⟩
        · exact (congrFun (hC m c ⟨n + 1, hn⟩ h0 hb h2) j).trans (i1 j)
        · refine (oC m c ⟨n + 1, hn⟩ h0 hb h2 _ _ rfl j).trans (resid_congr (fun k => blk0 m c _ _ k) (fun k => blk3 m c _ k) (fun k => ?_)
            (fun k => (blk1 m c _ 2 k).trans (by rw [seq_rowOf ⟨n + 1, hn⟩ (rI j)]; rfl)) rfl)
          refine (congrArg₂ (· + ·) (i2' (ix2 (rI j) k)) (hP j k)).trans ?_
          rw [← sum_chunks, show n % 11 = 9 by omega]
          exact (Finset.sum_range_succ _ _).symm
      · have hb : (1 ≤ (n + 1) % 11 ∧ (n + 1) % 11 ≤ 9) := by omega
        refine ⟨fun j => ?_, fun _ j => ?_, fun h => absurd h h2⟩
        · exact (congrFun (hB m c ⟨n + 1, hn⟩ h0 hb h2) j).trans (i1 j)
        · refine (oB m c ⟨n + 1, hn⟩ h0 hb h2 _ _ rfl j).trans ?_
          refine (congrArg₂ (· + ·) (i2' j) (hP j (cI j))).trans ?_
          simp only [hm]
          exact (Finset.sum_range_succ _ _).symm

/-- The result array at an index. -/
theorem G_eq (c : Dev nD) (R : Fin 32768) (e : Fin 2048) : (Value.G7 m c (ix2 R e) : EReal) = outRow m c R e := by
  have hp : Value.pt7Of (ix2 R e) = 11 * (R.val / 1024) + 10 := by
    show 11 * (1 * (R.val / 1024 - 0) + 1 * (e.val / 2048 - 0)) + 10 = _
    omega
  have hl : Value.pt7Of (ix2 R e) < cfg0.N := by
    rw [hp, show cfg0.N = 352 from N_0]
    omega
  unfold Value.G7
  rw [dif_pos hl, ← Value.outsAt0_sweep m c _ hl]
  have := (inv m c _ hl).2.2 (by show Value.pt7Of (ix2 R e) % 11 = 10; omega) (Value.loc7Of (ix2 R e))
  refine this.trans (congrArg₂ (outRow m c) (Fin.ext ?_) (Fin.ext ?_))
  · show 1024 * (Value.pt7Of (ix2 R e) / 11) + R.val % 1024 = R.val
    omega
  · show e.val % 2048 = e.val
    omega

end Cert.Kernel2Ideal.Step
-- ==== Proof.FfnRef.lean ====
module

public import proofs.«01_k».proof.Proof.Gen.Reference2Ideal.Read
public import proofs.«01_k».proof.Proof.Rows
public import Idealize.ShloMosaic.Lib.Pipeline.ValueKit

@[expose] public section

/-! The feed-forward reference's result at an index, as the row functions of `Rows`. -/

set_option maxRecDepth 16384

noncomputable section

namespace Cert.Reference2Ideal.Rd
open Cert.Reference2Ideal Cert.Reference2Ideal.Read Idealize.ShloMosaic Cert.Rows

variable (x0 : (⟨S32768x2048, .f32⟩ : BufTy).Contents (Elt Ideal)) (x1 : (⟨S16x3x2048, .f32⟩ : BufTy).Contents (Elt Ideal))
  (x2 x3 : (⟨S2048, .f32⟩ : BufTy).Contents (Elt Ideal)) (x4 : (⟨S2x2x2048x11264, .f32⟩ : BufTy).Contents (Elt Ideal))
  (x5 : (⟨S2x2x5632x2048, .f32⟩ : BufTy).Contents (Elt Ideal))

/-- The flattened row of a sequence's position. -/
def row (b : Fin 16) (t : Fin 2048) : Fin 32768 := ⟨b.val * 2048 + t.val, by omega⟩

/-- The activations by sequence and position. -/
theorem x_at (b : Fin 16) (t e : Fin 2048) : (val_main_v0 x0 (ix3 b t e) : EReal) = x0 (ix2 (row b t) e) := by
  rw [val_main_v0_apply]
  congr 1
  funext a
  apply Fin.ext
  match a with
  | ⟨0, _⟩ =>
    show ((b.val * 2048 + t.val) * 2048 + e.val) / 2048 = b.val * 2048 + t.val
    omega
  | ⟨1, _⟩ =>
    show ((b.val * 2048 + t.val) * 2048 + e.val) % 2048 = e.val
    omega

/-- The normed and modulated rows. -/
theorem h_at (b : Fin 16) (t e : Fin 2048) : (val_main_v28 x0 x1 x2 (ix3 b t e) : EReal)
    = hrow (fun k => x0 (ix2 (row b t) k)) (fun k => x2 (ix1 k)) (fun k => x1 (ix3 b 1 k)) (fun k => x1 (ix3 b 0 k)) e := by
  unfold val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11
    val_main_v10 val_main_v6 val_main_v5 val_main_v4 val_main_v3 val_main_v2 val_main_v1
    val_main_cst val_main_cst_0 val_main_cst_1 val_main_cst_2
  pointwise
  simp only [x_at]
  rw [mul_assoc]
  rfl

/-- The gated hidden units. -/
theorem glu_at (b : Fin 16) (t : Fin 2048) (n : Fin 5632) : (val_main_v35 x0 x1 x2 x4 (ix3 b t n) : EReal)
    = glu (fun d => val_main_v28 x0 x1 x2 (ix3 b t d)) (fun d => x4 (ix4 0 0 d ⟨n.val, by omega⟩))
        (fun d => x4 (ix4 0 0 d ⟨5632 + n.val, by omega⟩)) := by
  unfold val_main_v35 val_main_v34 val_main_call0_v5 val_main_call0_v4 val_main_call0_v3 val_main_call0_v2 val_main_call0_v1 val_main_call0_v0
    val_main_v33 val_main_v32 val_main_v31 val_main_v30 val_main_v29 val_main_call0_cst val_main_call0_cst_0
  pointwise
  rfl

/-- The gated feed-forward of a row. -/
theorem ff_at (b : Fin 16) (t e : Fin 2048) : (val_main_v38 x0 x1 x2 x4 x5 (ix3 b t e) : EReal)
    = ∑ n : Fin 5632, val_main_v35 x0 x1 x2 x4 (ix3 b t n) * x5 (ix4 0 0 n e) := by
  unfold val_main_v38 val_main_v37 val_main_v36
  pointwise

/-- The result by sequence and position. -/
theorem out_at (b : Fin 16) (t e : Fin 2048) : (val_main_v58 x0 x1 x2 x3 x4 x5 (ix3 b t e) : EReal)
    = resid (fun k => x0 (ix2 (row b t) k)) (fun k => x3 (ix1 k)) (fun k => val_main_v38 x0 x1 x2 x4 x5 (ix3 b t k)) (fun k => x1 (ix3 b 2 k)) e := by
  unfold val_main_v58 val_main_v57 val_main_v56 val_main_v55 val_main_v54 val_main_v53 val_main_v52 val_main_v51 val_main_v50
    val_main_v49 val_main_v48 val_main_v47 val_main_v46 val_main_v45 val_main_v44 val_main_v43 val_main_v42 val_main_v41
    val_main_v40 val_main_v39 val_main_v9 val_main_v8 val_main_v7
    val_main_cst_3 val_main_cst_4 val_main_cst_5 val_main_cst_6 val_main_cst_7
  pointwise
  simp only [x_at]
  unfold resid rinv
  congr 1
  rw [mul_comm, mul_assoc]

end Cert.Reference2Ideal.Rd
-- ==== Proof.FfnClaim.lean ====
module

public import proofs.«01_k».proof.Defs
public import proofs.«01_k».proof.Proof.FfnRun
public import proofs.«01_k».proof.Proof.FfnRef
public import proofs.«01_k».proof.Proof.Gen.Reference2Ideal.Run
public import proofs.«01_k».proof.Proof.Gen.Kernel2.Frame

@[expose] public section

/-! The claims about the feed-forward at weights (0, 0). -/

set_option maxRecDepth 16384

noncomputable section

namespace Cert.Proof
open Idealize.ShloMosaic Idealize.ShloMosaic.TcCoe Idealize.SL.Sem Cert.Rows

/-- The feed-forward as printed runs, keeps its arguments and ends quiescent. -/
theorem frame_ffn : Cert.quiescent_Kernel2 := fun m ρ _ => Cert.Kernel2.Gen.frame m ρ

/-- The idealized feed-forward likewise. -/
theorem frame_ffn_ideal : Cert.quiescent_Kernel2Ideal := fun m ρ _ => Cert.Kernel2Ideal.Gen.frame m ρ

/-- The feed-forward's reference likewise. -/
theorem frame_ffn_ref : Cert.quiescent_Reference2Ideal := fun m ρ _ =>
  (θ_run _ _ _).mono (fun _ h => ⟨fun c => (h c).2, Idealize.ShloMosaic.sem_eq_zero_of_no_sems (by decide) _⟩) (Cert.Reference2Ideal.Value.run (F := Ideal) m ρ)

/-- The feed-forward is printed without rewrites. -/
theorem preserves_ffn : Cert.preserves_Kernel2_Kernel2Ideal := trivial

/-- A row of the feed-forward's reference is the kernel's, when the arguments agree. -/
theorem ffn_row (m : (ℓ : Loc Kernel2Ideal.nD Kernel2Ideal.τ Kernel2Ideal.sig) → Buf (Elt Ideal) ℓ) (c : Dev Kernel2Ideal.nD) (i : Kernel2Ideal.S32768x2048.Idx) :
    (Cert.Reference2Ideal.Read.val_main_v59 (F := Ideal) (m ((c.tc : Thread Kernel2Ideal.nD Kernel2Ideal.τ).loc Kernel2Ideal.main_arg0))
      (m ((c.tc : Thread Kernel2Ideal.nD Kernel2Ideal.τ).loc Kernel2Ideal.main_arg1)) (m ((c.tc : Thread Kernel2Ideal.nD Kernel2Ideal.τ).loc Kernel2Ideal.main_arg2))
      (m ((c.tc : Thread Kernel2Ideal.nD Kernel2Ideal.τ).loc Kernel2Ideal.main_arg3)) (m ((c.tc : Thread Kernel2Ideal.nD Kernel2Ideal.τ).loc Kernel2Ideal.main_arg4))
      (m ((c.tc : Thread Kernel2Ideal.nD Kernel2Ideal.τ).loc Kernel2Ideal.main_arg5)) i : EReal) = Kernel2Ideal.Value.G7 m c i := by
  obtain ⟨R, e, rfl⟩ : ∃ (R : Fin 32768) (e : Fin 2048), i = ix2 R e := ⟨_, _, eq_ix2 i⟩
  have hR : R = Reference2Ideal.Rd.row (Kernel2Ideal.Step.seqOf R) ⟨R.val % 2048, by omega⟩ := Fin.ext (by
    show R.val = R.val / 2048 * 2048 + R.val % 2048
    omega)
  have hi : Reference2Ideal.Read.idx_main_v59 (ix2 R e) = ix3 (Kernel2Ideal.Step.seqOf R) (⟨R.val % 2048, by omega⟩ : Fin 2048) e := by
    funext a
    apply Fin.ext
    match a with
    | ⟨0, _⟩ =>
      show (R.val * 2048 + e.val) / 4194304 = R.val / 2048
      omega
    | ⟨1, _⟩ =>
      show (R.val * 2048 + e.val) / 2048 % 2048 = R.val % 2048
      omega
    | ⟨2, _⟩ =>
      show (R.val * 2048 + e.val) % 2048 = e.val
      omega
  rw [Reference2Ideal.Read.val_main_v59_apply, hi, Reference2Ideal.Rd.out_at, Kernel2Ideal.Step.G_eq, ← hR]
  refine resid_congr (fun _ => rfl) (fun _ => rfl) (fun k => ?_) (fun _ => rfl) rfl
  rw [Reference2Ideal.Rd.ff_at]
  refine Finset.sum_congr rfl fun n _ => ?_
  rw [Reference2Ideal.Rd.glu_at]
  refine congrArg₂ (· * ·) ?_ rfl
  refine congrArg (fun h => glu h _ _) (funext fun d => ?_)
  rw [Reference2Ideal.Rd.h_at, ← hR]
  rfl

/-- The feed-forward kernel computes its reference. -/
theorem algebraic_ffn : Cert.algebraic_Kernel2Ideal_Reference2Ideal := by
  intro m ρ m' ρ' _ hag
  refine ⟨fun c => Kernel2Ideal.Value.G7 m c, Cert.Kernel2Ideal.Value.run (F := Ideal) m ρ,
    (θ_run _ _ _).mono (fun r h c => ?_) (Cert.Reference2Ideal.Value.run (F := Ideal) m' ρ')⟩
  refine ⟨(h c).1.trans ?_, (h c).2⟩
  obtain ⟨h0, h1, h2, h3, h4, h5⟩ := hag c
  rw [Reference2Ideal.Read.val_main_v59_eq, h0, h1, h2, h3, h4, h5]
  exact funext fun i => ffn_row m c i

end Cert.Proof
-- ==== Proof.Ffn3Pay.lean ====
module

public import proofs.«01_k».proof.Proof.Gen.Kernel3Ideal.Skeleton
public import proofs.«01_k».proof.Proof.Rows

@[expose] public section

/-! The words the feed-forward kernel stores, read at an index: each is a row function of `Rows`. -/

set_option maxRecDepth 16384

noncomputable section

namespace Cert.Kernel3Ideal.Pay
open Cert.Kernel3Ideal Cert.Kernel3Ideal.Gen Idealize.ShloMosaic Cert.Rows

/-- The normed and modulated rows, first half. -/
theorem h_lo (x : Vec Ideal S512x2048 .f32) (g : Vec Ideal S1x2048 .f32) (sc sh : Vec Ideal S1x1x2048 .f32) (r : Fin 512) (e : Fin 2048) :
    (k0_pay5 x g sc sh (ix2 r e) : EReal) = hrow (fun k => x (ix2 r k)) (fun k => g (ix2 0 k)) (fun k => sc (ix3 0 0 k)) (fun k => sh (ix3 0 0 k)) e := by
  unfold_payloads
  pointwise
  rfl

/-- The normed and modulated rows, second half. -/
theorem h_hi (x : Vec Ideal S512x2048 .f32) (g : Vec Ideal S1x2048 .f32) (sc sh : Vec Ideal S1x1x2048 .f32) (r : Fin 512) (e : Fin 2048) :
    (k0_pay1 (k0_pay8 x g sc sh) (ix2 r e) : EReal) = hrow (fun k => x (ix2 r k)) (fun k => g (ix2 0 k)) (fun k => sc (ix3 0 0 k)) (fun k => sh (ix3 0 0 k)) e := by
  unfold_payloads
  pointwise
  rfl

/-- The first chunk's contribution, first half of the rows. -/
theorem first_lo (h : Vec Ideal S512x2048 .bf16) (w1 w3 : Vec Ideal S1x1x2048x512 .bf16) (w2 : Vec Ideal S1x1x512x2048 .bf16) (r : Fin 512) (e : Fin 2048) :
    (k0_pay7 h (k0_pay6 h w1) w3 w2 (ix2 r e) : EReal) = part (fun d => h (ix2 r d)) (fun d k => w1 (ix4 0 0 d k)) (fun d k => w3 (ix4 0 0 d k)) (fun k => w2 (ix4 0 0 k e)) := by
  unfold_payloads
  pointwise
  rfl

/-- The first chunk's contribution, second half of the rows. -/
theorem first_hi (h : Vec Ideal S512x2048 .bf16) (w1 w3 : Vec Ideal S1x1x2048x512 .bf16) (w2 : Vec Ideal S1x1x512x2048 .bf16) (r : Fin 512) (e : Fin 2048) :
    (k0_pay2 h w1 w3 w2 (ix2 r e) : EReal) = part (fun d => h (ix2 r d)) (fun d k => w1 (ix4 0 0 d k)) (fun d k => w3 (ix4 0 0 d k)) (fun k => w2 (ix4 0 0 k e)) := by
  unfold_payloads
  pointwise
  rfl

/-- A middle chunk added on, first half of the rows. -/
theorem next_lo (o : Vec Ideal S512x2048 .f32) (h : Vec Ideal S512x2048 .bf16) (w1 w3 : Vec Ideal S1x1x2048x512 .bf16) (w2 : Vec Ideal S1x1x512x2048 .bf16) (r : Fin 512) (e : Fin 2048) :
    (k0_pay9 o h w1 w3 w2 (ix2 r e) : EReal) = o (ix2 r e) + part (fun d => h (ix2 r d)) (fun d k => w1 (ix4 0 0 d k)) (fun d k => w3 (ix4 0 0 d k)) (fun k => w2 (ix4 0 0 k e)) := by
  unfold_payloads
  pointwise
  rfl

/-- A middle chunk added on, second half of the rows. -/
theorem next_hi (o : Vec Ideal S512x2048 .f32) (h : Vec Ideal S512x2048 .bf16) (w1 w3 : Vec Ideal S1x1x2048x512 .bf16) (w2 : Vec Ideal S1x1x512x2048 .bf16) (r : Fin 512) (e : Fin 2048) :
    (k0_pay3 (k0_pay10 o) h (k0_pay11 h w1) w3 w2 (ix2 r e) : EReal) = o (ix2 r e) + part (fun d => h (ix2 r d)) (fun d k => w1 (ix4 0 0 d k)) (fun d k => w3 (ix4 0 0 d k)) (fun k => w2 (ix4 0 0 k e)) := by
  unfold_payloads
  pointwise
  rfl

/-- The last chunk added on and the residual step taken, first half of the rows. -/
theorem last_lo (x o : Vec Ideal S512x2048 .f32) (gp : Vec Ideal S1x2048 .f32) (gate : Vec Ideal S1x1x2048 .f32) (h : Vec Ideal S512x2048 .bf16) (w1 w3 : Vec Ideal S1x1x2048x512 .bf16) (w2 : Vec Ideal S1x1x512x2048 .bf16) (r : Fin 512) (e : Fin 2048) :
    (k0_pay14 x (k0_pay12 gp) (k0_pay13 o h w1 w3 w2) gate (ix2 r e) : EReal) = resid (fun k => x (ix2 r k)) (fun k => gp (ix2 0 k))
      (fun k => o (ix2 r k) + part (fun d => h (ix2 r d)) (fun d k => w1 (ix4 0 0 d k)) (fun d k => w3 (ix4 0 0 d k)) (fun j => w2 (ix4 0 0 j k))) (fun k => gate (ix3 0 0 k)) e := by
  unfold_payloads
  pointwise
  rfl

/-- The last chunk added on and the residual step taken, second half of the rows. -/
theorem last_hi (x o : Vec Ideal S512x2048 .f32) (gp : Vec Ideal S1x2048 .f32) (gate : Vec Ideal S1x1x2048 .f32) (h : Vec Ideal S512x2048 .bf16) (w1 w3 : Vec Ideal S1x1x2048x512 .bf16) (w2 : Vec Ideal S1x1x512x2048 .bf16) (r : Fin 512) (e : Fin 2048) :
    (k0_pay4 (k0_pay15 o h w1 w3 w2) x (k0_pay16 gp) (k0_pay17 o h w1 w3 w2) gate (ix2 r e) : EReal) = resid (fun k => x (ix2 r k)) (fun k => gp (ix2 0 k))
      (fun k => o (ix2 r k) + part (fun d => h (ix2 r d)) (fun d k => w1 (ix4 0 0 d k)) (fun d k => w3 (ix4 0 0 d k)) (fun j => w2 (ix4 0 0 j k))) (fun k => gate (ix3 0 0 k)) e := by
  unfold_payloads
  pointwise
  rfl

end Cert.Kernel3Ideal.Pay
-- ==== Proof.Ffn3Step.lean ====
module

public import proofs.«01_k».proof.Proof.Gen.Kernel3Ideal.Frame
public import proofs.«01_k».proof.Proof.Ffn3Pay
public import Idealize.ShloMosaic.Lib.Pipeline.ValueKit
public import Idealize.ShloMosaic.Lib.Pipeline.ReadBack

@[expose] public section

/-! What one grid point of the feed-forward kernel leaves in its output block and in the scratch that holds the normed rows,
read at an index, from the blocks it is given and what the point before left. -/

set_option maxRecDepth 16384

noncomputable section

namespace Cert.Kernel3Ideal.Step
open Cert.Kernel3Ideal Cert.Kernel3Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The row of an index of a block. -/
def rI (j : S1024x2048.Idx) : Fin 1024 := j 0

/-- The column of an index of a block. -/
def cI (j : S1024x2048.Idx) : Fin 2048 := j 1

/-- Row `a` of the first half of a block. -/
def loRow (a : Fin 512) : Fin 1024 := ⟨a.val, by omega⟩

/-- Row `a` of the last half of a block. -/
def hiRow (a : Fin 512) : Fin 1024 := ⟨512 + a.val, by omega⟩

/-- A load of the first 512 rows at an index. -/
theorem ld_lo {φ : EltTy} (X : S1024x2048.Idx → Elt Ideal φ) (inb) (r : Fin 512) (e : Fin 2048) :
    View.ld (Val := Elt Ideal) X (Rect.unit ![0, 0] ![512, 2048] inb) (ix2 r e) = X (ix2 (loRow r) e) :=
  View.ld_unit_apply_of _ _ _ _ _ _ (by intro a; fin_cases a <;> simp [ix2, loRow, hiRow])

/-- A load of the last 512 rows at an index. -/
theorem ld_hi {φ : EltTy} (X : S1024x2048.Idx → Elt Ideal φ) (inb) (r : Fin 512) (e : Fin 2048) :
    View.ld (Val := Elt Ideal) X (Rect.unit ![512, 0] ![512, 2048] inb) (ix2 r e) = X (ix2 (hiRow r) e) :=
  View.ld_unit_apply_of _ _ _ _ _ _ (by intro a; fin_cases a <;> simp [ix2, loRow, hiRow])

/-- A load of one of the three modulation rows at an index. -/
theorem ld_mod (X : S1x3x2048.Idx → Elt Ideal .f32) (k : ℕ) (hk : k < 3) (inb) (e : Fin 2048) :
    View.ld (Val := Elt Ideal) X (Rect.unit ![0, k, 0] ![1, 1, 2048] inb) (ix3 0 0 e) = X (ix3 0 ⟨k, hk⟩ e) :=
  View.ld_unit_apply_of _ _ _ _ _ _ (by intro a; fin_cases a <;> simp [ix3])

/-- The normed and modulated row `r` of a point's block. -/
def H (c : Dev nD) (t : Fin cfg0.N) (r : Fin 1024) : Fin 2048 → EReal :=
  hrow (fun k => iblk m c 0 t (ix2 r k)) (fun k => iblk m c 2 t (ix2 0 k)) (fun k => iblk m c 1 t (ix3 0 1 k)) (fun k => iblk m c 1 t (ix3 0 0 k))

/-- What a point's chunk of the hidden units adds for a row `h`, in column `e`. -/
def P (c : Dev nD) (t : Fin cfg0.N) (h : Fin 2048 → EReal) (e : Fin 2048) : EReal :=
  part h (fun d k => iblk m c 4 t (ix4 0 0 d k)) (fun d k => iblk m c 5 t (ix4 0 0 d k)) (fun k => iblk m c 6 t (ix4 0 0 k e))

/-- An index of the block in its first 512 rows, from the piece's coordinates. -/
theorem idx_lo (j : S1024x2048.Idx) (a : Fin 512) (b : Fin 2048) (h0 : (j 0 : ℕ) = a.val) (h1 : (j 1 : ℕ) = b.val) :
    j = ix2 (loRow a) b := by
  funext i
  fin_cases i
  · exact Fin.ext h0
  · exact Fin.ext h1

/-- An index of the block in its last 512 rows, from the piece's coordinates. -/
theorem idx_hi (j : S1024x2048.Idx) (a : Fin 512) (b : Fin 2048) (h0 : (j 0 : ℕ) = 512 + a.val) (h1 : (j 1 : ℕ) = b.val) :
    j = ix2 (hiRow a) b := by
  funext i
  fin_cases i
  · exact Fin.ext h0
  · exact Fin.ext h1

/-- The first point of a row block: the scratch gets the normed rows. -/
theorem hA (c : Dev nD) (t : Fin cfg0.N) (h0 : t.val % 11 = 0) (h1 : ¬(1 ≤ t.val % 11 ∧ t.val % 11 ≤ 9)) (h2 : ¬t.val % 11 = 10) (j : S1024x2048.Idx) :
    ((outsAt0 m c t.val t.isLt).2 j : EReal) = H m c t (rI j) (cI j) := by
  rw [outsAt0_A m c t h0 h1 h2]
  dsimp only
  frame_open
  simp (disch := decide) only [↓ View.readCov_skip, ↓ View.readCov_cons_toLoadRect, ↓ View.readCov_fill]
  frame_out
  canon_tiles y p
  all_goals obtain ⟨a, b, rfl⟩ : ∃ a b, y = ix2 a b := ⟨_, _, eq_ix2 y⟩
  · obtain rfl := idx_hi j a b p0 p1
    exact (Pay.h_hi _ _ _ _ _ _).trans (hrow_congr (fun k => ld_hi _ _ _ k) (fun _ => rfl) (fun k => ld_mod _ 1 (by decide) _ k) (fun k => ld_mod _ 0 (by decide) _ k) rfl)
  · obtain rfl := idx_lo j a b p0 p1
    exact (Pay.h_lo _ _ _ _ _ _).trans (hrow_congr (fun k => ld_lo _ _ _ k) (fun _ => rfl) (fun k => ld_mod _ 1 (by decide) _ k) (fun k => ld_mod _ 0 (by decide) _ k) rfl)

/-- The first point of a row block: the output block gets its first chunk. -/
theorem oA (c : Dev nD) (t : Fin cfg0.N) (h0 : t.val % 11 = 0) (h1 : ¬(1 ≤ t.val % 11 ∧ t.val % 11 ≤ 9)) (h2 : ¬t.val % 11 = 10) (j : S1024x2048.Idx) :
    ((outsAt0 m c t.val t.isLt).1 j : EReal) = P m c t (H m c t (rI j)) (cI j) := by
  rw [outsAt0_A m c t h0 h1 h2]
  dsimp only
  frame_open
  simp (disch := decide) only [↓ View.readCov_skip, ↓ View.readCov_cons_toLoadRect, ↓ View.readCov_fill]
  frame_out
  canon_tiles y p
  all_goals obtain ⟨a, b, rfl⟩ : ∃ a b, y = ix2 a b := ⟨_, _, eq_ix2 y⟩
  · obtain rfl := idx_hi j a b p0 p1
    exact (Pay.first_hi _ _ _ _ _ _).trans (part_congr (fun d => (Pay.h_hi _ _ _ _ _ _).trans
      (hrow_congr (fun k => ld_hi _ _ _ k) (fun _ => rfl) (fun k => ld_mod _ 1 (by decide) _ k) (fun k => ld_mod _ 0 (by decide) _ k) rfl)) (fun _ _ => rfl) (fun _ _ => rfl) (fun _ => rfl))
  · obtain rfl := idx_lo j a b p0 p1
    exact (Pay.first_lo _ _ _ _ _ _).trans (part_congr (fun d => (Pay.h_lo _ _ _ _ _ _).trans
      (hrow_congr (fun k => ld_lo _ _ _ k) (fun _ => rfl) (fun k => ld_mod _ 1 (by decide) _ k) (fun k => ld_mod _ 0 (by decide) _ k) rfl)) (fun _ _ => rfl) (fun _ _ => rfl) (fun _ => rfl))

/-- A middle point of a row block: the scratch is kept. -/
theorem hB (c : Dev nD) (t : Fin cfg0.N) (h0 : ¬t.val % 11 = 0) (h1 : (1 ≤ t.val % 11 ∧ t.val % 11 ≤ 9)) (h2 : ¬t.val % 11 = 10) :
    (outsAt0 m c t.val t.isLt).2 = (outsAt0 m c (t.val - 1) (Nat.lt_of_le_of_lt (Nat.sub_le _ _) t.isLt)).2 := by
  rw [outsAt0_B m c t h0 h1 h2]
  rfl

/-- The last point of a row block: the scratch is kept. -/
theorem hC (c : Dev nD) (t : Fin cfg0.N) (h0 : ¬t.val % 11 = 0) (h1 : ¬(1 ≤ t.val % 11 ∧ t.val % 11 ≤ 9)) (h2 : t.val % 11 = 10) :
    (outsAt0 m c t.val t.isLt).2 = (outsAt0 m c (t.val - 1) (Nat.lt_of_le_of_lt (Nat.sub_le _ _) t.isLt)).2 := by
  rw [outsAt0_C m c t h0 h1 h2]
  rfl

/-- A middle point of a row block: its chunk is added to the output block. -/
theorem oB (c : Dev nD) (t : Fin cfg0.N) (h0 : ¬t.val % 11 = 0) (h1 : (1 ≤ t.val % 11 ∧ t.val % 11 ≤ 9)) (h2 : ¬t.val % 11 = 10)
    (o : Vec Ideal S1024x2048 .f32) (h : Vec Ideal S1024x2048 .bf16)
    (ho : outsAt0 m c (t.val - 1) (Nat.lt_of_le_of_lt (Nat.sub_le _ _) t.isLt) = (o, h)) (j : S1024x2048.Idx) :
    ((outsAt0 m c t.val t.isLt).1 j : EReal) = o j + P m c t (fun d => h (ix2 (rI j) d)) (cI j) := by
  rw [outsAt0_B m c t h0 h1 h2, ho]
  dsimp only
  frame_out
  simp only [read_unread_whole]
  canon_tiles y p
  all_goals obtain ⟨a, b, rfl⟩ : ∃ a b, y = ix2 a b := ⟨_, _, eq_ix2 y⟩
  · obtain rfl := idx_hi j a b p0 p1
    exact (Pay.next_hi _ _ _ _ _ _ _).trans (congrArg₂ (· + ·) (ld_hi _ _ _ _) (part_congr (fun d => ld_hi _ _ _ d) (fun _ _ => rfl) (fun _ _ => rfl) (fun _ => rfl)))
  · obtain rfl := idx_lo j a b p0 p1
    exact (Pay.next_lo _ _ _ _ _ _ _).trans (congrArg₂ (· + ·) (ld_lo _ _ _ _) (part_congr (fun d => ld_lo _ _ _ d) (fun _ _ => rfl) (fun _ _ => rfl) (fun _ => rfl)))

/-- The last point of a row block: its chunk is added and the residual step taken. -/
theorem oC (c : Dev nD) (t : Fin cfg0.N) (h0 : ¬t.val % 11 = 0) (h1 : ¬(1 ≤ t.val % 11 ∧ t.val % 11 ≤ 9)) (h2 : t.val % 11 = 10)
    (o : Vec Ideal S1024x2048 .f32) (h : Vec Ideal S1024x2048 .bf16)
    (ho : outsAt0 m c (t.val - 1) (Nat.lt_of_le_of_lt (Nat.sub_le _ _) t.isLt) = (o, h)) (j : S1024x2048.Idx) :
    ((outsAt0 m c t.val t.isLt).1 j : EReal) = resid (fun k => iblk m c 0 t (ix2 (rI j) k)) (fun k => iblk m c 3 t (ix2 0 k))
      (fun k => o (ix2 (rI j) k) + P m c t (fun d => h (ix2 (rI j) d)) k) (fun k => iblk m c 1 t (ix3 0 2 k)) (cI j) := by
  rw [outsAt0_C m c t h0 h1 h2, ho]
  dsimp only
  frame_out
  simp only [read_unread_whole]
  canon_tiles y p
  all_goals obtain ⟨a, b, rfl⟩ : ∃ a b, y = ix2 a b := ⟨_, _, eq_ix2 y⟩
  · obtain rfl := idx_hi j a b p0 p1
    exact (Pay.last_hi _ _ _ _ _ _ _ _ _ _).trans (resid_congr (fun k => ld_hi _ _ _ k) (fun _ => rfl)
      (fun k => congrArg₂ (· + ·) (ld_hi _ _ _ k) (part_congr (fun d => ld_hi _ _ _ d) (fun _ _ => rfl) (fun _ _ => rfl) (fun _ => rfl))) (fun k => ld_mod _ 2 (by decide) _ k) rfl)
  · obtain rfl := idx_lo j a b p0 p1
    exact (Pay.last_lo _ _ _ _ _ _ _ _ _ _).trans (resid_congr (fun k => ld_lo _ _ _ k) (fun _ => rfl)
      (fun k => congrArg₂ (· + ·) (ld_lo _ _ _ k) (part_congr (fun d => ld_lo _ _ _ d) (fun _ _ => rfl) (fun _ _ => rfl) (fun _ => rfl))) (fun k => ld_mod _ 2 (by decide) _ k) rfl)

end Cert.Kernel3Ideal.Step
-- ==== Proof.Ffn3Blk.lean ====
module

public import proofs.«01_k».proof.Proof.Ffn3Step

@[expose] public section

/-! The blocks a grid point of the feed-forward kernel is given, read from the call's arguments: point `t` works on row block
`t / 11` with chunk `t % 11` of the hidden units. -/

set_option maxRecDepth 16384

noncomputable section

namespace Cert.Kernel3Ideal.Step
open Cert.Kernel3Ideal Cert.Kernel3Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The block indices of the windows at a point. -/
theorem idx : ∀ t : Fin cfg0.N, win0_0.index t = ![t.val / 11, 0] ∧ win0_1.index t = ![t.val / 22, 0, 0] ∧ win0_2.index t = ![0, 0]
    ∧ win0_3.index t = ![0, 0] ∧ win0_4.index t = ![0, 1, 0, t.val % 11] ∧ win0_5.index t = ![0, 1, 0, 11 + t.val % 11]
    ∧ win0_6.index t = ![0, 1, t.val % 11, 0] := by
  decide +kernel

/-- The point's number bounded. -/
theorem lt352 (t : Fin cfg0.N) : t.val < 352 := lt_of_lt_of_eq t.isLt N_0

/-- The activations' block at an index. -/
theorem blk0 (c : Dev nD) (t : Fin cfg0.N) (r : Fin 1024) (k : Fin 2048) :
    (iblk m c 0 t (ix2 r k) : EReal) = m ((c : Thread nD τ).loc main_arg0) (ix2 ⟨1024 * (t.val / 11) + r.val, by have := lt352 t; omega⟩ k) := by
  blk_ext [iblk, V, idx t]

/-- The modulation's block at an index. -/
theorem blk1 (c : Dev nD) (t : Fin cfg0.N) (r : Fin 3) (k : Fin 2048) :
    (iblk m c 1 t (ix3 0 r k) : EReal) = m ((c : Thread nD τ).loc main_arg1) (ix3 ⟨t.val / 22, by have := lt352 t; omega⟩ r k) := by
  blk_ext [iblk, V, idx t]

/-- The gain before the feed-forward at an index. -/
theorem blk2 (c : Dev nD) (t : Fin cfg0.N) (k : Fin 2048) :
    (iblk m c 2 t (ix2 0 k) : EReal) = m ((c : Thread nD τ).loc main_arg2) (ix1 k) := by
  have hb : iblk m c 2 t (ix2 0 k) = V m c main_v2 (ix2 0 k) := by blk_ext [iblk, idx t]
  rw [hb]
  entry_read
  pointwise

/-- The gain after the feed-forward at an index. -/
theorem blk3 (c : Dev nD) (t : Fin cfg0.N) (k : Fin 2048) :
    (iblk m c 3 t (ix2 0 k) : EReal) = m ((c : Thread nD τ).loc main_arg3) (ix1 k) := by
  have hb : iblk m c 3 t (ix2 0 k) = V m c main_v3 (ix2 0 k) := by blk_ext [iblk, idx t]
  rw [hb]
  entry_read
  pointwise

/-- The gate weights' chunk at an index. -/
theorem blk4 (c : Dev nD) (t : Fin cfg0.N) (d : Fin 2048) (k : Fin 512) :
    (iblk m c 4 t (ix4 0 0 d k) : EReal) = m ((c : Thread nD τ).loc main_arg4) (ix4 0 1 d ⟨512 * (t.val % 11) + k.val, by omega⟩) := by
  blk_ext [iblk, V, idx t]

/-- The up-projection weights' chunk at an index. -/
theorem blk5 (c : Dev nD) (t : Fin cfg0.N) (d : Fin 2048) (k : Fin 512) :
    (iblk m c 5 t (ix4 0 0 d k) : EReal) = m ((c : Thread nD τ).loc main_arg4) (ix4 0 1 d ⟨5632 + (512 * (t.val % 11) + k.val), by omega⟩) := by
  blk_ext [iblk, V, idx t]

/-- The down-projection weights' chunk at an index. -/
theorem blk6 (c : Dev nD) (t : Fin cfg0.N) (k : Fin 512) (e : Fin 2048) :
    (iblk m c 6 t (ix4 0 0 k e) : EReal) = m ((c : Thread nD τ).loc main_arg5) (ix4 0 1 ⟨512 * (t.val % 11) + k.val, by omega⟩ e) := by
  blk_ext [iblk, V, idx t]

end Cert.Kernel3Ideal.Step
-- ==== Proof.Ffn3Run.lean ====
module

public import proofs.«01_k».proof.Proof.Ffn3Blk
public import proofs.«01_k».proof.Proof.Gen.Kernel3Ideal.Value

@[expose] public section

/-! The feed-forward kernel's result at an index: over the eleven points of a row block the chunks of the hidden units add up
to the whole gated feed-forward of each row, and the last point takes the residual step. -/

set_option maxRecDepth 16384

noncomputable section

namespace Cert.Kernel3Ideal.Step
open Cert.Kernel3Ideal Cert.Kernel3Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The sequence a row of the flattened activations belongs to. -/
def seqOf (R : Fin 32768) : Fin 16 := ⟨R.val / 2048, by omega⟩

/-- A row of the activations. -/
def xr (c : Dev nD) (R : Fin 32768) (k : Fin 2048) : EReal := m ((c : Thread nD τ).loc main_arg0) (ix2 R k)

/-- One of a row's three modulation vectors: shift, scale, gate. -/
def mr (c : Dev nD) (p : Fin 3) (R : Fin 32768) (k : Fin 2048) : EReal := m ((c : Thread nD τ).loc main_arg1) (ix3 (seqOf R) p k)

/-- The gain before the feed-forward. -/
def gpre (c : Dev nD) (k : Fin 2048) : EReal := m ((c : Thread nD τ).loc main_arg2) (ix1 k)

/-- The gain after the feed-forward. -/
def gpost (c : Dev nD) (k : Fin 2048) : EReal := m ((c : Thread nD τ).loc main_arg3) (ix1 k)

/-- The normed and modulated row. -/
def hG (c : Dev nD) (R : Fin 32768) : Fin 2048 → EReal := hrow (xr m c R) (gpre m c) (mr m c 1 R) (mr m c 0 R)

/-- What hidden unit `n` adds to column `e` of a row's feed-forward. -/
def unit (c : Dev nD) (R : Fin 32768) (e : Fin 2048) (n : Fin 5632) : EReal :=
  glu (hG m c R) (fun d => m ((c : Thread nD τ).loc main_arg4) (ix4 0 1 d ⟨n.val, by omega⟩))
    (fun d => m ((c : Thread nD τ).loc main_arg4) (ix4 0 1 d ⟨5632 + n.val, by omega⟩))
    * m ((c : Thread nD τ).loc main_arg5) (ix4 0 1 n e)

/-- The same with the unit's number any natural number, nothing past the last. -/
def unitN (c : Dev nD) (R : Fin 32768) (e : Fin 2048) (n : ℕ) : EReal := if h : n < 5632 then unit m c R e ⟨n, h⟩ else 0

/-- Chunk `q` of the hidden units. -/
def chunk (c : Dev nD) (R : Fin 32768) (e : Fin 2048) (q : ℕ) : EReal := ∑ k ∈ Finset.range 512, unitN m c R e (512 * q + k)

/-- The whole gated feed-forward of a row. -/
def ff (c : Dev nD) (R : Fin 32768) (e : Fin 2048) : EReal := ∑ n, unit m c R e n

/-- The result row. -/
def outRow (c : Dev nD) (R : Fin 32768) (e : Fin 2048) : EReal := resid (xr m c R) (gpost m c) (ff m c R) (mr m c 2 R) e

/-- The array row that row `r` of a point's block is. -/
def rowOf (t : Fin cfg0.N) (r : Fin 1024) : Fin 32768 := ⟨1024 * (t.val / 11) + r.val, by have := lt352 t; omega⟩

/-- Its sequence, from the point. -/
theorem seq_rowOf (t : Fin cfg0.N) (r : Fin 1024) (h) : (⟨t.val / 22, h⟩ : Fin 16) = seqOf (rowOf t r) := by
  apply Fin.ext
  show t.val / 22 = (1024 * (t.val / 11) + r.val) / 2048
  omega

/-- The point's normed row is the array row's. -/
theorem H_eq (c : Dev nD) (t : Fin cfg0.N) (r : Fin 1024) : H m c t r = hG m c (rowOf t r) := by
  funext e
  exact hrow_congr (fun k => blk0 m c t r k) (fun k => blk2 m c t k)
    (fun k => (blk1 m c t 1 k).trans (by rw [seq_rowOf t r]; rfl)) (fun k => (blk1 m c t 0 k).trans (by rw [seq_rowOf t r]; rfl)) rfl

/-- The point's chunk is the array row's chunk. -/
theorem P_eq (c : Dev nD) (t : Fin cfg0.N) (R : Fin 32768) (e : Fin 2048) :
    P m c t (hG m c R) e = chunk m c R e (t.val % 11) := by
  unfold P chunk part
  rw [Finset.sum_range]
  refine Finset.sum_congr rfl fun k _ => ?_
  unfold unitN
  rw [dif_pos (by omega)]
  unfold unit
  refine congrArg₂ (· * ·) ?_ (blk6 m c t k e)
  exact congrArg₂ (glu _) (funext fun d => blk4 m c t d k) (funext fun d => blk5 m c t d k)

/-- The eleven chunks are the whole feed-forward. -/
theorem sum_chunks (c : Dev nD) (R : Fin 32768) (e : Fin 2048) : ∑ q ∈ Finset.range 11, chunk m c R e q = ff m c R e := by
  unfold chunk ff
  rw [show (∑ n, unit m c R e n) = ∑ n ∈ Finset.range (11 * 512), unitN m c R e n by
    rw [Finset.sum_range]
    refine Finset.sum_congr rfl fun n _ => ?_
    unfold unitN
    rw [dif_pos n.isLt]]
  rw [← Finset.sum_range_range_mul_add]
  exact Finset.sum_congr rfl fun q _ => Finset.sum_congr rfl fun k _ => by rw [Nat.mul_comm]

/-- What holds after point `t`: the scratch has the normed rows, and the output block the chunks so far, or at the last point
    of a row block the result. -/
def Inv (c : Dev nD) (t : Fin cfg0.N) : Prop :=
  (∀ j : S1024x2048.Idx, ((outsAt0 m c t.val t.isLt).2 j : EReal) = hG m c (rowOf t (rI j)) (cI j))
  ∧ (t.val % 11 ≠ 10 → ∀ j : S1024x2048.Idx, ((outsAt0 m c t.val t.isLt).1 j : EReal)
      = ∑ q ∈ Finset.range (t.val % 11 + 1), chunk m c (rowOf t (rI j)) (cI j) q)
  ∧ (t.val % 11 = 10 → ∀ j : S1024x2048.Idx, ((outsAt0 m c t.val t.isLt).1 j : EReal) = outRow m c (rowOf t (rI j)) (cI j))

/-- The invariant holds after every point. -/
theorem inv (c : Dev nD) : ∀ (n : ℕ) (hn : n < cfg0.N), Inv m c ⟨n, hn⟩ := by
  intro n
  induction n with
  | zero =>
    intro hn
    refine ⟨fun j => ?_, fun _ j => ?_, fun h => absurd h (show ¬(0 % 11 = 10) by decide)⟩
    · rw [hA m c ⟨0, hn⟩ (by rfl) (show ¬(1 ≤ 0 % 11 ∧ 0 % 11 ≤ 9) by decide) (show ¬(0 % 11 = 10) by decide), H_eq]
    · rw [oA m c ⟨0, hn⟩ (by rfl) (show ¬(1 ≤ 0 % 11 ∧ 0 % 11 ≤ 9) by decide) (show ¬(0 % 11 = 10) by decide), H_eq, P_eq]
      exact (Finset.sum_range_one _).symm
  | succ n ih =>
    intro hn
    obtain ⟨i1, i2, -⟩ := ih (by omega)
    by_cases h0 : (n + 1) % 11 = 0
    · have hb : ¬(1 ≤ (n + 1) % 11 ∧ (n + 1) % 11 ≤ 9) := by omega
      have hc : ¬(n + 1) % 11 = 10 := by omega
      refine ⟨fun j => ?_, fun _ j => ?_, fun h => absurd h hc⟩
      · rw [hA m c ⟨n + 1, hn⟩ h0 hb hc, H_eq]
      · rw [oA m c ⟨n + 1, hn⟩ h0 hb hc, H_eq, P_eq]
        simp only [h0]
        exact (Finset.sum_range_one _).symm
    · have hr : ∀ r, rowOf ⟨n, by omega⟩ r = rowOf ⟨n + 1, hn⟩ r := fun r => by
        apply Fin.ext
        show 1024 * (n / 11) + r.val = 1024 * ((n + 1) / 11) + r.val
        omega
      have hm : (n + 1) % 11 = n % 11 + 1 := by omega
      have i2' := i2 (by show n % 11 ≠ 10; omega)
      simp only [hr] at i1 i2'
      have hP : ∀ (j : S1024x2048.Idx) e, P m c ⟨n + 1, hn⟩ (fun d => (outsAt0 m c n (by omega)).2 (ix2 (rI j) d)) e
          = chunk m c (rowOf ⟨n + 1, hn⟩ (rI j)) e (n % 11 + 1) := fun j e => by
        rw [show (fun d => (outsAt0 m c n (by omega)).2 (ix2 (rI j) d)) = hG m c (rowOf ⟨n + 1, hn⟩ (rI j)) from funext fun d => i1 _,
          P_eq]
        simp only [hm]
      by_cases h2 : (n + 1) % 11 = 10
      · have hb : ¬(1 ≤ (n + 1) % 11 ∧ (n + 1) % 11 ≤ 9) := by omega
        refine ⟨fun j => ?_, fun h => absurd h2 h, fun _ j => ?_⟩
        · exact (congrFun (hC m c ⟨n + 1, hn⟩ h0 hb h2) j).trans (i1 j)
        · refine (oC m c ⟨n + 1, hn⟩ h0 hb h2 _ _ rfl j).trans (resid_congr (fun k => blk0 m c _ _ k) (fun k => blk3 m c _ k) (fun k => ?_)
            (fun k => (blk1 m c _ 2 k).trans (by rw [seq_rowOf ⟨n + 1, hn⟩ (rI j)]; rfl)) rfl)
          refine (congrArg₂ (· + ·) (i2' (ix2 (rI j) k)) (hP j k)).trans ?_
          rw [← sum_chunks, show n % 11 = 9 by omega]
          exact (Finset.sum_range_succ _ _).symm
      · have hb : (1 ≤ (n + 1) % 11 ∧ (n + 1) % 11 ≤ 9) := by omega
        refine ⟨fun j => ?_, fun _ j => ?_, fun h => absurd h h2⟩
        · exact (congrFun (hB m c ⟨n + 1, hn⟩ h0 hb h2) j).trans (i1 j)
        · refine (oB m c ⟨n + 1, hn⟩ h0 hb h2 _ _ rfl j).trans ?_
          refine (congrArg₂ (· + ·) (i2' j) (hP j (cI j))).trans ?_
          simp only [hm]
          exact (Finset.sum_range_succ _ _).symm

/-- The result array at an index. -/
theorem G_eq (c : Dev nD) (R : Fin 32768) (e : Fin 2048) : (Value.G7 m c (ix2 R e) : EReal) = outRow m c R e := by
  have hp : Value.pt7Of (ix2 R e) = 11 * (R.val / 1024) + 10 := by
    show 11 * (1 * (R.val / 1024 - 0) + 1 * (e.val / 2048 - 0)) + 10 = _
    omega
  have hl : Value.pt7Of (ix2 R e) < cfg0.N := by
    rw [hp, show cfg0.N = 352 from N_0]
    omega
  unfold Value.G7
  rw [dif_pos hl, ← Value.outsAt0_sweep m c _ hl]
  have := (inv m c _ hl).2.2 (by show Value.pt7Of (ix2 R e) % 11 = 10; omega) (Value.loc7Of (ix2 R e))
  refine this.trans (congrArg₂ (outRow m c) (Fin.ext ?_) (Fin.ext ?_))
  · show 1024 * (Value.pt7Of (ix2 R e) / 11) + R.val % 1024 = R.val
    omega
  · show e.val % 2048 = e.val
    omega

end Cert.Kernel3Ideal.Step
-- ==== Proof.Ffn3Ref.lean ====
module

public import proofs.«01_k».proof.Proof.Gen.Reference3Ideal.Read
public import proofs.«01_k».proof.Proof.Rows
public import Idealize.ShloMosaic.Lib.Pipeline.ValueKit

@[expose] public section

/-! The feed-forward reference's result at an index, as the row functions of `Rows`. -/

set_option maxRecDepth 16384

noncomputable section

namespace Cert.Reference3Ideal.Rd
open Cert.Reference3Ideal Cert.Reference3Ideal.Read Idealize.ShloMosaic Cert.Rows

variable (x0 : (⟨S32768x2048, .f32⟩ : BufTy).Contents (Elt Ideal)) (x1 : (⟨S16x3x2048, .f32⟩ : BufTy).Contents (Elt Ideal))
  (x2 x3 : (⟨S2048, .f32⟩ : BufTy).Contents (Elt Ideal)) (x4 : (⟨S2x2x2048x11264, .f32⟩ : BufTy).Contents (Elt Ideal))
  (x5 : (⟨S2x2x5632x2048, .f32⟩ : BufTy).Contents (Elt Ideal))

/-- The flattened row of a sequence's position. -/
def row (b : Fin 16) (t : Fin 2048) : Fin 32768 := ⟨b.val * 2048 + t.val, by omega⟩

/-- The activations by sequence and position. -/
theorem x_at (b : Fin 16) (t e : Fin 2048) : (val_main_v0 x0 (ix3 b t e) : EReal) = x0 (ix2 (row b t) e) := by
  rw [val_main_v0_apply]
  congr 1
  funext a
  apply Fin.ext
  match a with
  | ⟨0, _⟩ =>
    show ((b.val * 2048 + t.val) * 2048 + e.val) / 2048 = b.val * 2048 + t.val
    omega
  | ⟨1, _⟩ =>
    show ((b.val * 2048 + t.val) * 2048 + e.val) % 2048 = e.val
    omega

/-- The normed and modulated rows. -/
theorem h_at (b : Fin 16) (t e : Fin 2048) : (val_main_v28 x0 x1 x2 (ix3 b t e) : EReal)
    = hrow (fun k => x0 (ix2 (row b t) k)) (fun k => x2 (ix1 k)) (fun k => x1 (ix3 b 1 k)) (fun k => x1 (ix3 b 0 k)) e := by
  unfold val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11
    val_main_v10 val_main_v6 val_main_v5 val_main_v4 val_main_v3 val_main_v2 val_main_v1
    val_main_cst val_main_cst_0 val_main_cst_1 val_main_cst_2
  pointwise
  simp only [x_at]
  rw [mul_assoc]
  rfl

/-- The gated hidden units. -/
theorem glu_at (b : Fin 16) (t : Fin 2048) (n : Fin 5632) : (val_main_v35 x0 x1 x2 x4 (ix3 b t n) : EReal)
    = glu (fun d => val_main_v28 x0 x1 x2 (ix3 b t d)) (fun d => x4 (ix4 0 1 d ⟨n.val, by omega⟩))
        (fun d => x4 (ix4 0 1 d ⟨5632 + n.val, by omega⟩)) := by
  unfold val_main_v35 val_main_v34 val_main_call0_v5 val_main_call0_v4 val_main_call0_v3 val_main_call0_v2 val_main_call0_v1 val_main_call0_v0
    val_main_v33 val_main_v32 val_main_v31 val_main_v30 val_main_v29 val_main_call0_cst val_main_call0_cst_0
  pointwise
  rfl

/-- The gated feed-forward of a row. -/
theorem ff_at (b : Fin 16) (t e : Fin 2048) : (val_main_v38 x0 x1 x2 x4 x5 (ix3 b t e) : EReal)
    = ∑ n : Fin 5632, val_main_v35 x0 x1 x2 x4 (ix3 b t n) * x5 (ix4 0 1 n e) := by
  unfold val_main_v38 val_main_v37 val_main_v36
  pointwise

/-- The result by sequence and position. -/
theorem out_at (b : Fin 16) (t e : Fin 2048) : (val_main_v58 x0 x1 x2 x3 x4 x5 (ix3 b t e) : EReal)
    = resid (fun k => x0 (ix2 (row b t) k)) (fun k => x3 (ix1 k)) (fun k => val_main_v38 x0 x1 x2 x4 x5 (ix3 b t k)) (fun k => x1 (ix3 b 2 k)) e := by
  unfold val_main_v58 val_main_v57 val_main_v56 val_main_v55 val_main_v54 val_main_v53 val_main_v52 val_main_v51 val_main_v50
    val_main_v49 val_main_v48 val_main_v47 val_main_v46 val_main_v45 val_main_v44 val_main_v43 val_main_v42 val_main_v41
    val_main_v40 val_main_v39 val_main_v9 val_main_v8 val_main_v7
    val_main_cst_3 val_main_cst_4 val_main_cst_5 val_main_cst_6 val_main_cst_7
  pointwise
  simp only [x_at]
  unfold resid rinv
  congr 1
  rw [mul_comm, mul_assoc]

end Cert.Reference3Ideal.Rd
-- ==== Proof.Ffn3Claim.lean ====
module

public import proofs.«01_k».proof.Defs
public import proofs.«01_k».proof.Proof.Ffn3Run
public import proofs.«01_k».proof.Proof.Ffn3Ref
public import proofs.«01_k».proof.Proof.Gen.Reference3Ideal.Run
public import proofs.«01_k».proof.Proof.Gen.Kernel3.Frame

@[expose] public section

/-! The claims about the feed-forward at weights (0, 1). -/

set_option maxRecDepth 16384

noncomputable section

namespace Cert.Proof
open Idealize.ShloMosaic Idealize.ShloMosaic.TcCoe Idealize.SL.Sem Cert.Rows

/-- The feed-forward as printed runs, keeps its arguments and ends quiescent. -/
theorem frame_ffn3 : Cert.quiescent_Kernel3 := fun m ρ _ => Cert.Kernel3.Gen.frame m ρ

/-- The idealized feed-forward likewise. -/
theorem frame_ffn3_ideal : Cert.quiescent_Kernel3Ideal := fun m ρ _ => Cert.Kernel3Ideal.Gen.frame m ρ

/-- The feed-forward's reference likewise. -/
theorem frame_ffn3_ref : Cert.quiescent_Reference3Ideal := fun m ρ _ =>
  (θ_run _ _ _).mono (fun _ h => ⟨fun c => (h c).2, Idealize.ShloMosaic.sem_eq_zero_of_no_sems (by decide) _⟩) (Cert.Reference3Ideal.Value.run (F := Ideal) m ρ)

/-- The feed-forward is printed without rewrites. -/
theorem preserves_ffn3 : Cert.preserves_Kernel3_Kernel3Ideal := trivial

/-- A row of the feed-forward's reference is the kernel's, when the arguments agree. -/
theorem ffn3_row (m : (ℓ : Loc Kernel3Ideal.nD Kernel3Ideal.τ Kernel3Ideal.sig) → Buf (Elt Ideal) ℓ) (c : Dev Kernel3Ideal.nD) (i : Kernel3Ideal.S32768x2048.Idx) :
    (Cert.Reference3Ideal.Read.val_main_v59 (F := Ideal) (m ((c.tc : Thread Kernel3Ideal.nD Kernel3Ideal.τ).loc Kernel3Ideal.main_arg0))
      (m ((c.tc : Thread Kernel3Ideal.nD Kernel3Ideal.τ).loc Kernel3Ideal.main_arg1)) (m ((c.tc : Thread Kernel3Ideal.nD Kernel3Ideal.τ).loc Kernel3Ideal.main_arg2))
      (m ((c.tc : Thread Kernel3Ideal.nD Kernel3Ideal.τ).loc Kernel3Ideal.main_arg3)) (m ((c.tc : Thread Kernel3Ideal.nD Kernel3Ideal.τ).loc Kernel3Ideal.main_arg4))
      (m ((c.tc : Thread Kernel3Ideal.nD Kernel3Ideal.τ).loc Kernel3Ideal.main_arg5)) i : EReal) = Kernel3Ideal.Value.G7 m c i := by
  obtain ⟨R, e, rfl⟩ : ∃ (R : Fin 32768) (e : Fin 2048), i = ix2 R e := ⟨_, _, eq_ix2 i⟩
  have hR : R = Reference3Ideal.Rd.row (Kernel3Ideal.Step.seqOf R) ⟨R.val % 2048, by omega⟩ := Fin.ext (by
    show R.val = R.val / 2048 * 2048 + R.val % 2048
    omega)
  have hi : Reference3Ideal.Read.idx_main_v59 (ix2 R e) = ix3 (Kernel3Ideal.Step.seqOf R) (⟨R.val % 2048, by omega⟩ : Fin 2048) e := by
    funext a
    apply Fin.ext
    match a with
    | ⟨0, _⟩ =>
      show (R.val * 2048 + e.val) / 4194304 = R.val / 2048
      omega
    | ⟨1, _⟩ =>
      show (R.val * 2048 + e.val) / 2048 % 2048 = R.val % 2048
      omega
    | ⟨2, _⟩ =>
      show (R.val * 2048 + e.val) % 2048 = e.val
      omega
  rw [Reference3Ideal.Read.val_main_v59_apply, hi, Reference3Ideal.Rd.out_at, Kernel3Ideal.Step.G_eq, ← hR]
  refine resid_congr (fun _ => rfl) (fun _ => rfl) (fun k => ?_) (fun _ => rfl) rfl
  rw [Reference3Ideal.Rd.ff_at]
  refine Finset.sum_congr rfl fun n _ => ?_
  rw [Reference3Ideal.Rd.glu_at]
  refine congrArg₂ (· * ·) ?_ rfl
  refine congrArg (fun h => glu h _ _) (funext fun d => ?_)
  rw [Reference3Ideal.Rd.h_at, ← hR]
  rfl

/-- The feed-forward kernel computes its reference. -/
theorem algebraic_ffn3 : Cert.algebraic_Kernel3Ideal_Reference3Ideal := by
  intro m ρ m' ρ' _ hag
  refine ⟨fun c => Kernel3Ideal.Value.G7 m c, Cert.Kernel3Ideal.Value.run (F := Ideal) m ρ,
    (θ_run _ _ _).mono (fun r h c => ?_) (Cert.Reference3Ideal.Value.run (F := Ideal) m' ρ')⟩
  refine ⟨(h c).1.trans ?_, (h c).2⟩
  obtain ⟨h0, h1, h2, h3, h4, h5⟩ := hag c
  rw [Reference3Ideal.Read.val_main_v59_eq, h0, h1, h2, h3, h4, h5]
  exact funext fun i => ffn3_row m c i

end Cert.Proof
-- ==== Proof.Ffn4Pay.lean ====
module

public import proofs.«01_k».proof.Proof.Gen.Kernel4Ideal.Skeleton
public import proofs.«01_k».proof.Proof.Rows

@[expose] public section

/-! The words the feed-forward kernel stores, read at an index: each is a row function of `Rows`. -/

set_option maxRecDepth 16384

noncomputable section

namespace Cert.Kernel4Ideal.Pay
open Cert.Kernel4Ideal Cert.Kernel4Ideal.Gen Idealize.ShloMosaic Cert.Rows

/-- The normed and modulated rows, first half. -/
theorem h_lo (x : Vec Ideal S512x2048 .f32) (g : Vec Ideal S1x2048 .f32) (sc sh : Vec Ideal S1x1x2048 .f32) (r : Fin 512) (e : Fin 2048) :
    (k0_pay5 x g sc sh (ix2 r e) : EReal) = hrow (fun k => x (ix2 r k)) (fun k => g (ix2 0 k)) (fun k => sc (ix3 0 0 k)) (fun k => sh (ix3 0 0 k)) e := by
  unfold_payloads
  pointwise
  rfl

/-- The normed and modulated rows, second half. -/
theorem h_hi (x : Vec Ideal S512x2048 .f32) (g : Vec Ideal S1x2048 .f32) (sc sh : Vec Ideal S1x1x2048 .f32) (r : Fin 512) (e : Fin 2048) :
    (k0_pay1 (k0_pay8 x g sc sh) (ix2 r e) : EReal) = hrow (fun k => x (ix2 r k)) (fun k => g (ix2 0 k)) (fun k => sc (ix3 0 0 k)) (fun k => sh (ix3 0 0 k)) e := by
  unfold_payloads
  pointwise
  rfl

/-- The first chunk's contribution, first half of the rows. -/
theorem first_lo (h : Vec Ideal S512x2048 .bf16) (w1 w3 : Vec Ideal S1x1x2048x512 .bf16) (w2 : Vec Ideal S1x1x512x2048 .bf16) (r : Fin 512) (e : Fin 2048) :
    (k0_pay7 h (k0_pay6 h w1) w3 w2 (ix2 r e) : EReal) = part (fun d => h (ix2 r d)) (fun d k => w1 (ix4 0 0 d k)) (fun d k => w3 (ix4 0 0 d k)) (fun k => w2 (ix4 0 0 k e)) := by
  unfold_payloads
  pointwise
  rfl

/-- The first chunk's contribution, second half of the rows. -/
theorem first_hi (h : Vec Ideal S512x2048 .bf16) (w1 w3 : Vec Ideal S1x1x2048x512 .bf16) (w2 : Vec Ideal S1x1x512x2048 .bf16) (r : Fin 512) (e : Fin 2048) :
    (k0_pay2 h w1 w3 w2 (ix2 r e) : EReal) = part (fun d => h (ix2 r d)) (fun d k => w1 (ix4 0 0 d k)) (fun d k => w3 (ix4 0 0 d k)) (fun k => w2 (ix4 0 0 k e)) := by
  unfold_payloads
  pointwise
  rfl

/-- A middle chunk added on, first half of the rows. -/
theorem next_lo (o : Vec Ideal S512x2048 .f32) (h : Vec Ideal S512x2048 .bf16) (w1 w3 : Vec Ideal S1x1x2048x512 .bf16) (w2 : Vec Ideal S1x1x512x2048 .bf16) (r : Fin 512) (e : Fin 2048) :
    (k0_pay9 o h w1 w3 w2 (ix2 r e) : EReal) = o (ix2 r e) + part (fun d => h (ix2 r d)) (fun d k => w1 (ix4 0 0 d k)) (fun d k => w3 (ix4 0 0 d k)) (fun k => w2 (ix4 0 0 k e)) := by
  unfold_payloads
  pointwise
  rfl

/-- A middle chunk added on, second half of the rows. -/
theorem next_hi (o : Vec Ideal S512x2048 .f32) (h : Vec Ideal S512x2048 .bf16) (w1 w3 : Vec Ideal S1x1x2048x512 .bf16) (w2 : Vec Ideal S1x1x512x2048 .bf16) (r : Fin 512) (e : Fin 2048) :
    (k0_pay3 (k0_pay10 o) h (k0_pay11 h w1) w3 w2 (ix2 r e) : EReal) = o (ix2 r e) + part (fun d => h (ix2 r d)) (fun d k => w1 (ix4 0 0 d k)) (fun d k => w3 (ix4 0 0 d k)) (fun k => w2 (ix4 0 0 k e)) := by
  unfold_payloads
  pointwise
  rfl

/-- The last chunk added on and the residual step taken, first half of the rows. -/
theorem last_lo (x o : Vec Ideal S512x2048 .f32) (gp : Vec Ideal S1x2048 .f32) (gate : Vec Ideal S1x1x2048 .f32) (h : Vec Ideal S512x2048 .bf16) (w1 w3 : Vec Ideal S1x1x2048x512 .bf16) (w2 : Vec Ideal S1x1x512x2048 .bf16) (r : Fin 512) (e : Fin 2048) :
    (k0_pay14 x (k0_pay12 gp) (k0_pay13 o h w1 w3 w2) gate (ix2 r e) : EReal) = resid (fun k => x (ix2 r k)) (fun k => gp (ix2 0 k))
      (fun k => o (ix2 r k) + part (fun d => h (ix2 r d)) (fun d k => w1 (ix4 0 0 d k)) (fun d k => w3 (ix4 0 0 d k)) (fun j => w2 (ix4 0 0 j k))) (fun k => gate (ix3 0 0 k)) e := by
  unfold_payloads
  pointwise
  rfl

/-- The last chunk added on and the residual step taken, second half of the rows. -/
theorem last_hi (x o : Vec Ideal S512x2048 .f32) (gp : Vec Ideal S1x2048 .f32) (gate : Vec Ideal S1x1x2048 .f32) (h : Vec Ideal S512x2048 .bf16) (w1 w3 : Vec Ideal S1x1x2048x512 .bf16) (w2 : Vec Ideal S1x1x512x2048 .bf16) (r : Fin 512) (e : Fin 2048) :
    (k0_pay4 (k0_pay15 o h w1 w3 w2) x (k0_pay16 gp) (k0_pay17 o h w1 w3 w2) gate (ix2 r e) : EReal) = resid (fun k => x (ix2 r k)) (fun k => gp (ix2 0 k))
      (fun k => o (ix2 r k) + part (fun d => h (ix2 r d)) (fun d k => w1 (ix4 0 0 d k)) (fun d k => w3 (ix4 0 0 d k)) (fun j => w2 (ix4 0 0 j k))) (fun k => gate (ix3 0 0 k)) e := by
  unfold_payloads
  pointwise
  rfl

end Cert.Kernel4Ideal.Pay
-- ==== Proof.Ffn4Step.lean ====
module

public import proofs.«01_k».proof.Proof.Gen.Kernel4Ideal.Frame
public import proofs.«01_k».proof.Proof.Ffn4Pay
public import Idealize.ShloMosaic.Lib.Pipeline.ValueKit
public import Idealize.ShloMosaic.Lib.Pipeline.ReadBack

@[expose] public section

/-! What one grid point of the feed-forward kernel leaves in its output block and in the scratch that holds the normed rows,
read at an index, from the blocks it is given and what the point before left. -/

set_option maxRecDepth 16384

noncomputable section

namespace Cert.Kernel4Ideal.Step
open Cert.Kernel4Ideal Cert.Kernel4Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The row of an index of a block. -/
def rI (j : S1024x2048.Idx) : Fin 1024 := j 0

/-- The column of an index of a block. -/
def cI (j : S1024x2048.Idx) : Fin 2048 := j 1

/-- Row `a` of the first half of a block. -/
def loRow (a : Fin 512) : Fin 1024 := ⟨a.val, by omega⟩

/-- Row `a` of the last half of a block. -/
def hiRow (a : Fin 512) : Fin 1024 := ⟨512 + a.val, by omega⟩

/-- A load of the first 512 rows at an index. -/
theorem ld_lo {φ : EltTy} (X : S1024x2048.Idx → Elt Ideal φ) (inb) (r : Fin 512) (e : Fin 2048) :
    View.ld (Val := Elt Ideal) X (Rect.unit ![0, 0] ![512, 2048] inb) (ix2 r e) = X (ix2 (loRow r) e) :=
  View.ld_unit_apply_of _ _ _ _ _ _ (by intro a; fin_cases a <;> simp [ix2, loRow, hiRow])

/-- A load of the last 512 rows at an index. -/
theorem ld_hi {φ : EltTy} (X : S1024x2048.Idx → Elt Ideal φ) (inb) (r : Fin 512) (e : Fin 2048) :
    View.ld (Val := Elt Ideal) X (Rect.unit ![512, 0] ![512, 2048] inb) (ix2 r e) = X (ix2 (hiRow r) e) :=
  View.ld_unit_apply_of _ _ _ _ _ _ (by intro a; fin_cases a <;> simp [ix2, loRow, hiRow])

/-- A load of one of the three modulation rows at an index. -/
theorem ld_mod (X : S1x3x2048.Idx → Elt Ideal .f32) (k : ℕ) (hk : k < 3) (inb) (e : Fin 2048) :
    View.ld (Val := Elt Ideal) X (Rect.unit ![0, k, 0] ![1, 1, 2048] inb) (ix3 0 0 e) = X (ix3 0 ⟨k, hk⟩ e) :=
  View.ld_unit_apply_of _ _ _ _ _ _ (by intro a; fin_cases a <;> simp [ix3])

/-- The normed and modulated row `r` of a point's block. -/
def H (c : Dev nD) (t : Fin cfg0.N) (r : Fin 1024) : Fin 2048 → EReal :=
  hrow (fun k => iblk m c 0 t (ix2 r k)) (fun k => iblk m c 2 t (ix2 0 k)) (fun k => iblk m c 1 t (ix3 0 1 k)) (fun k => iblk m c 1 t (ix3 0 0 k))

/-- What a point's chunk of the hidden units adds for a row `h`, in column `e`. -/
def P (c : Dev nD) (t : Fin cfg0.N) (h : Fin 2048 → EReal) (e : Fin 2048) : EReal :=
  part h (fun d k => iblk m c 4 t (ix4 0 0 d k)) (fun d k => iblk m c 5 t (ix4 0 0 d k)) (fun k => iblk m c 6 t (ix4 0 0 k e))

/-- An index of the block in its first 512 rows, from the piece's coordinates. -/
theorem idx_lo (j : S1024x2048.Idx) (a : Fin 512) (b : Fin 2048) (h0 : (j 0 : ℕ) = a.val) (h1 : (j 1 : ℕ) = b.val) :
    j = ix2 (loRow a) b := by
  funext i
  fin_cases i
  · exact Fin.ext h0
  · exact Fin.ext h1

/-- An index of the block in its last 512 rows, from the piece's coordinates. -/
theorem idx_hi (j : S1024x2048.Idx) (a : Fin 512) (b : Fin 2048) (h0 : (j 0 : ℕ) = 512 + a.val) (h1 : (j 1 : ℕ) = b.val) :
    j = ix2 (hiRow a) b := by
  funext i
  fin_cases i
  · exact Fin.ext h0
  · exact Fin.ext h1

/-- The first point of a row block: the scratch gets the normed rows. -/
theorem hA (c : Dev nD) (t : Fin cfg0.N) (h0 : t.val % 11 = 0) (h1 : ¬(1 ≤ t.val % 11 ∧ t.val % 11 ≤ 9)) (h2 : ¬t.val % 11 = 10) (j : S1024x2048.Idx) :
    ((outsAt0 m c t.val t.isLt).2 j : EReal) = H m c t (rI j) (cI j) := by
  rw [outsAt0_A m c t h0 h1 h2]
  dsimp only
  frame_open
  simp (disch := decide) only [↓ View.readCov_skip, ↓ View.readCov_cons_toLoadRect, ↓ View.readCov_fill]
  frame_out
  canon_tiles y p
  all_goals obtain ⟨a, b, rfl⟩ : ∃ a b, y = ix2 a b := ⟨_, _, eq_ix2 y⟩
  · obtain rfl := idx_hi j a b p0 p1
    exact (Pay.h_hi _ _ _ _ _ _).trans (hrow_congr (fun k => ld_hi _ _ _ k) (fun _ => rfl) (fun k => ld_mod _ 1 (by decide) _ k) (fun k => ld_mod _ 0 (by decide) _ k) rfl)
  · obtain rfl := idx_lo j a b p0 p1
    exact (Pay.h_lo _ _ _ _ _ _).trans (hrow_congr (fun k => ld_lo _ _ _ k) (fun _ => rfl) (fun k => ld_mod _ 1 (by decide) _ k) (fun k => ld_mod _ 0 (by decide) _ k) rfl)

/-- The first point of a row block: the output block gets its first chunk. -/
theorem oA (c : Dev nD) (t : Fin cfg0.N) (h0 : t.val % 11 = 0) (h1 : ¬(1 ≤ t.val % 11 ∧ t.val % 11 ≤ 9)) (h2 : ¬t.val % 11 = 10) (j : S1024x2048.Idx) :
    ((outsAt0 m c t.val t.isLt).1 j : EReal) = P m c t (H m c t (rI j)) (cI j) := by
  rw [outsAt0_A m c t h0 h1 h2]
  dsimp only
  frame_open
  simp (disch := decide) only [↓ View.readCov_skip, ↓ View.readCov_cons_toLoadRect, ↓ View.readCov_fill]
  frame_out
  canon_tiles y p
  all_goals obtain ⟨a, b, rfl⟩ : ∃ a b, y = ix2 a b := ⟨_, _, eq_ix2 y⟩
  · obtain rfl := idx_hi j a b p0 p1
    exact (Pay.first_hi _ _ _ _ _ _).trans (part_congr (fun d => (Pay.h_hi _ _ _ _ _ _).trans
      (hrow_congr (fun k => ld_hi _ _ _ k) (fun _ => rfl) (fun k => ld_mod _ 1 (by decide) _ k) (fun k => ld_mod _ 0 (by decide) _ k) rfl)) (fun _ _ => rfl) (fun _ _ => rfl) (fun _ => rfl))
  · obtain rfl := idx_lo j a b p0 p1
    exact (Pay.first_lo _ _ _ _ _ _).trans (part_congr (fun d => (Pay.h_lo _ _ _ _ _ _).trans
      (hrow_congr (fun k => ld_lo _ _ _ k) (fun _ => rfl) (fun k => ld_mod _ 1 (by decide) _ k) (fun k => ld_mod _ 0 (by decide) _ k) rfl)) (fun _ _ => rfl) (fun _ _ => rfl) (fun _ => rfl))

/-- A middle point of a row block: the scratch is kept. -/
theorem hB (c : Dev nD) (t : Fin cfg0.N) (h0 : ¬t.val % 11 = 0) (h1 : (1 ≤ t.val % 11 ∧ t.val % 11 ≤ 9)) (h2 : ¬t.val % 11 = 10) :
    (outsAt0 m c t.val t.isLt).2 = (outsAt0 m c (t.val - 1) (Nat.lt_of_le_of_lt (Nat.sub_le _ _) t.isLt)).2 := by
  rw [outsAt0_B m c t h0 h1 h2]
  rfl

/-- The last point of a row block: the scratch is kept. -/
theorem hC (c : Dev nD) (t : Fin cfg0.N) (h0 : ¬t.val % 11 = 0) (h1 : ¬(1 ≤ t.val % 11 ∧ t.val % 11 ≤ 9)) (h2 : t.val % 11 = 10) :
    (outsAt0 m c t.val t.isLt).2 = (outsAt0 m c (t.val - 1) (Nat.lt_of_le_of_lt (Nat.sub_le _ _) t.isLt)).2 := by
  rw [outsAt0_C m c t h0 h1 h2]
  rfl

/-- A middle point of a row block: its chunk is added to the output block. -/
theorem oB (c : Dev nD) (t : Fin cfg0.N) (h0 : ¬t.val % 11 = 0) (h1 : (1 ≤ t.val % 11 ∧ t.val % 11 ≤ 9)) (h2 : ¬t.val % 11 = 10)
    (o : Vec Ideal S1024x2048 .f32) (h : Vec Ideal S1024x2048 .bf16)
    (ho : outsAt0 m c (t.val - 1) (Nat.lt_of_le_of_lt (Nat.sub_le _ _) t.isLt) = (o, h)) (j : S1024x2048.Idx) :
    ((outsAt0 m c t.val t.isLt).1 j : EReal) = o j + P m c t (fun d => h (ix2 (rI j) d)) (cI j) := by
  rw [outsAt0_B m c t h0 h1 h2, ho]
  dsimp only
  frame_out
  simp only [read_unread_whole]
  canon_tiles y p
  all_goals obtain ⟨a, b, rfl⟩ : ∃ a b, y = ix2 a b := ⟨_, _, eq_ix2 y⟩
  · obtain rfl := idx_hi j a b p0 p1
    exact (Pay.next_hi _ _ _ _ _ _ _).trans (congrArg₂ (· + ·) (ld_hi _ _ _ _) (part_congr (fun d => ld_hi _ _ _ d) (fun _ _ => rfl) (fun _ _ => rfl) (fun _ => rfl)))
  · obtain rfl := idx_lo j a b p0 p1
    exact (Pay.next_lo _ _ _ _ _ _ _).trans (congrArg₂ (· + ·) (ld_lo _ _ _ _) (part_congr (fun d => ld_lo _ _ _ d) (fun _ _ => rfl) (fun _ _ => rfl) (fun _ => rfl)))

/-- The last point of a row block: its chunk is added and the residual step taken. -/
theorem oC (c : Dev nD) (t : Fin cfg0.N) (h0 : ¬t.val % 11 = 0) (h1 : ¬(1 ≤ t.val % 11 ∧ t.val % 11 ≤ 9)) (h2 : t.val % 11 = 10)
    (o : Vec Ideal S1024x2048 .f32) (h : Vec Ideal S1024x2048 .bf16)
    (ho : outsAt0 m c (t.val - 1) (Nat.lt_of_le_of_lt (Nat.sub_le _ _) t.isLt) = (o, h)) (j : S1024x2048.Idx) :
    ((outsAt0 m c t.val t.isLt).1 j : EReal) = resid (fun k => iblk m c 0 t (ix2 (rI j) k)) (fun k => iblk m c 3 t (ix2 0 k))
      (fun k => o (ix2 (rI j) k) + P m c t (fun d => h (ix2 (rI j) d)) k) (fun k => iblk m c 1 t (ix3 0 2 k)) (cI j) := by
  rw [outsAt0_C m c t h0 h1 h2, ho]
  dsimp only
  frame_out
  simp only [read_unread_whole]
  canon_tiles y p
  all_goals obtain ⟨a, b, rfl⟩ : ∃ a b, y = ix2 a b := ⟨_, _, eq_ix2 y⟩
  · obtain rfl := idx_hi j a b p0 p1
    exact (Pay.last_hi _ _ _ _ _ _ _ _ _ _).trans (resid_congr (fun k => ld_hi _ _ _ k) (fun _ => rfl)
      (fun k => congrArg₂ (· + ·) (ld_hi _ _ _ k) (part_congr (fun d => ld_hi _ _ _ d) (fun _ _ => rfl) (fun _ _ => rfl) (fun _ => rfl))) (fun k => ld_mod _ 2 (by decide) _ k) rfl)
  · obtain rfl := idx_lo j a b p0 p1
    exact (Pay.last_lo _ _ _ _ _ _ _ _ _ _).trans (resid_congr (fun k => ld_lo _ _ _ k) (fun _ => rfl)
      (fun k => congrArg₂ (· + ·) (ld_lo _ _ _ k) (part_congr (fun d => ld_lo _ _ _ d) (fun _ _ => rfl) (fun _ _ => rfl) (fun _ => rfl))) (fun k => ld_mod _ 2 (by decide) _ k) rfl)

end Cert.Kernel4Ideal.Step
-- ==== Proof.Ffn4Blk.lean ====
module

public import proofs.«01_k».proof.Proof.Ffn4Step

@[expose] public section

/-! The blocks a grid point of the feed-forward kernel is given, read from the call's arguments: point `t` works on row block
`t / 11` with chunk `t % 11` of the hidden units. -/

set_option maxRecDepth 16384

noncomputable section

namespace Cert.Kernel4Ideal.Step
open Cert.Kernel4Ideal Cert.Kernel4Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The block indices of the windows at a point. -/
theorem idx : ∀ t : Fin cfg0.N, win0_0.index t = ![t.val / 11, 0] ∧ win0_1.index t = ![t.val / 22, 0, 0] ∧ win0_2.index t = ![0, 0]
    ∧ win0_3.index t = ![0, 0] ∧ win0_4.index t = ![1, 0, 0, t.val % 11] ∧ win0_5.index t = ![1, 0, 0, 11 + t.val % 11]
    ∧ win0_6.index t = ![1, 0, t.val % 11, 0] := by
  decide +kernel

/-- The point's number bounded. -/
theorem lt352 (t : Fin cfg0.N) : t.val < 352 := lt_of_lt_of_eq t.isLt N_0

/-- The activations' block at an index. -/
theorem blk0 (c : Dev nD) (t : Fin cfg0.N) (r : Fin 1024) (k : Fin 2048) :
    (iblk m c 0 t (ix2 r k) : EReal) = m ((c : Thread nD τ).loc main_arg0) (ix2 ⟨1024 * (t.val / 11) + r.val, by have := lt352 t; omega⟩ k) := by
  blk_ext [iblk, V, idx t]

/-- The modulation's block at an index. -/
theorem blk1 (c : Dev nD) (t : Fin cfg0.N) (r : Fin 3) (k : Fin 2048) :
    (iblk m c 1 t (ix3 0 r k) : EReal) = m ((c : Thread nD τ).loc main_arg1) (ix3 ⟨t.val / 22, by have := lt352 t; omega⟩ r k) := by
  blk_ext [iblk, V, idx t]

/-- The gain before the feed-forward at an index. -/
theorem blk2 (c : Dev nD) (t : Fin cfg0.N) (k : Fin 2048) :
    (iblk m c 2 t (ix2 0 k) : EReal) = m ((c : Thread nD τ).loc main_arg2) (ix1 k) := by
  have hb : iblk m c 2 t (ix2 0 k) = V m c main_v2 (ix2 0 k) := by blk_ext [iblk, idx t]
  rw [hb]
  entry_read
  pointwise

/-- The gain after the feed-forward at an index. -/
theorem blk3 (c : Dev nD) (t : Fin cfg0.N) (k : Fin 2048) :
    (iblk m c 3 t (ix2 0 k) : EReal) = m ((c : Thread nD τ).loc main_arg3) (ix1 k) := by
  have hb : iblk m c 3 t (ix2 0 k) = V m c main_v3 (ix2 0 k) := by blk_ext [iblk, idx t]
  rw [hb]
  entry_read
  pointwise

/-- The gate weights' chunk at an index. -/
theorem blk4 (c : Dev nD) (t : Fin cfg0.N) (d : Fin 2048) (k : Fin 512) :
    (iblk m c 4 t (ix4 0 0 d k) : EReal) = m ((c : Thread nD τ).loc main_arg4) (ix4 1 0 d ⟨512 * (t.val % 11) + k.val, by omega⟩) := by
  blk_ext [iblk, V, idx t]

/-- The up-projection weights' chunk at an index. -/
theorem blk5 (c : Dev nD) (t : Fin cfg0.N) (d : Fin 2048) (k : Fin 512) :
    (iblk m c 5 t (ix4 0 0 d k) : EReal) = m ((c : Thread nD τ).loc main_arg4) (ix4 1 0 d ⟨5632 + (512 * (t.val % 11) + k.val), by omega⟩) := by
  blk_ext [iblk, V, idx t]

/-- The down-projection weights' chunk at an index. -/
theorem blk6 (c : Dev nD) (t : Fin cfg0.N) (k : Fin 512) (e : Fin 2048) :
    (iblk m c 6 t (ix4 0 0 k e) : EReal) = m ((c : Thread nD τ).loc main_arg5) (ix4 1 0 ⟨512 * (t.val % 11) + k.val, by omega⟩ e) := by
  blk_ext [iblk, V, idx t]

end Cert.Kernel4Ideal.Step
-- ==== Proof.Ffn4Run.lean ====
module

public import proofs.«01_k».proof.Proof.Ffn4Blk
public import proofs.«01_k».proof.Proof.Gen.Kernel4Ideal.Value

@[expose] public section

/-! The feed-forward kernel's result at an index: over the eleven points of a row block the chunks of the hidden units add up
to the whole gated feed-forward of each row, and the last point takes the residual step. -/

set_option maxRecDepth 16384

noncomputable section

namespace Cert.Kernel4Ideal.Step
open Cert.Kernel4Ideal Cert.Kernel4Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The sequence a row of the flattened activations belongs to. -/
def seqOf (R : Fin 32768) : Fin 16 := ⟨R.val / 2048, by omega⟩

/-- A row of the activations. -/
def xr (c : Dev nD) (R : Fin 32768) (k : Fin 2048) : EReal := m ((c : Thread nD τ).loc main_arg0) (ix2 R k)

/-- One of a row's three modulation vectors: shift, scale, gate. -/
def mr (c : Dev nD) (p : Fin 3) (R : Fin 32768) (k : Fin 2048) : EReal := m ((c : Thread nD τ).loc main_arg1) (ix3 (seqOf R) p k)

/-- The gain before the feed-forward. -/
def gpre (c : Dev nD) (k : Fin 2048) : EReal := m ((c : Thread nD τ).loc main_arg2) (ix1 k)

/-- The gain after the feed-forward. -/
def gpost (c : Dev nD) (k : Fin 2048) : EReal := m ((c : Thread nD τ).loc main_arg3) (ix1 k)

/-- The normed and modulated row. -/
def hG (c : Dev nD) (R : Fin 32768) : Fin 2048 → EReal := hrow (xr m c R) (gpre m c) (mr m c 1 R) (mr m c 0 R)

/-- What hidden unit `n` adds to column `e` of a row's feed-forward. -/
def unit (c : Dev nD) (R : Fin 32768) (e : Fin 2048) (n : Fin 5632) : EReal :=
  glu (hG m c R) (fun d => m ((c : Thread nD τ).loc main_arg4) (ix4 1 0 d ⟨n.val, by omega⟩))
    (fun d => m ((c : Thread nD τ).loc main_arg4) (ix4 1 0 d ⟨5632 + n.val, by omega⟩))
    * m ((c : Thread nD τ).loc main_arg5) (ix4 1 0 n e)

/-- The same with the unit's number any natural number, nothing past the last. -/
def unitN (c : Dev nD) (R : Fin 32768) (e : Fin 2048) (n : ℕ) : EReal := if h : n < 5632 then unit m c R e ⟨n, h⟩ else 0

/-- Chunk `q` of the hidden units. -/
def chunk (c : Dev nD) (R : Fin 32768) (e : Fin 2048) (q : ℕ) : EReal := ∑ k ∈ Finset.range 512, unitN m c R e (512 * q + k)

/-- The whole gated feed-forward of a row. -/
def ff (c : Dev nD) (R : Fin 32768) (e : Fin 2048) : EReal := ∑ n, unit m c R e n

/-- The result row. -/
def outRow (c : Dev nD) (R : Fin 32768) (e : Fin 2048) : EReal := resid (xr m c R) (gpost m c) (ff m c R) (mr m c 2 R) e

/-- The array row that row `r` of a point's block is. -/
def rowOf (t : Fin cfg0.N) (r : Fin 1024) : Fin 32768 := ⟨1024 * (t.val / 11) + r.val, by have := lt352 t; omega⟩

/-- Its sequence, from the point. -/
theorem seq_rowOf (t : Fin cfg0.N) (r : Fin 1024) (h) : (⟨t.val / 22, h⟩ : Fin 16) = seqOf (rowOf t r) := by
  apply Fin.ext
  show t.val / 22 = (1024 * (t.val / 11) + r.val) / 2048
  omega

/-- The point's normed row is the array row's. -/
theorem H_eq (c : Dev nD) (t : Fin cfg0.N) (r : Fin 1024) : H m c t r = hG m c (rowOf t r) := by
  funext e
  exact hrow_congr (fun k => blk0 m c t r k) (fun k => blk2 m c t k)
    (fun k => (blk1 m c t 1 k).trans (by rw [seq_rowOf t r]; rfl)) (fun k => (blk1 m c t 0 k).trans (by rw [seq_rowOf t r]; rfl)) rfl

/-- The point's chunk is the array row's chunk. -/
theorem P_eq (c : Dev nD) (t : Fin cfg0.N) (R : Fin 32768) (e : Fin 2048) :
    P m c t (hG m c R) e = chunk m c R e (t.val % 11) := by
  unfold P chunk part
  rw [Finset.sum_range]
  refine Finset.sum_congr rfl fun k _ => ?_
  unfold unitN
  rw [dif_pos (by omega)]
  unfold unit
  refine congrArg₂ (· * ·) ?_ (blk6 m c t k e)
  exact congrArg₂ (glu _) (funext fun d => blk4 m c t d k) (funext fun d => blk5 m c t d k)

/-- The eleven chunks are the whole feed-forward. -/
theorem sum_chunks (c : Dev nD) (R : Fin 32768) (e : Fin 2048) : ∑ q ∈ Finset.range 11, chunk m c R e q = ff m c R e := by
  unfold chunk ff
  rw [show (∑ n, unit m c R e n) = ∑ n ∈ Finset.range (11 * 512), unitN m c R e n by
    rw [Finset.sum_range]
    refine Finset.sum_congr rfl fun n _ => ?_
    unfold unitN
    rw [dif_pos n.isLt]]
  rw [← Finset.sum_range_range_mul_add]
  exact Finset.sum_congr rfl fun q _ => Finset.sum_congr rfl fun k _ => by rw [Nat.mul_comm]

/-- What holds after point `t`: the scratch has the normed rows, and the output block the chunks so far, or at the last point
    of a row block the result. -/
def Inv (c : Dev nD) (t : Fin cfg0.N) : Prop :=
  (∀ j : S1024x2048.Idx, ((outsAt0 m c t.val t.isLt).2 j : EReal) = hG m c (rowOf t (rI j)) (cI j))
  ∧ (t.val % 11 ≠ 10 → ∀ j : S1024x2048.Idx, ((outsAt0 m c t.val t.isLt).1 j : EReal)
      = ∑ q ∈ Finset.range (t.val % 11 + 1), chunk m c (rowOf t (rI j)) (cI j) q)
  ∧ (t.val % 11 = 10 → ∀ j : S1024x2048.Idx, ((outsAt0 m c t.val t.isLt).1 j : EReal) = outRow m c (rowOf t (rI j)) (cI j))

/-- The invariant holds after every point. -/
theorem inv (c : Dev nD) : ∀ (n : ℕ) (hn : n < cfg0.N), Inv m c ⟨n, hn⟩ := by
  intro n
  induction n with
  | zero =>
    intro hn
    refine ⟨fun j => ?_, fun _ j => ?_, fun h => absurd h (show ¬(0 % 11 = 10) by decide)⟩
    · rw [hA m c ⟨0, hn⟩ (by rfl) (show ¬(1 ≤ 0 % 11 ∧ 0 % 11 ≤ 9) by decide) (show ¬(0 % 11 = 10) by decide), H_eq]
    · rw [oA m c ⟨0, hn⟩ (by rfl) (show ¬(1 ≤ 0 % 11 ∧ 0 % 11 ≤ 9) by decide) (show ¬(0 % 11 = 10) by decide), H_eq, P_eq]
      exact (Finset.sum_range_one _).symm
  | succ n ih =>
    intro hn
    obtain ⟨i1, i2, -⟩ := ih (by omega)
    by_cases h0 : (n + 1) % 11 = 0
    · have hb : ¬(1 ≤ (n + 1) % 11 ∧ (n + 1) % 11 ≤ 9) := by omega
      have hc : ¬(n + 1) % 11 = 10 := by omega
      refine ⟨fun j => ?_, fun _ j => ?_, fun h => absurd h hc⟩
      · rw [hA m c ⟨n + 1, hn⟩ h0 hb hc, H_eq]
      · rw [oA m c ⟨n + 1, hn⟩ h0 hb hc, H_eq, P_eq]
        simp only [h0]
        exact (Finset.sum_range_one _).symm
    · have hr : ∀ r, rowOf ⟨n, by omega⟩ r = rowOf ⟨n + 1, hn⟩ r := fun r => by
        apply Fin.ext
        show 1024 * (n / 11) + r.val = 1024 * ((n + 1) / 11) + r.val
        omega
      have hm : (n + 1) % 11 = n % 11 + 1 := by omega
      have i2' := i2 (by show n % 11 ≠ 10; omega)
      simp only [hr] at i1 i2'
      have hP : ∀ (j : S1024x2048.Idx) e, P m c ⟨n + 1, hn⟩ (fun d => (outsAt0 m c n (by omega)).2 (ix2 (rI j) d)) e
          = chunk m c (rowOf ⟨n + 1, hn⟩ (rI j)) e (n % 11 + 1) := fun j e => by
        rw [show (fun d => (outsAt0 m c n (by omega)).2 (ix2 (rI j) d)) = hG m c (rowOf ⟨n + 1, hn⟩ (rI j)) from funext fun d => i1 _,
          P_eq]
        simp only [hm]
      by_cases h2 : (n + 1) % 11 = 10
      · have hb : ¬(1 ≤ (n + 1) % 11 ∧ (n + 1) % 11 ≤ 9) := by omega
        refine ⟨fun j => ?_, fun h => absurd h2 h, fun _ j => ?_⟩
        · exact (congrFun (hC m c ⟨n + 1, hn⟩ h0 hb h2) j).trans (i1 j)
        · refine (oC m c ⟨n + 1, hn⟩ h0 hb h2 _ _ rfl j).trans (resid_congr (fun k => blk0 m c _ _ k) (fun k => blk3 m c _ k) (fun k => ?_)
            (fun k => (blk1 m c _ 2 k).trans (by rw [seq_rowOf ⟨n + 1, hn⟩ (rI j)]; rfl)) rfl)
          refine (congrArg₂ (· + ·) (i2' (ix2 (rI j) k)) (hP j k)).trans ?_
          rw [← sum_chunks, show n % 11 = 9 by omega]
          exact (Finset.sum_range_succ _ _).symm
      · have hb : (1 ≤ (n + 1) % 11 ∧ (n + 1) % 11 ≤ 9) := by omega
        refine ⟨fun j => ?_, fun _ j => ?_, fun h => absurd h h2⟩
        · exact (congrFun (hB m c ⟨n + 1, hn⟩ h0 hb h2) j).trans (i1 j)
        · refine (oB m c ⟨n + 1, hn⟩ h0 hb h2 _ _ rfl j).trans ?_
          refine (congrArg₂ (· + ·) (i2' j) (hP j (cI j))).trans ?_
          simp only [hm]
          exact (Finset.sum_range_succ _ _).symm

/-- The result array at an index. -/
theorem G_eq (c : Dev nD) (R : Fin 32768) (e : Fin 2048) : (Value.G7 m c (ix2 R e) : EReal) = outRow m c R e := by
  have hp : Value.pt7Of (ix2 R e) = 11 * (R.val / 1024) + 10 := by
    show 11 * (1 * (R.val / 1024 - 0) + 1 * (e.val / 2048 - 0)) + 10 = _
    omega
  have hl : Value.pt7Of (ix2 R e) < cfg0.N := by
    rw [hp, show cfg0.N = 352 from N_0]
    omega
  unfold Value.G7
  rw [dif_pos hl, ← Value.outsAt0_sweep m c _ hl]
  have := (inv m c _ hl).2.2 (by show Value.pt7Of (ix2 R e) % 11 = 10; omega) (Value.loc7Of (ix2 R e))
  refine this.trans (congrArg₂ (outRow m c) (Fin.ext ?_) (Fin.ext ?_))
  · show 1024 * (Value.pt7Of (ix2 R e) / 11) + R.val % 1024 = R.val
    omega
  · show e.val % 2048 = e.val
    omega

end Cert.Kernel4Ideal.Step
-- ==== Proof.Ffn4Ref.lean ====
module

public import proofs.«01_k».proof.Proof.Gen.Reference4Ideal.Read
public import proofs.«01_k».proof.Proof.Rows
public import Idealize.ShloMosaic.Lib.Pipeline.ValueKit

@[expose] public section

/-! The feed-forward reference's result at an index, as the row functions of `Rows`. -/

set_option maxRecDepth 16384

noncomputable section

namespace Cert.Reference4Ideal.Rd
open Cert.Reference4Ideal Cert.Reference4Ideal.Read Idealize.ShloMosaic Cert.Rows

variable (x0 : (⟨S32768x2048, .f32⟩ : BufTy).Contents (Elt Ideal)) (x1 : (⟨S16x3x2048, .f32⟩ : BufTy).Contents (Elt Ideal))
  (x2 x3 : (⟨S2048, .f32⟩ : BufTy).Contents (Elt Ideal)) (x4 : (⟨S2x2x2048x11264, .f32⟩ : BufTy).Contents (Elt Ideal))
  (x5 : (⟨S2x2x5632x2048, .f32⟩ : BufTy).Contents (Elt Ideal))

/-- The flattened row of a sequence's position. -/
def row (b : Fin 16) (t : Fin 2048) : Fin 32768 := ⟨b.val * 2048 + t.val, by omega⟩

/-- The activations by sequence and position. -/
theorem x_at (b : Fin 16) (t e : Fin 2048) : (val_main_v0 x0 (ix3 b t e) : EReal) = x0 (ix2 (row b t) e) := by
  rw [val_main_v0_apply]
  congr 1
  funext a
  apply Fin.ext
  match a with
  | ⟨0, _⟩ =>
    show ((b.val * 2048 + t.val) * 2048 + e.val) / 2048 = b.val * 2048 + t.val
    omega
  | ⟨1, _⟩ =>
    show ((b.val * 2048 + t.val) * 2048 + e.val) % 2048 = e.val
    omega

/-- The normed and modulated rows. -/
theorem h_at (b : Fin 16) (t e : Fin 2048) : (val_main_v28 x0 x1 x2 (ix3 b t e) : EReal)
    = hrow (fun k => x0 (ix2 (row b t) k)) (fun k => x2 (ix1 k)) (fun k => x1 (ix3 b 1 k)) (fun k => x1 (ix3 b 0 k)) e := by
  unfold val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11
    val_main_v10 val_main_v6 val_main_v5 val_main_v4 val_main_v3 val_main_v2 val_main_v1
    val_main_cst val_main_cst_0 val_main_cst_1 val_main_cst_2
  pointwise
  simp only [x_at]
  rw [mul_assoc]
  rfl

/-- The gated hidden units. -/
theorem glu_at (b : Fin 16) (t : Fin 2048) (n : Fin 5632) : (val_main_v35 x0 x1 x2 x4 (ix3 b t n) : EReal)
    = glu (fun d => val_main_v28 x0 x1 x2 (ix3 b t d)) (fun d => x4 (ix4 1 0 d ⟨n.val, by omega⟩))
        (fun d => x4 (ix4 1 0 d ⟨5632 + n.val, by omega⟩)) := by
  unfold val_main_v35 val_main_v34 val_main_call0_v5 val_main_call0_v4 val_main_call0_v3 val_main_call0_v2 val_main_call0_v1 val_main_call0_v0
    val_main_v33 val_main_v32 val_main_v31 val_main_v30 val_main_v29 val_main_call0_cst val_main_call0_cst_0
  pointwise
  rfl

/-- The gated feed-forward of a row. -/
theorem ff_at (b : Fin 16) (t e : Fin 2048) : (val_main_v38 x0 x1 x2 x4 x5 (ix3 b t e) : EReal)
    = ∑ n : Fin 5632, val_main_v35 x0 x1 x2 x4 (ix3 b t n) * x5 (ix4 1 0 n e) := by
  unfold val_main_v38 val_main_v37 val_main_v36
  pointwise

/-- The result by sequence and position. -/
theorem out_at (b : Fin 16) (t e : Fin 2048) : (val_main_v58 x0 x1 x2 x3 x4 x5 (ix3 b t e) : EReal)
    = resid (fun k => x0 (ix2 (row b t) k)) (fun k => x3 (ix1 k)) (fun k => val_main_v38 x0 x1 x2 x4 x5 (ix3 b t k)) (fun k => x1 (ix3 b 2 k)) e := by
  unfold val_main_v58 val_main_v57 val_main_v56 val_main_v55 val_main_v54 val_main_v53 val_main_v52 val_main_v51 val_main_v50
    val_main_v49 val_main_v48 val_main_v47 val_main_v46 val_main_v45 val_main_v44 val_main_v43 val_main_v42 val_main_v41
    val_main_v40 val_main_v39 val_main_v9 val_main_v8 val_main_v7
    val_main_cst_3 val_main_cst_4 val_main_cst_5 val_main_cst_6 val_main_cst_7
  pointwise
  simp only [x_at]
  unfold resid rinv
  congr 1
  rw [mul_comm, mul_assoc]

end Cert.Reference4Ideal.Rd
-- ==== Proof.Ffn4Claim.lean ====
module

public import proofs.«01_k».proof.Defs
public import proofs.«01_k».proof.Proof.Ffn4Run
public import proofs.«01_k».proof.Proof.Ffn4Ref
public import proofs.«01_k».proof.Proof.Gen.Reference4Ideal.Run
public import proofs.«01_k».proof.Proof.Gen.Kernel4.Frame

@[expose] public section

/-! The claims about the feed-forward at weights (1, 0). -/

set_option maxRecDepth 16384

noncomputable section

namespace Cert.Proof
open Idealize.ShloMosaic Idealize.ShloMosaic.TcCoe Idealize.SL.Sem Cert.Rows

/-- The feed-forward as printed runs, keeps its arguments and ends quiescent. -/
theorem frame_ffn4 : Cert.quiescent_Kernel4 := fun m ρ _ => Cert.Kernel4.Gen.frame m ρ

/-- The idealized feed-forward likewise. -/
theorem frame_ffn4_ideal : Cert.quiescent_Kernel4Ideal := fun m ρ _ => Cert.Kernel4Ideal.Gen.frame m ρ

/-- The feed-forward's reference likewise. -/
theorem frame_ffn4_ref : Cert.quiescent_Reference4Ideal := fun m ρ _ =>
  (θ_run _ _ _).mono (fun _ h => ⟨fun c => (h c).2, Idealize.ShloMosaic.sem_eq_zero_of_no_sems (by decide) _⟩) (Cert.Reference4Ideal.Value.run (F := Ideal) m ρ)

/-- The feed-forward is printed without rewrites. -/
theorem preserves_ffn4 : Cert.preserves_Kernel4_Kernel4Ideal := trivial

/-- A row of the feed-forward's reference is the kernel's, when the arguments agree. -/
theorem ffn4_row (m : (ℓ : Loc Kernel4Ideal.nD Kernel4Ideal.τ Kernel4Ideal.sig) → Buf (Elt Ideal) ℓ) (c : Dev Kernel4Ideal.nD) (i : Kernel4Ideal.S32768x2048.Idx) :
    (Cert.Reference4Ideal.Read.val_main_v59 (F := Ideal) (m ((c.tc : Thread Kernel4Ideal.nD Kernel4Ideal.τ).loc Kernel4Ideal.main_arg0))
      (m ((c.tc : Thread Kernel4Ideal.nD Kernel4Ideal.τ).loc Kernel4Ideal.main_arg1)) (m ((c.tc : Thread Kernel4Ideal.nD Kernel4Ideal.τ).loc Kernel4Ideal.main_arg2))
      (m ((c.tc : Thread Kernel4Ideal.nD Kernel4Ideal.τ).loc Kernel4Ideal.main_arg3)) (m ((c.tc : Thread Kernel4Ideal.nD Kernel4Ideal.τ).loc Kernel4Ideal.main_arg4))
      (m ((c.tc : Thread Kernel4Ideal.nD Kernel4Ideal.τ).loc Kernel4Ideal.main_arg5)) i : EReal) = Kernel4Ideal.Value.G7 m c i := by
  obtain ⟨R, e, rfl⟩ : ∃ (R : Fin 32768) (e : Fin 2048), i = ix2 R e := ⟨_, _, eq_ix2 i⟩
  have hR : R = Reference4Ideal.Rd.row (Kernel4Ideal.Step.seqOf R) ⟨R.val % 2048, by omega⟩ := Fin.ext (by
    show R.val = R.val / 2048 * 2048 + R.val % 2048
    omega)
  have hi : Reference4Ideal.Read.idx_main_v59 (ix2 R e) = ix3 (Kernel4Ideal.Step.seqOf R) (⟨R.val % 2048, by omega⟩ : Fin 2048) e := by
    funext a
    apply Fin.ext
    match a with
    | ⟨0, _⟩ =>
      show (R.val * 2048 + e.val) / 4194304 = R.val / 2048
      omega
    | ⟨1, _⟩ =>
      show (R.val * 2048 + e.val) / 2048 % 2048 = R.val % 2048
      omega
    | ⟨2, _⟩ =>
      show (R.val * 2048 + e.val) % 2048 = e.val
      omega
  rw [Reference4Ideal.Read.val_main_v59_apply, hi, Reference4Ideal.Rd.out_at, Kernel4Ideal.Step.G_eq, ← hR]
  refine resid_congr (fun _ => rfl) (fun _ => rfl) (fun k => ?_) (fun _ => rfl) rfl
  rw [Reference4Ideal.Rd.ff_at]
  refine Finset.sum_congr rfl fun n _ => ?_
  rw [Reference4Ideal.Rd.glu_at]
  refine congrArg₂ (· * ·) ?_ rfl
  refine congrArg (fun h => glu h _ _) (funext fun d => ?_)
  rw [Reference4Ideal.Rd.h_at, ← hR]
  rfl

/-- The feed-forward kernel computes its reference. -/
theorem algebraic_ffn4 : Cert.algebraic_Kernel4Ideal_Reference4Ideal := by
  intro m ρ m' ρ' _ hag
  refine ⟨fun c => Kernel4Ideal.Value.G7 m c, Cert.Kernel4Ideal.Value.run (F := Ideal) m ρ,
    (θ_run _ _ _).mono (fun r h c => ?_) (Cert.Reference4Ideal.Value.run (F := Ideal) m' ρ')⟩
  refine ⟨(h c).1.trans ?_, (h c).2⟩
  obtain ⟨h0, h1, h2, h3, h4, h5⟩ := hag c
  rw [Reference4Ideal.Read.val_main_v59_eq, h0, h1, h2, h3, h4, h5]
  exact funext fun i => ffn4_row m c i

end Cert.Proof
-- ==== Proof.Ffn5Pay.lean ====
module

public import proofs.«01_k».proof.Proof.Gen.Kernel5Ideal.Skeleton
public import proofs.«01_k».proof.Proof.Rows

@[expose] public section

/-! The words the feed-forward kernel stores, read at an index: each is a row function of `Rows`. -/

set_option maxRecDepth 16384

noncomputable section

namespace Cert.Kernel5Ideal.Pay
open Cert.Kernel5Ideal Cert.Kernel5Ideal.Gen Idealize.ShloMosaic Cert.Rows

/-- The normed and modulated rows, first half. -/
theorem h_lo (x : Vec Ideal S512x2048 .f32) (g : Vec Ideal S1x2048 .f32) (sc sh : Vec Ideal S1x1x2048 .f32) (r : Fin 512) (e : Fin 2048) :
    (k0_pay5 x g sc sh (ix2 r e) : EReal) = hrow (fun k => x (ix2 r k)) (fun k => g (ix2 0 k)) (fun k => sc (ix3 0 0 k)) (fun k => sh (ix3 0 0 k)) e := by
  unfold_payloads
  pointwise
  rfl

/-- The normed and modulated rows, second half. -/
theorem h_hi (x : Vec Ideal S512x2048 .f32) (g : Vec Ideal S1x2048 .f32) (sc sh : Vec Ideal S1x1x2048 .f32) (r : Fin 512) (e : Fin 2048) :
    (k0_pay1 (k0_pay8 x g sc sh) (ix2 r e) : EReal) = hrow (fun k => x (ix2 r k)) (fun k => g (ix2 0 k)) (fun k => sc (ix3 0 0 k)) (fun k => sh (ix3 0 0 k)) e := by
  unfold_payloads
  pointwise
  rfl

/-- The first chunk's contribution, first half of the rows. -/
theorem first_lo (h : Vec Ideal S512x2048 .bf16) (w1 w3 : Vec Ideal S1x1x2048x512 .bf16) (w2 : Vec Ideal S1x1x512x2048 .bf16) (r : Fin 512) (e : Fin 2048) :
    (k0_pay7 h (k0_pay6 h w1) w3 w2 (ix2 r e) : EReal) = part (fun d => h (ix2 r d)) (fun d k => w1 (ix4 0 0 d k)) (fun d k => w3 (ix4 0 0 d k)) (fun k => w2 (ix4 0 0 k e)) := by
  unfold_payloads
  pointwise
  rfl

/-- The first chunk's contribution, second half of the rows. -/
theorem first_hi (h : Vec Ideal S512x2048 .bf16) (w1 w3 : Vec Ideal S1x1x2048x512 .bf16) (w2 : Vec Ideal S1x1x512x2048 .bf16) (r : Fin 512) (e : Fin 2048) :
    (k0_pay2 h w1 w3 w2 (ix2 r e) : EReal) = part (fun d => h (ix2 r d)) (fun d k => w1 (ix4 0 0 d k)) (fun d k => w3 (ix4 0 0 d k)) (fun k => w2 (ix4 0 0 k e)) := by
  unfold_payloads
  pointwise
  rfl

/-- A middle chunk added on, first half of the rows. -/
theorem next_lo (o : Vec Ideal S512x2048 .f32) (h : Vec Ideal S512x2048 .bf16) (w1 w3 : Vec Ideal S1x1x2048x512 .bf16) (w2 : Vec Ideal S1x1x512x2048 .bf16) (r : Fin 512) (e : Fin 2048) :
    (k0_pay9 o h w1 w3 w2 (ix2 r e) : EReal) = o (ix2 r e) + part (fun d => h (ix2 r d)) (fun d k => w1 (ix4 0 0 d k)) (fun d k => w3 (ix4 0 0 d k)) (fun k => w2 (ix4 0 0 k e)) := by
  unfold_payloads
  pointwise
  rfl

/-- A middle chunk added on, second half of the rows. -/
theorem next_hi (o : Vec Ideal S512x2048 .f32) (h : Vec Ideal S512x2048 .bf16) (w1 w3 : Vec Ideal S1x1x2048x512 .bf16) (w2 : Vec Ideal S1x1x512x2048 .bf16) (r : Fin 512) (e : Fin 2048) :
    (k0_pay3 (k0_pay10 o) h (k0_pay11 h w1) w3 w2 (ix2 r e) : EReal) = o (ix2 r e) + part (fun d => h (ix2 r d)) (fun d k => w1 (ix4 0 0 d k)) (fun d k => w3 (ix4 0 0 d k)) (fun k => w2 (ix4 0 0 k e)) := by
  unfold_payloads
  pointwise
  rfl

/-- The last chunk added on and the residual step taken, first half of the rows. -/
theorem last_lo (x o : Vec Ideal S512x2048 .f32) (gp : Vec Ideal S1x2048 .f32) (gate : Vec Ideal S1x1x2048 .f32) (h : Vec Ideal S512x2048 .bf16) (w1 w3 : Vec Ideal S1x1x2048x512 .bf16) (w2 : Vec Ideal S1x1x512x2048 .bf16) (r : Fin 512) (e : Fin 2048) :
    (k0_pay14 x (k0_pay12 gp) (k0_pay13 o h w1 w3 w2) gate (ix2 r e) : EReal) = resid (fun k => x (ix2 r k)) (fun k => gp (ix2 0 k))
      (fun k => o (ix2 r k) + part (fun d => h (ix2 r d)) (fun d k => w1 (ix4 0 0 d k)) (fun d k => w3 (ix4 0 0 d k)) (fun j => w2 (ix4 0 0 j k))) (fun k => gate (ix3 0 0 k)) e := by
  unfold_payloads
  pointwise
  rfl

/-- The last chunk added on and the residual step taken, second half of the rows. -/
theorem last_hi (x o : Vec Ideal S512x2048 .f32) (gp : Vec Ideal S1x2048 .f32) (gate : Vec Ideal S1x1x2048 .f32) (h : Vec Ideal S512x2048 .bf16) (w1 w3 : Vec Ideal S1x1x2048x512 .bf16) (w2 : Vec Ideal S1x1x512x2048 .bf16) (r : Fin 512) (e : Fin 2048) :
    (k0_pay4 (k0_pay15 o h w1 w3 w2) x (k0_pay16 gp) (k0_pay17 o h w1 w3 w2) gate (ix2 r e) : EReal) = resid (fun k => x (ix2 r k)) (fun k => gp (ix2 0 k))
      (fun k => o (ix2 r k) + part (fun d => h (ix2 r d)) (fun d k => w1 (ix4 0 0 d k)) (fun d k => w3 (ix4 0 0 d k)) (fun j => w2 (ix4 0 0 j k))) (fun k => gate (ix3 0 0 k)) e := by
  unfold_payloads
  pointwise
  rfl

end Cert.Kernel5Ideal.Pay
-- ==== Proof.Ffn5Step.lean ====
module

public import proofs.«01_k».proof.Proof.Gen.Kernel5Ideal.Frame
public import proofs.«01_k».proof.Proof.Ffn5Pay
public import Idealize.ShloMosaic.Lib.Pipeline.ValueKit
public import Idealize.ShloMosaic.Lib.Pipeline.ReadBack

@[expose] public section

/-! What one grid point of the feed-forward kernel leaves in its output block and in the scratch that holds the normed rows,
read at an index, from the blocks it is given and what the point before left. -/

set_option maxRecDepth 16384

noncomputable section

namespace Cert.Kernel5Ideal.Step
open Cert.Kernel5Ideal Cert.Kernel5Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The row of an index of a block. -/
def rI (j : S1024x2048.Idx) : Fin 1024 := j 0

/-- The column of an index of a block. -/
def cI (j : S1024x2048.Idx) : Fin 2048 := j 1

/-- Row `a` of the first half of a block. -/
def loRow (a : Fin 512) : Fin 1024 := ⟨a.val, by omega⟩

/-- Row `a` of the last half of a block. -/
def hiRow (a : Fin 512) : Fin 1024 := ⟨512 + a.val, by omega⟩

/-- A load of the first 512 rows at an index. -/
theorem ld_lo {φ : EltTy} (X : S1024x2048.Idx → Elt Ideal φ) (inb) (r : Fin 512) (e : Fin 2048) :
    View.ld (Val := Elt Ideal) X (Rect.unit ![0, 0] ![512, 2048] inb) (ix2 r e) = X (ix2 (loRow r) e) :=
  View.ld_unit_apply_of _ _ _ _ _ _ (by intro a; fin_cases a <;> simp [ix2, loRow, hiRow])

/-- A load of the last 512 rows at an index. -/
theorem ld_hi {φ : EltTy} (X : S1024x2048.Idx → Elt Ideal φ) (inb) (r : Fin 512) (e : Fin 2048) :
    View.ld (Val := Elt Ideal) X (Rect.unit ![512, 0] ![512, 2048] inb) (ix2 r e) = X (ix2 (hiRow r) e) :=
  View.ld_unit_apply_of _ _ _ _ _ _ (by intro a; fin_cases a <;> simp [ix2, loRow, hiRow])

/-- A load of one of the three modulation rows at an index. -/
theorem ld_mod (X : S1x3x2048.Idx → Elt Ideal .f32) (k : ℕ) (hk : k < 3) (inb) (e : Fin 2048) :
    View.ld (Val := Elt Ideal) X (Rect.unit ![0, k, 0] ![1, 1, 2048] inb) (ix3 0 0 e) = X (ix3 0 ⟨k, hk⟩ e) :=
  View.ld_unit_apply_of _ _ _ _ _ _ (by intro a; fin_cases a <;> simp [ix3])

/-- The normed and modulated row `r` of a point's block. -/
def H (c : Dev nD) (t : Fin cfg0.N) (r : Fin 1024) : Fin 2048 → EReal :=
  hrow (fun k => iblk m c 0 t (ix2 r k)) (fun k => iblk m c 2 t (ix2 0 k)) (fun k => iblk m c 1 t (ix3 0 1 k)) (fun k => iblk m c 1 t (ix3 0 0 k))

/-- What a point's chunk of the hidden units adds for a row `h`, in column `e`. -/
def P (c : Dev nD) (t : Fin cfg0.N) (h : Fin 2048 → EReal) (e : Fin 2048) : EReal :=
  part h (fun d k => iblk m c 4 t (ix4 0 0 d k)) (fun d k => iblk m c 5 t (ix4 0 0 d k)) (fun k => iblk m c 6 t (ix4 0 0 k e))

/-- An index of the block in its first 512 rows, from the piece's coordinates. -/
theorem idx_lo (j : S1024x2048.Idx) (a : Fin 512) (b : Fin 2048) (h0 : (j 0 : ℕ) = a.val) (h1 : (j 1 : ℕ) = b.val) :
    j = ix2 (loRow a) b := by
  funext i
  fin_cases i
  · exact Fin.ext h0
  · exact Fin.ext h1

/-- An index of the block in its last 512 rows, from the piece's coordinates. -/
theorem idx_hi (j : S1024x2048.Idx) (a : Fin 512) (b : Fin 2048) (h0 : (j 0 : ℕ) = 512 + a.val) (h1 : (j 1 : ℕ) = b.val) :
    j = ix2 (hiRow a) b := by
  funext i
  fin_cases i
  · exact Fin.ext h0
  · exact Fin.ext h1

/-- The first point of a row block: the scratch gets the normed rows. -/
theorem hA (c : Dev nD) (t : Fin cfg0.N) (h0 : t.val % 11 = 0) (h1 : ¬(1 ≤ t.val % 11 ∧ t.val % 11 ≤ 9)) (h2 : ¬t.val % 11 = 10) (j : S1024x2048.Idx) :
    ((outsAt0 m c t.val t.isLt).2 j : EReal) = H m c t (rI j) (cI j) := by
  rw [outsAt0_A m c t h0 h1 h2]
  dsimp only
  frame_open
  simp (disch := decide) only [↓ View.readCov_skip, ↓ View.readCov_cons_toLoadRect, ↓ View.readCov_fill]
  frame_out
  canon_tiles y p
  all_goals obtain ⟨a, b, rfl⟩ : ∃ a b, y = ix2 a b := ⟨_, _, eq_ix2 y⟩
  · obtain rfl := idx_hi j a b p0 p1
    exact (Pay.h_hi _ _ _ _ _ _).trans (hrow_congr (fun k => ld_hi _ _ _ k) (fun _ => rfl) (fun k => ld_mod _ 1 (by decide) _ k) (fun k => ld_mod _ 0 (by decide) _ k) rfl)
  · obtain rfl := idx_lo j a b p0 p1
    exact (Pay.h_lo _ _ _ _ _ _).trans (hrow_congr (fun k => ld_lo _ _ _ k) (fun _ => rfl) (fun k => ld_mod _ 1 (by decide) _ k) (fun k => ld_mod _ 0 (by decide) _ k) rfl)

/-- The first point of a row block: the output block gets its first chunk. -/
theorem oA (c : Dev nD) (t : Fin cfg0.N) (h0 : t.val % 11 = 0) (h1 : ¬(1 ≤ t.val % 11 ∧ t.val % 11 ≤ 9)) (h2 : ¬t.val % 11 = 10) (j : S1024x2048.Idx) :
    ((outsAt0 m c t.val t.isLt).1 j : EReal) = P m c t (H m c t (rI j)) (cI j) := by
  rw [outsAt0_A m c t h0 h1 h2]
  dsimp only
  frame_open
  simp (disch := decide) only [↓ View.readCov_skip, ↓ View.readCov_cons_toLoadRect, ↓ View.readCov_fill]
  frame_out
  canon_tiles y p
  all_goals obtain ⟨a, b, rfl⟩ : ∃ a b, y = ix2 a b := ⟨_, _, eq_ix2 y⟩
  · obtain rfl := idx_hi j a b p0 p1
    exact (Pay.first_hi _ _ _ _ _ _).trans (part_congr (fun d => (Pay.h_hi _ _ _ _ _ _).trans
      (hrow_congr (fun k => ld_hi _ _ _ k) (fun _ => rfl) (fun k => ld_mod _ 1 (by decide) _ k) (fun k => ld_mod _ 0 (by decide) _ k) rfl)) (fun _ _ => rfl) (fun _ _ => rfl) (fun _ => rfl))
  · obtain rfl := idx_lo j a b p0 p1
    exact (Pay.first_lo _ _ _ _ _ _).trans (part_congr (fun d => (Pay.h_lo _ _ _ _ _ _).trans
      (hrow_congr (fun k => ld_lo _ _ _ k) (fun _ => rfl) (fun k => ld_mod _ 1 (by decide) _ k) (fun k => ld_mod _ 0 (by decide) _ k) rfl)) (fun _ _ => rfl) (fun _ _ => rfl) (fun _ => rfl))

/-- A middle point of a row block: the scratch is kept. -/
theorem hB (c : Dev nD) (t : Fin cfg0.N) (h0 : ¬t.val % 11 = 0) (h1 : (1 ≤ t.val % 11 ∧ t.val % 11 ≤ 9)) (h2 : ¬t.val % 11 = 10) :
    (outsAt0 m c t.val t.isLt).2 = (outsAt0 m c (t.val - 1) (Nat.lt_of_le_of_lt (Nat.sub_le _ _) t.isLt)).2 := by
  rw [outsAt0_B m c t h0 h1 h2]
  rfl

/-- The last point of a row block: the scratch is kept. -/
theorem hC (c : Dev nD) (t : Fin cfg0.N) (h0 : ¬t.val % 11 = 0) (h1 : ¬(1 ≤ t.val % 11 ∧ t.val % 11 ≤ 9)) (h2 : t.val % 11 = 10) :
    (outsAt0 m c t.val t.isLt).2 = (outsAt0 m c (t.val - 1) (Nat.lt_of_le_of_lt (Nat.sub_le _ _) t.isLt)).2 := by
  rw [outsAt0_C m c t h0 h1 h2]
  rfl

/-- A middle point of a row block: its chunk is added to the output block. -/
theorem oB (c : Dev nD) (t : Fin cfg0.N) (h0 : ¬t.val % 11 = 0) (h1 : (1 ≤ t.val % 11 ∧ t.val % 11 ≤ 9)) (h2 : ¬t.val % 11 = 10)
    (o : Vec Ideal S1024x2048 .f32) (h : Vec Ideal S1024x2048 .bf16)
    (ho : outsAt0 m c (t.val - 1) (Nat.lt_of_le_of_lt (Nat.sub_le _ _) t.isLt) = (o, h)) (j : S1024x2048.Idx) :
    ((outsAt0 m c t.val t.isLt).1 j : EReal) = o j + P m c t (fun d => h (ix2 (rI j) d)) (cI j) := by
  rw [outsAt0_B m c t h0 h1 h2, ho]
  dsimp only
  frame_out
  simp only [read_unread_whole]
  canon_tiles y p
  all_goals obtain ⟨a, b, rfl⟩ : ∃ a b, y = ix2 a b := ⟨_, _, eq_ix2 y⟩
  · obtain rfl := idx_hi j a b p0 p1
    exact (Pay.next_hi _ _ _ _ _ _ _).trans (congrArg₂ (· + ·) (ld_hi _ _ _ _) (part_congr (fun d => ld_hi _ _ _ d) (fun _ _ => rfl) (fun _ _ => rfl) (fun _ => rfl)))
  · obtain rfl := idx_lo j a b p0 p1
    exact (Pay.next_lo _ _ _ _ _ _ _).trans (congrArg₂ (· + ·) (ld_lo _ _ _ _) (part_congr (fun d => ld_lo _ _ _ d) (fun _ _ => rfl) (fun _ _ => rfl) (fun _ => rfl)))

/-- The last point of a row block: its chunk is added and the residual step taken. -/
theorem oC (c : Dev nD) (t : Fin cfg0.N) (h0 : ¬t.val % 11 = 0) (h1 : ¬(1 ≤ t.val % 11 ∧ t.val % 11 ≤ 9)) (h2 : t.val % 11 = 10)
    (o : Vec Ideal S1024x2048 .f32) (h : Vec Ideal S1024x2048 .bf16)
    (ho : outsAt0 m c (t.val - 1) (Nat.lt_of_le_of_lt (Nat.sub_le _ _) t.isLt) = (o, h)) (j : S1024x2048.Idx) :
    ((outsAt0 m c t.val t.isLt).1 j : EReal) = resid (fun k => iblk m c 0 t (ix2 (rI j) k)) (fun k => iblk m c 3 t (ix2 0 k))
      (fun k => o (ix2 (rI j) k) + P m c t (fun d => h (ix2 (rI j) d)) k) (fun k => iblk m c 1 t (ix3 0 2 k)) (cI j) := by
  rw [outsAt0_C m c t h0 h1 h2, ho]
  dsimp only
  frame_out
  simp only [read_unread_whole]
  canon_tiles y p
  all_goals obtain ⟨a, b, rfl⟩ : ∃ a b, y = ix2 a b := ⟨_, _, eq_ix2 y⟩
  · obtain rfl := idx_hi j a b p0 p1
    exact (Pay.last_hi _ _ _ _ _ _ _ _ _ _).trans (resid_congr (fun k => ld_hi _ _ _ k) (fun _ => rfl)
      (fun k => congrArg₂ (· + ·) (ld_hi _ _ _ k) (part_congr (fun d => ld_hi _ _ _ d) (fun _ _ => rfl) (fun _ _ => rfl) (fun _ => rfl))) (fun k => ld_mod _ 2 (by decide) _ k) rfl)
  · obtain rfl := idx_lo j a b p0 p1
    exact (Pay.last_lo _ _ _ _ _ _ _ _ _ _).trans (resid_congr (fun k => ld_lo _ _ _ k) (fun _ => rfl)
      (fun k => congrArg₂ (· + ·) (ld_lo _ _ _ k) (part_congr (fun d => ld_lo _ _ _ d) (fun _ _ => rfl) (fun _ _ => rfl) (fun _ => rfl))) (fun k => ld_mod _ 2 (by decide) _ k) rfl)

end Cert.Kernel5Ideal.Step
-- ==== Proof.Ffn5Blk.lean ====
module

public import proofs.«01_k».proof.Proof.Ffn5Step

@[expose] public section

/-! The blocks a grid point of the feed-forward kernel is given, read from the call's arguments: point `t` works on row block
`t / 11` with chunk `t % 11` of the hidden units. -/

set_option maxRecDepth 16384

noncomputable section

namespace Cert.Kernel5Ideal.Step
open Cert.Kernel5Ideal Cert.Kernel5Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The block indices of the windows at a point. -/
theorem idx : ∀ t : Fin cfg0.N, win0_0.index t = ![t.val / 11, 0] ∧ win0_1.index t = ![t.val / 22, 0, 0] ∧ win0_2.index t = ![0, 0]
    ∧ win0_3.index t = ![0, 0] ∧ win0_4.index t = ![1, 1, 0, t.val % 11] ∧ win0_5.index t = ![1, 1, 0, 11 + t.val % 11]
    ∧ win0_6.index t = ![1, 1, t.val % 11, 0] := by
  decide +kernel

/-- The point's number bounded. -/
theorem lt352 (t : Fin cfg0.N) : t.val < 352 := lt_of_lt_of_eq t.isLt N_0

/-- The activations' block at an index. -/
theorem blk0 (c : Dev nD) (t : Fin cfg0.N) (r : Fin 1024) (k : Fin 2048) :
    (iblk m c 0 t (ix2 r k) : EReal) = m ((c : Thread nD τ).loc main_arg0) (ix2 ⟨1024 * (t.val / 11) + r.val, by have := lt352 t; omega⟩ k) := by
  blk_ext [iblk, V, idx t]

/-- The modulation's block at an index. -/
theorem blk1 (c : Dev nD) (t : Fin cfg0.N) (r : Fin 3) (k : Fin 2048) :
    (iblk m c 1 t (ix3 0 r k) : EReal) = m ((c : Thread nD τ).loc main_arg1) (ix3 ⟨t.val / 22, by have := lt352 t; omega⟩ r k) := by
  blk_ext [iblk, V, idx t]

/-- The gain before the feed-forward at an index. -/
theorem blk2 (c : Dev nD) (t : Fin cfg0.N) (k : Fin 2048) :
    (iblk m c 2 t (ix2 0 k) : EReal) = m ((c : Thread nD τ).loc main_arg2) (ix1 k) := by
  have hb : iblk m c 2 t (ix2 0 k) = V m c main_v2 (ix2 0 k) := by blk_ext [iblk, idx t]
  rw [hb]
  entry_read
  pointwise

/-- The gain after the feed-forward at an index. -/
theorem blk3 (c : Dev nD) (t : Fin cfg0.N) (k : Fin 2048) :
    (iblk m c 3 t (ix2 0 k) : EReal) = m ((c : Thread nD τ).loc main_arg3) (ix1 k) := by
  have hb : iblk m c 3 t (ix2 0 k) = V m c main_v3 (ix2 0 k) := by blk_ext [iblk, idx t]
  rw [hb]
  entry_read
  pointwise

/-- The gate weights' chunk at an index. -/
theorem blk4 (c : Dev nD) (t : Fin cfg0.N) (d : Fin 2048) (k : Fin 512) :
    (iblk m c 4 t (ix4 0 0 d k) : EReal) = m ((c : Thread nD τ).loc main_arg4) (ix4 1 1 d ⟨512 * (t.val % 11) + k.val, by omega⟩) := by
  blk_ext [iblk, V, idx t]

/-- The up-projection weights' chunk at an index. -/
theorem blk5 (c : Dev nD) (t : Fin cfg0.N) (d : Fin 2048) (k : Fin 512) :
    (iblk m c 5 t (ix4 0 0 d k) : EReal) = m ((c : Thread nD τ).loc main_arg4) (ix4 1 1 d ⟨5632 + (512 * (t.val % 11) + k.val), by omega⟩) := by
  blk_ext [iblk, V, idx t]

/-- The down-projection weights' chunk at an index. -/
theorem blk6 (c : Dev nD) (t : Fin cfg0.N) (k : Fin 512) (e : Fin 2048) :
    (iblk m c 6 t (ix4 0 0 k e) : EReal) = m ((c : Thread nD τ).loc main_arg5) (ix4 1 1 ⟨512 * (t.val % 11) + k.val, by omega⟩ e) := by
  blk_ext [iblk, V, idx t]

end Cert.Kernel5Ideal.Step
-- ==== Proof.Ffn5Run.lean ====
module

public import proofs.«01_k».proof.Proof.Ffn5Blk
public import proofs.«01_k».proof.Proof.Gen.Kernel5Ideal.Value

@[expose] public section

/-! The feed-forward kernel's result at an index: over the eleven points of a row block the chunks of the hidden units add up
to the whole gated feed-forward of each row, and the last point takes the residual step. -/

set_option maxRecDepth 16384

noncomputable section

namespace Cert.Kernel5Ideal.Step
open Cert.Kernel5Ideal Cert.Kernel5Ideal.Gen Idealize.ShloMosaic Idealize.ShloMosaic.TcCoe Idealize.SL.Sem Cert.Rows
open Idealize.ShloMosaic.Pipeline (Dat)

variable (m : (ℓ : Loc nD τ sig) → Buf (Elt Ideal) ℓ)

/-- The sequence a row of the flattened activations belongs to. -/
def seqOf (R : Fin 32768) : Fin 16 := ⟨R.val / 2048, by omega⟩

/-- A row of the activations. -/
def xr (c : Dev nD) (R : Fin 32768) (k : Fin 2048) : EReal := m ((c : Thread nD τ).loc main_arg0) (ix2 R k)

/-- One of a row's three modulation vectors: shift, scale, gate. -/
def mr (c : Dev nD) (p : Fin 3) (R : Fin 32768) (k : Fin 2048) : EReal := m ((c : Thread nD τ).loc main_arg1) (ix3 (seqOf R) p k)

/-- The gain before the feed-forward. -/
def gpre (c : Dev nD) (k : Fin 2048) : EReal := m ((c : Thread nD τ).loc main_arg2) (ix1 k)

/-- The gain after the feed-forward. -/
def gpost (c : Dev nD) (k : Fin 2048) : EReal := m ((c : Thread nD τ).loc main_arg3) (ix1 k)

/-- The normed and modulated row. -/
def hG (c : Dev nD) (R : Fin 32768) : Fin 2048 → EReal := hrow (xr m c R) (gpre m c) (mr m c 1 R) (mr m c 0 R)

/-- What hidden unit `n` adds to column `e` of a row's feed-forward. -/
def unit (c : Dev nD) (R : Fin 32768) (e : Fin 2048) (n : Fin 5632) : EReal :=
  glu (hG m c R) (fun d => m ((c : Thread nD τ).loc main_arg4) (ix4 1 1 d ⟨n.val, by omega⟩))
    (fun d => m ((c : Thread nD τ).loc main_arg4) (ix4 1 1 d ⟨5632 + n.val, by omega⟩))
    * m ((c : Thread nD τ).loc main_arg5) (ix4 1 1 n e)

/-- The same with the unit's number any natural number, nothing past the last. -/
def unitN (c : Dev nD) (R : Fin 32768) (e : Fin 2048) (n : ℕ) : EReal := if h : n < 5632 then unit m c R e ⟨n, h⟩ else 0

/-- Chunk `q` of the hidden units. -/
def chunk (c : Dev nD) (R : Fin 32768) (e : Fin 2048) (q : ℕ) : EReal := ∑ k ∈ Finset.range 512, unitN m c R e (512 * q + k)

/-- The whole gated feed-forward of a row. -/
def ff (c : Dev nD) (R : Fin 32768) (e : Fin 2048) : EReal := ∑ n, unit m c R e n

/-- The result row. -/
def outRow (c : Dev nD) (R : Fin 32768) (e : Fin 2048) : EReal := resid (xr m c R) (gpost m c) (ff m c R) (mr m c 2 R) e

/-- The array row that row `r` of a point's block is. -/
def rowOf (t : Fin cfg0.N) (r : Fin 1024) : Fin 32768 := ⟨1024 * (t.val / 11) + r.val, by have := lt352 t; omega⟩

/-- Its sequence, from the point. -/
theorem seq_rowOf (t : Fin cfg0.N) (r : Fin 1024) (h) : (⟨t.val / 22, h⟩ : Fin 16) = seqOf (rowOf t r) := by
  apply Fin.ext
  show t.val / 22 = (1024 * (t.val / 11) + r.val) / 2048
  omega

/-- The point's normed row is the array row's. -/
theorem H_eq (c : Dev nD) (t : Fin cfg0.N) (r : Fin 1024) : H m c t r = hG m c (rowOf t r) := by
  funext e
  exact hrow_congr (fun k => blk0 m c t r k) (fun k => blk2 m c t k)
    (fun k => (blk1 m c t 1 k).trans (by rw [seq_rowOf t r]; rfl)) (fun k => (blk1 m c t 0 k).trans (by rw [seq_rowOf t r]; rfl)) rfl

/-- The point's chunk is the array row's chunk. -/
theorem P_eq (c : Dev nD) (t : Fin cfg0.N) (R : Fin 32768) (e : Fin 2048) :
    P m c t (hG m c R) e = chunk m c R e (t.val % 11) := by
  unfold P chunk part
  rw [Finset.sum_range]
  refine Finset.sum_congr rfl fun k _ => ?_
  unfold unitN
  rw [dif_pos (by omega)]
  unfold unit
  refine congrArg₂ (· * ·) ?_ (blk6 m c t k e)
  exact congrArg₂ (glu _) (funext fun d => blk4 m c t d k) (funext fun d => blk5 m c t d k)

/-- The eleven chunks are the whole feed-forward. -/
theorem sum_chunks (c : Dev nD) (R : Fin 32768) (e : Fin 2048) : ∑ q ∈ Finset.range 11, chunk m c R e q = ff m c R e := by
  unfold chunk ff
  rw [show (∑ n, unit m c R e n) = ∑ n ∈ Finset.range (11 * 512), unitN m c R e n by
    rw [Finset.sum_range]
    refine Finset.sum_congr rfl fun n _ => ?_
    unfold unitN
    rw [dif_pos n.isLt]]
  rw [← Finset.sum_range_range_mul_add]
  exact Finset.sum_congr rfl fun q _ => Finset.sum_congr rfl fun k _ => by rw [Nat.mul_comm]

/-- What holds after point `t`: the scratch has the normed rows, and the output block the chunks so far, or at the last point
    of a row block the result. -/
def Inv (c : Dev nD) (t : Fin cfg0.N) : Prop :=
  (∀ j : S1024x2048.Idx, ((outsAt0 m c t.val t.isLt).2 j : EReal) = hG m c (rowOf t (rI j)) (cI j))
  ∧ (t.val % 11 ≠ 10 → ∀ j : S1024x2048.Idx, ((outsAt0 m c t.val t.isLt).1 j : EReal)
      = ∑ q ∈ Finset.range (t.val % 11 + 1), chunk m c (rowOf t (rI j)) (cI j) q)
  ∧ (t.val % 11 = 10 → ∀ j : S1024x2048.Idx, ((outsAt0 m c t.val t.isLt).1 j : EReal) = outRow m c (rowOf t (rI j)) (cI j))

/-- The invariant holds after every point. -/
theorem inv (c : Dev nD) : ∀ (n : ℕ) (hn : n < cfg0.N), Inv m c ⟨n, hn⟩ := by
  intro n
  induction n with
  | zero =>
    intro hn
    refine ⟨fun j => ?_, fun _ j => ?_, fun h => absurd h (show ¬(0 % 11 = 10) by decide)⟩
    · rw [hA m c ⟨0, hn⟩ (by rfl) (show ¬(1 ≤ 0 % 11 ∧ 0 % 11 ≤ 9) by decide) (show ¬(0 % 11 = 10) by decide), H_eq]
    · rw [oA m c ⟨0, hn⟩ (by rfl) (show ¬(1 ≤ 0 % 11 ∧ 0 % 11 ≤ 9) by decide) (show ¬(0 % 11 = 10) by decide), H_eq, P_eq]
      exact (Finset.sum_range_one _).symm
  | succ n ih =>
    intro hn
    obtain ⟨i1, i2, -⟩ := ih (by omega)
    by_cases h0 : (n + 1) % 11 = 0
    · have hb : ¬(1 ≤ (n + 1) % 11 ∧ (n + 1) % 11 ≤ 9) := by omega
      have hc : ¬(n + 1) % 11 = 10 := by omega
      refine ⟨fun j => ?_, fun _ j => ?_, fun h => absurd h hc⟩
      · rw [hA m c ⟨n + 1, hn⟩ h0 hb hc, H_eq]
      · rw [oA m c ⟨n + 1, hn⟩ h0 hb hc, H_eq, P_eq]
        simp only [h0]
        exact (Finset.sum_range_one _).symm
    · have hr : ∀ r, rowOf ⟨n, by omega⟩ r = rowOf ⟨n + 1, hn⟩ r := fun r => by
        apply Fin.ext
        show 1024 * (n / 11) + r.val = 1024 * ((n + 1) / 11) + r.val
        omega
      have hm : (n + 1) % 11 = n % 11 + 1 := by omega
      have i2' := i2 (by show n % 11 ≠ 10; omega)
      simp only [hr] at i1 i2'
      have hP : ∀ (j : S1024x2048.Idx) e, P m c ⟨n + 1, hn⟩ (fun d => (outsAt0 m c n (by omega)).2 (ix2 (rI j) d)) e
          = chunk m c (rowOf ⟨n + 1, hn⟩ (rI j)) e (n % 11 + 1) := fun j e => by
        rw [show (fun d => (outsAt0 m c n (by omega)).2 (ix2 (rI j) d)) = hG m c (rowOf ⟨n + 1, hn⟩ (rI j)) from funext fun d => i1 _,
          P_eq]
        simp only [hm]
      by_cases h2 : (n + 1) % 11 = 10
      · have hb : ¬(1 ≤ (n + 1) % 11 ∧ (n + 1) % 11 ≤ 9) := by omega
        refine ⟨fun j => ?_, fun h => absurd h2 h, fun _ j => ?_⟩
        · exact (congrFun (hC m c ⟨n + 1, hn⟩ h0 hb h2) j).trans (i1 j)
        · refine (oC m c ⟨n + 1, hn⟩ h0 hb h2 _ _ rfl j).trans (resid_congr (fun k => blk0 m c _ _ k) (fun k => blk3 m c _ k) (fun k => ?_)
            (fun k => (blk1 m c _ 2 k).trans (by rw [seq_rowOf ⟨n + 1, hn⟩ (rI j)]; rfl)) rfl)
          refine (congrArg₂ (· + ·) (i2' (ix2 (rI j) k)) (hP j k)).trans ?_
          rw [← sum_chunks, show n % 11 = 9 by omega]
          exact (Finset.sum_range_succ _ _).symm
      · have hb : (1 ≤ (n + 1) % 11 ∧ (n + 1) % 11 ≤ 9) := by omega
        refine ⟨fun j => ?_, fun _ j => ?_, fun h => absurd h h2⟩
        · exact (congrFun (hB m c ⟨n + 1, hn⟩ h0 hb h2) j).trans (i1 j)
        · refine (oB m c ⟨n + 1, hn⟩ h0 hb h2 _ _ rfl j).trans ?_
          refine (congrArg₂ (· + ·) (i2' j) (hP j (cI j))).trans ?_
          simp only [hm]
          exact (Finset.sum_range_succ _ _).symm

/-- The result array at an index. -/
theorem G_eq (c : Dev nD) (R : Fin 32768) (e : Fin 2048) : (Value.G7 m c (ix2 R e) : EReal) = outRow m c R e := by
  have hp : Value.pt7Of (ix2 R e) = 11 * (R.val / 1024) + 10 := by
    show 11 * (1 * (R.val / 1024 - 0) + 1 * (e.val / 2048 - 0)) + 10 = _
    omega
  have hl : Value.pt7Of (ix2 R e) < cfg0.N := by
    rw [hp, show cfg0.N = 352 from N_0]
    omega
  unfold Value.G7
  rw [dif_pos hl, ← Value.outsAt0_sweep m c _ hl]
  have := (inv m c _ hl).2.2 (by show Value.pt7Of (ix2 R e) % 11 = 10; omega) (Value.loc7Of (ix2 R e))
  refine this.trans (congrArg₂ (outRow m c) (Fin.ext ?_) (Fin.ext ?_))
  · show 1024 * (Value.pt7Of (ix2 R e) / 11) + R.val % 1024 = R.val
    omega
  · show e.val % 2048 = e.val
    omega

end Cert.Kernel5Ideal.Step
-- ==== Proof.Ffn5Ref.lean ====
module

public import proofs.«01_k».proof.Proof.Gen.Reference5Ideal.Read
public import proofs.«01_k».proof.Proof.Rows
public import Idealize.ShloMosaic.Lib.Pipeline.ValueKit

@[expose] public section

/-! The feed-forward reference's result at an index, as the row functions of `Rows`. -/

set_option maxRecDepth 16384

noncomputable section

namespace Cert.Reference5Ideal.Rd
open Cert.Reference5Ideal Cert.Reference5Ideal.Read Idealize.ShloMosaic Cert.Rows

variable (x0 : (⟨S32768x2048, .f32⟩ : BufTy).Contents (Elt Ideal)) (x1 : (⟨S16x3x2048, .f32⟩ : BufTy).Contents (Elt Ideal))
  (x2 x3 : (⟨S2048, .f32⟩ : BufTy).Contents (Elt Ideal)) (x4 : (⟨S2x2x2048x11264, .f32⟩ : BufTy).Contents (Elt Ideal))
  (x5 : (⟨S2x2x5632x2048, .f32⟩ : BufTy).Contents (Elt Ideal))

/-- The flattened row of a sequence's position. -/
def row (b : Fin 16) (t : Fin 2048) : Fin 32768 := ⟨b.val * 2048 + t.val, by omega⟩

/-- The activations by sequence and position. -/
theorem x_at (b : Fin 16) (t e : Fin 2048) : (val_main_v0 x0 (ix3 b t e) : EReal) = x0 (ix2 (row b t) e) := by
  rw [val_main_v0_apply]
  congr 1
  funext a
  apply Fin.ext
  match a with
  | ⟨0, _⟩ =>
    show ((b.val * 2048 + t.val) * 2048 + e.val) / 2048 = b.val * 2048 + t.val
    omega
  | ⟨1, _⟩ =>
    show ((b.val * 2048 + t.val) * 2048 + e.val) % 2048 = e.val
    omega

/-- The normed and modulated rows. -/
theorem h_at (b : Fin 16) (t e : Fin 2048) : (val_main_v28 x0 x1 x2 (ix3 b t e) : EReal)
    = hrow (fun k => x0 (ix2 (row b t) k)) (fun k => x2 (ix1 k)) (fun k => x1 (ix3 b 1 k)) (fun k => x1 (ix3 b 0 k)) e := by
  unfold val_main_v28 val_main_v27 val_main_v26 val_main_v25 val_main_v24 val_main_v23 val_main_v22 val_main_v21 val_main_v20
    val_main_v19 val_main_v18 val_main_v17 val_main_v16 val_main_v15 val_main_v14 val_main_v13 val_main_v12 val_main_v11
    val_main_v10 val_main_v6 val_main_v5 val_main_v4 val_main_v3 val_main_v2 val_main_v1
    val_main_cst val_main_cst_0 val_main_cst_1 val_main_cst_2
  pointwise
  simp only [x_at]
  rw [mul_assoc]
  rfl

/-- The gated hidden units. -/
theorem glu_at (b : Fin 16) (t : Fin 2048) (n : Fin 5632) : (val_main_v35 x0 x1 x2 x4 (ix3 b t n) : EReal)
    = glu (fun d => val_main_v28 x0 x1 x2 (ix3 b t d)) (fun d => x4 (ix4 1 1 d ⟨n.val, by omega⟩))
        (fun d => x4 (ix4 1 1 d ⟨5632 + n.val, by omega⟩)) := by
  unfold val_main_v35 val_main_v34 val_main_call0_v5 val_main_call0_v4 val_main_call0_v3 val_main_call0_v2 val_main_call0_v1 val_main_call0_v0
    val_main_v33 val_main_v32 val_main_v31 val_main_v30 val_main_v29 val_main_call0_cst val_main_call0_cst_0
  pointwise
  rfl

/-- The gated feed-forward of a row. -/
theorem ff_at (b : Fin 16) (t e : Fin 2048) : (val_main_v38 x0 x1 x2 x4 x5 (ix3 b t e) : EReal)
    = ∑ n : Fin 5632, val_main_v35 x0 x1 x2 x4 (ix3 b t n) * x5 (ix4 1 1 n e) := by
  unfold val_main_v38 val_main_v37 val_main_v36
  pointwise

/-- The result by sequence and position. -/
theorem out_at (b : Fin 16) (t e : Fin 2048) : (val_main_v58 x0 x1 x2 x3 x4 x5 (ix3 b t e) : EReal)
    = resid (fun k => x0 (ix2 (row b t) k)) (fun k => x3 (ix1 k)) (fun k => val_main_v38 x0 x1 x2 x4 x5 (ix3 b t k)) (fun k => x1 (ix3 b 2 k)) e := by
  unfold val_main_v58 val_main_v57 val_main_v56 val_main_v55 val_main_v54 val_main_v53 val_main_v52 val_main_v51 val_main_v50
    val_main_v49 val_main_v48 val_main_v47 val_main_v46 val_main_v45 val_main_v44 val_main_v43 val_main_v42 val_main_v41
    val_main_v40 val_main_v39 val_main_v9 val_main_v8 val_main_v7
    val_main_cst_3 val_main_cst_4 val_main_cst_5 val_main_cst_6 val_main_cst_7
  pointwise
  simp only [x_at]
  unfold resid rinv
  congr 1
  rw [mul_comm, mul_assoc]

end Cert.Reference5Ideal.Rd
-- ==== Proof.Ffn5Claim.lean ====
module

public import proofs.«01_k».proof.Defs
public import proofs.«01_k».proof.Proof.Ffn5Run
public import proofs.«01_k».proof.Proof.Ffn5Ref
public import proofs.«01_k».proof.Proof.Gen.Reference5Ideal.Run
public import proofs.«01_k».proof.Proof.Gen.Kernel5.Frame

@[expose] public section

/-! The claims about the feed-forward at weights (1, 1). -/

set_option maxRecDepth 16384

noncomputable section

namespace Cert.Proof
open Idealize.ShloMosaic Idealize.ShloMosaic.TcCoe Idealize.SL.Sem Cert.Rows

/-- The feed-forward as printed runs, keeps its arguments and ends quiescent. -/
theorem frame_ffn5 : Cert.quiescent_Kernel5 := fun m ρ _ => Cert.Kernel5.Gen.frame m ρ

/-- The idealized feed-forward likewise. -/
theorem frame_ffn5_ideal : Cert.quiescent_Kernel5Ideal := fun m ρ _ => Cert.Kernel5Ideal.Gen.frame m ρ

/-- The feed-forward's reference likewise. -/
theorem frame_ffn5_ref : Cert.quiescent_Reference5Ideal := fun m ρ _ =>
  (θ_run _ _ _).mono (fun _ h => ⟨fun c => (h c).2, Idealize.ShloMosaic.sem_eq_zero_of_no_sems (by decide) _⟩) (Cert.Reference5Ideal.Value.run (F := Ideal) m ρ)

/-- The feed-forward is printed without rewrites. -/
theorem preserves_ffn5 : Cert.preserves_Kernel5_Kernel5Ideal := trivial

/-- A row of the feed-forward's reference is the kernel's, when the arguments agree. -/
theorem ffn5_row (m : (ℓ : Loc Kernel5Ideal.nD Kernel5Ideal.τ Kernel5Ideal.sig) → Buf (Elt Ideal) ℓ) (c : Dev Kernel5Ideal.nD) (i : Kernel5Ideal.S32768x2048.Idx) :
    (Cert.Reference5Ideal.Read.val_main_v59 (F := Ideal) (m ((c.tc : Thread Kernel5Ideal.nD Kernel5Ideal.τ).loc Kernel5Ideal.main_arg0))
      (m ((c.tc : Thread Kernel5Ideal.nD Kernel5Ideal.τ).loc Kernel5Ideal.main_arg1)) (m ((c.tc : Thread Kernel5Ideal.nD Kernel5Ideal.τ).loc Kernel5Ideal.main_arg2))
      (m ((c.tc : Thread Kernel5Ideal.nD Kernel5Ideal.τ).loc Kernel5Ideal.main_arg3)) (m ((c.tc : Thread Kernel5Ideal.nD Kernel5Ideal.τ).loc Kernel5Ideal.main_arg4))
      (m ((c.tc : Thread Kernel5Ideal.nD Kernel5Ideal.τ).loc Kernel5Ideal.main_arg5)) i : EReal) = Kernel5Ideal.Value.G7 m c i := by
  obtain ⟨R, e, rfl⟩ : ∃ (R : Fin 32768) (e : Fin 2048), i = ix2 R e := ⟨_, _, eq_ix2 i⟩
  have hR : R = Reference5Ideal.Rd.row (Kernel5Ideal.Step.seqOf R) ⟨R.val % 2048, by omega⟩ := Fin.ext (by
    show R.val = R.val / 2048 * 2048 + R.val % 2048
    omega)
  have hi : Reference5Ideal.Read.idx_main_v59 (ix2 R e) = ix3 (Kernel5Ideal.Step.seqOf R) (⟨R.val % 2048, by omega⟩ : Fin 2048) e := by
    funext a
    apply Fin.ext
    match a with
    | ⟨0, _⟩ =>
      show (R.val * 2048 + e.val) / 4194304 = R.val / 2048
      omega
    | ⟨1, _⟩ =>
      show (R.val * 2048 + e.val) / 2048 % 2048 = R.val % 2048
      omega
    | ⟨2, _⟩ =>
      show (R.val * 2048 + e.val) % 2048 = e.val
      omega
  rw [Reference5Ideal.Read.val_main_v59_apply, hi, Reference5Ideal.Rd.out_at, Kernel5Ideal.Step.G_eq, ← hR]
  refine resid_congr (fun _ => rfl) (fun _ => rfl) (fun k => ?_) (fun _ => rfl) rfl
  rw [Reference5Ideal.Rd.ff_at]
  refine Finset.sum_congr rfl fun n _ => ?_
  rw [Reference5Ideal.Rd.glu_at]
  refine congrArg₂ (· * ·) ?_ rfl
  refine congrArg (fun h => glu h _ _) (funext fun d => ?_)
  rw [Reference5Ideal.Rd.h_at, ← hR]
  rfl

/-- The feed-forward kernel computes its reference. -/
theorem algebraic_ffn5 : Cert.algebraic_Kernel5Ideal_Reference5Ideal := by
  intro m ρ m' ρ' _ hag
  refine ⟨fun c => Kernel5Ideal.Value.G7 m c, Cert.Kernel5Ideal.Value.run (F := Ideal) m ρ,
    (θ_run _ _ _).mono (fun r h c => ?_) (Cert.Reference5Ideal.Value.run (F := Ideal) m' ρ')⟩
  refine ⟨(h c).1.trans ?_, (h c).2⟩
  obtain ⟨h0, h1, h2, h3, h4, h5⟩ := hag c
  rw [Reference5Ideal.Read.val_main_v59_eq, h0, h1, h2, h3, h4, h5]
  exact funext fun i => ffn5_row m c i

end Cert.Proof
-- ==== Proof.OutRows.lean ====
module

public import proofs.«01_k».proof.Proof.Rows

@[expose] public section

/-! The mathematics of one row of an output projection, naming no program: the row plus the gated, normed projection. -/

set_option maxRecDepth 16384

noncomputable section

namespace Cert.Rows
open Idealize.ShloMosaic

/-- The residual step of a mixer: the row plus the gated, normed projection. -/
def mixres (x gp f gate : Fin 2048 → EReal) (e : Fin 2048) : EReal :=
  x e + f e * rinv f * (gp e * (1 + gate e))

/-- A row against a column. -/
def dotp {n : ℕ} (a w : Fin n → EReal) : EReal := ∑ j, a j * w j

/-- `dotp` of entries equal one by one. -/
theorem dotp_congr {n : ℕ} {a a' w w' : Fin n → EReal} (ha : ∀ j, a j = a' j) (hw : ∀ j, w j = w' j) : dotp a w = dotp a' w' := by
  rw [show a = a' from funext ha, show w = w' from funext hw]

/-- `mixres` of rows equal entry by entry. -/
theorem mixres_congr {x x' gp gp' f f' gate gate' : Fin 2048 → EReal} {e e' : Fin 2048} (hx : ∀ k, x k = x' k) (hg : ∀ k, gp k = gp' k)
    (hf : ∀ k, f k = f' k) (ha : ∀ k, gate k = gate' k) (he : e = e') : mixres x gp f gate e = mixres x' gp' f' gate' e' := by
  rw [show x = x' from funext hx, show gp = gp' from funext hg, show f = f' from funext hf, show gate = gate' from funext ha, he]

end Cert.Rows
-- ==== Proof.OutStep.lean ====
module

public import proofs.«01_k».proof.Proof.Gen.Kernel6Ideal.Value
public import proofs.«01_k».proof.Proof.OutRows
public import Idealize.ShloMosaic.Lib.Pipeline.ValueKit

@[expose] public section

/-! The first block's output projection, of the two mixers' outputs: its kernel's result at an index, as the row functions of `Rows`. -/

set_option maxRecDepth 16384

noncomputable section

namespace Cert.Kernel6Ideal.Step
open Cert.Kernel6Ideal Cert.Kernel6Ideal.Gen Idealize.ShloMosaic Idealize.ShloMosaic.TcCoe Idealize.SL.Sem Cert.Rows
open Idealize.ShloMosaic.Pipeline (Dat)

/-- The word the kernel stores, read at an index. -/
theorem pay_at (a : Vec Ideal S512x1024 .bf16) (w : Vec Ideal S1024x2048 .bf16) (b : Vec Ideal S512x1024 .bf16) (v : Vec Ideal S1024x2048 .bf16) (x : Vec Ideal S512x2048 .f32) (g : Vec Ideal S1x2048 .f32)
    (ga : Vec Ideal S1x1x2048 .f32) (r : Fin 512) (e : Fin 2048) :
    (k0_pay1 a w b v x g ga (ix2 r e) : EReal) = mixres (fun k => x (ix2 r k)) (fun k => g (ix2 0 k)) (fun k => dotp (fun j => a (ix2 r j)) (fun j => w (ix2 j k)) + dotp (fun j => b (ix2 r j)) (fun j => v (ix2 j k))) (fun k => ga (ix3 0 0 k)) e := by
  unfold_payloads
  pointwise
  rfl

/-- A load of the modulation's gate at an index. -/
theorem ld_gate (X : S1x3x2048.Idx → Elt Ideal .f32) (inb) (e : Fin 2048) :
    View.ld (Val := Elt Ideal) X (Rect.unit ![0, 2, 0] ![1, 1, 2048] inb) (ix3 0 0 e) = X (ix3 0 2 e) :=
  View.ld_unit_apply_of _ _ _ _ _ _ (by intro a; fin_cases a <;> simp [ix3])

variable (m : (ℓ : Loc nD τ sig) → Buf (Elt Ideal) ℓ)

/-- The block indices of the windows at a point. -/
theorem idx : ∀ t : Fin cfg0.N, win0_0.index t = ![t.val, 0] ∧ win0_1.index t = ![t.val, 0] ∧ win0_2.index t = ![0, 0] ∧ win0_3.index t = ![1, 0]
    ∧ win0_4.index t = ![t.val, 0] ∧ win0_5.index t = ![t.val / 4, 0, 0] ∧ win0_6.index t = ![0, 0] ∧ win0_7.index t = ![t.val, 0] := by
  decide +kernel

/-- The point's number bounded. -/
theorem lt64 (t : Fin cfg0.N) : t.val < 64 := lt_of_lt_of_eq t.isLt N_0

/-- The array row that row `r` of a point's block is. -/
def rowOf (t : Fin cfg0.N) (r : Fin 512) : Fin 32768 := ⟨512 * t.val + r.val, by have := lt64 t; omega⟩

/-- The sequence a row of the flattened activations belongs to. -/
def seqOf (R : Fin 32768) : Fin 16 := ⟨R.val / 2048, by omega⟩

/-- The row of an index of the result. -/
def grI (j : S32768x2048.Idx) : Fin 32768 := j 0

/-- The column of an index of the result. -/
def gcI (j : S32768x2048.Idx) : Fin 2048 := j 1

/-- A row's projection. -/
def proj (c : Dev nD) (R : Fin 32768) (k : Fin 2048) : EReal :=
  dotp (n := 1024) (fun j => m ((c : Thread nD τ).loc main_arg0) (ix2 R j)) (fun j => m ((c : Thread nD τ).loc main_arg2) (ix2 ⟨j.val, by omega⟩ k))
    + dotp (n := 1024) (fun j => m ((c : Thread nD τ).loc main_arg1) (ix2 R j)) (fun j => m ((c : Thread nD τ).loc main_arg2) (ix2 ⟨1024 + j.val, by omega⟩ k))

/-- The result row. -/
def res (c : Dev nD) (R : Fin 32768) (e : Fin 2048) : EReal :=
  mixres (fun k => m ((c : Thread nD τ).loc main_arg3) (ix2 R k)) (fun k => m ((c : Thread nD τ).loc main_arg5) (ix1 k)) (proj m c R)
    (fun k => m ((c : Thread nD τ).loc main_arg4) (ix3 (seqOf R) 2 k)) e

/-- The block of the mixer's output at an index. -/
theorem blk0 (c : Dev nD) (t : Fin cfg0.N) (r : Fin 512) (k : Fin 1024) :
    (iblk m c 0 t (ix2 r k) : EReal) = m ((c : Thread nD τ).loc main_arg0) (ix2 (rowOf t r) k) := by
  blk_ext [iblk, V, idx t, rowOf]

/-- The block of the mixer's output at an index. -/
theorem blk1 (c : Dev nD) (t : Fin cfg0.N) (r : Fin 512) (k : Fin 1024) :
    (iblk m c 1 t (ix2 r k) : EReal) = m ((c : Thread nD τ).loc main_arg1) (ix2 (rowOf t r) k) := by
  blk_ext [iblk, V, idx t, rowOf]

/-- The weights at an index. -/
theorem blk2 (c : Dev nD) (t : Fin cfg0.N) (j : Fin 1024) (k : Fin 2048) :
    (iblk m c 2 t (ix2 j k) : EReal) = m ((c : Thread nD τ).loc main_arg2) (ix2 ⟨j.val, by omega⟩ k) := by
  blk_ext [iblk, V, idx t]

/-- The weights at an index. -/
theorem blk3 (c : Dev nD) (t : Fin cfg0.N) (j : Fin 1024) (k : Fin 2048) :
    (iblk m c 3 t (ix2 j k) : EReal) = m ((c : Thread nD τ).loc main_arg2) (ix2 ⟨1024 + j.val, by omega⟩ k) := by
  blk_ext [iblk, V, idx t]

/-- The activations' block at an index. -/
theorem blk4 (c : Dev nD) (t : Fin cfg0.N) (r : Fin 512) (k : Fin 2048) :
    (iblk m c 4 t (ix2 r k) : EReal) = m ((c : Thread nD τ).loc main_arg3) (ix2 (rowOf t r) k) := by
  blk_ext [iblk, V, idx t, rowOf]

/-- The modulation's block at an index. -/
theorem blk5 (c : Dev nD) (t : Fin cfg0.N) (r : Fin 512) (p : Fin 3) (k : Fin 2048) :
    (iblk m c 5 t (ix3 0 p k) : EReal) = m ((c : Thread nD τ).loc main_arg4) (ix3 (seqOf (rowOf t r)) p k) := by
  have hs : seqOf (rowOf t r) = ⟨t.val / 4, by have := lt64 t; omega⟩ := Fin.ext (by
    show (512 * t.val + r.val) / 2048 = t.val / 4
    omega)
  rw [hs]
  blk_ext [iblk, V, idx t]

/-- The gain at an index. -/
theorem blk6 (c : Dev nD) (t : Fin cfg0.N) (k : Fin 2048) :
    (iblk m c 6 t (ix2 0 k) : EReal) = m ((c : Thread nD τ).loc main_arg5) (ix1 k) := by
  have hb : iblk m c 6 t (ix2 0 k) = V m c main_v1 (ix2 0 k) := by blk_ext [iblk, idx t]
  rw [hb]
  entry_read
  pointwise

/-- What a point leaves in its output block. -/
theorem out_at (c : Dev nD) (t : Fin cfg0.N) (r : Fin 512) (e : Fin 2048) :
    (out0_7 (iblk m c 0 t) (iblk m c 1 t) (iblk m c 2 t) (iblk m c 3 t) (iblk m c 4 t) (iblk m c 5 t) (iblk m c 6 t) (ix2 r e) : EReal) = res m c (rowOf t r) e := by
  frame_out
  refine (pay_at _ _ _ _ _ _ _ _ _).trans (mixres_congr (fun k => blk4 m c t r k) (fun k => blk6 m c t k) (fun k => ?_)
    (fun k => (ld_gate _ _ k).trans (blk5 m c t r 2 k)) rfl)
  exact congrArg₂ (· + ·) (dotp_congr (fun j => blk0 m c t r j) (fun j => blk2 m c t j k)) (dotp_congr (fun j => blk1 m c t r j) (fun j => blk3 m c t j k))

/-- The result array. -/
theorem arr_eq (c : Dev nD) : (dats m 0 c).arrAt 7 cfg0.N = fun j => res m c (grI j) (gcI j) := by
  refine (dats m 0 c).arrAt_eq_of_covers 7 _ (by decide +kernel) fun t hf y => ?_
  have e : (dats m 0 c).after 7 t = out0_7 (iblk m c 0 t) (iblk m c 1 t) (iblk m c 2 t) (iblk m c 3 t) (iblk m c 4 t) (iblk m c 5 t) (iblk m c 6 t) := after0_7 m c t
  rw [cast_eq, e, eq_ix2 ((cfg0.win 7).xinj (cfg0.grid.coords t) y)]
  refine (out_at m c t _ _).trans (congrArg₂ (res m c) (Fin.ext ?_) (Fin.ext ?_))
  · show 512 * t.val + ((cfg0.win 7).xinj (cfg0.grid.coords t) y 0).val = (((cfg0.win 7).blk t).view.emb y 0).val
    blk_simp [idx t]
    exact congrArg (· + (y 0).val) (Nat.mul_comm _ _)
  · show ((cfg0.win 7).xinj (cfg0.grid.coords t) y 1).val = (((cfg0.win 7).blk t).view.emb y 1).val
    blk_simp [idx t]

end Cert.Kernel6Ideal.Step
-- ==== Proof.OutRef.lean ====
module

public import proofs.«01_k».proof.Proof.Gen.Reference6Ideal.Read
public import proofs.«01_k».proof.Proof.OutRows
public import Idealize.ShloMosaic.Lib.Pipeline.ValueKit

@[expose] public section

/-! The first block's output projection's reference at an index, as the row functions of `Rows`. -/

set_option maxRecDepth 16384

noncomputable section

namespace Cert.Reference6Ideal.Rd
open Cert.Reference6Ideal Cert.Reference6Ideal.Read Idealize.ShloMosaic Cert.Rows

variable (x0 x1 : (⟨S32768x1024, .bf16⟩ : BufTy).Contents (Elt Ideal)) (x2 : (⟨S2048x2048, .f32⟩ : BufTy).Contents (Elt Ideal))
  (x3 : (⟨S32768x2048, .f32⟩ : BufTy).Contents (Elt Ideal)) (x4 : (⟨S16x3x2048, .f32⟩ : BufTy).Contents (Elt Ideal))
  (x5 : (⟨S2048, .f32⟩ : BufTy).Contents (Elt Ideal))

/-- The flattened row of a sequence's position. -/
def row (b : Fin 16) (t : Fin 2048) : Fin 32768 := ⟨b.val * 2048 + t.val, by omega⟩

/-- The activations by sequence and position. -/
theorem x_at (b : Fin 16) (t e : Fin 2048) : (val_main_v1 x3 (ix3 b t e) : EReal) = x3 (ix2 (row b t) e) := by
  rw [val_main_v1_apply]
  congr 1
  funext a
  apply Fin.ext
  match a with
  | ⟨0, _⟩ =>
    show ((b.val * 2048 + t.val) * 2048 + e.val) / 2048 = b.val * 2048 + t.val
    omega
  | ⟨1, _⟩ =>
    show ((b.val * 2048 + t.val) * 2048 + e.val) % 2048 = e.val
    omega

/-- The mixer's output by sequence and position. -/
theorem o_at (b : Fin 16) (t e : Fin 2048) : (val_main_v6 x0 x1 (ix3 b t e) : EReal) = val_main_v0 x0 x1 (ix2 (row b t) e) := by
  rw [val_main_v6_apply, val_main_v5_apply]
  refine Eq.trans (b := (val_main_v0 (F := Ideal) x0 x1 (idx_main_v6 (ix3 b t e)) : EReal)) rfl ?_
  congr 1
  funext a
  apply Fin.ext
  match a with
  | ⟨0, _⟩ =>
    show ((b.val * 2048 + t.val) * 2048 + e.val) / 2048 = b.val * 2048 + t.val
    omega
  | ⟨1, _⟩ =>
    show ((b.val * 2048 + t.val) * 2048 + e.val) % 2048 = e.val
    omega

/-- The first 1024 columns of the two outputs side by side are the first output. -/
theorem cat_lo (R : Fin 32768) (j : Fin 1024) : (val_main_v0 (F := Ideal) x0 x1 (ix2 R ⟨j.val, by omega⟩) : EReal) = x0 (ix2 R j) := by
  unfold val_main_v0
  pointwise

/-- The last 1024 columns are the second output. -/
theorem cat_hi (R : Fin 32768) (j : Fin 1024) : (val_main_v0 (F := Ideal) x0 x1 (ix2 R ⟨1024 + j.val, by omega⟩) : EReal) = x1 (ix2 R j) := by
  unfold val_main_v0
  pointwise

/-- The projection of a row. -/
theorem proj_at (b : Fin 16) (t e : Fin 2048) : (val_main_v7 x0 x1 x2 (ix3 b t e) : EReal)
    = dotp (n := 1024) (fun j => x0 (ix2 (row b t) j)) (fun j => x2 (ix2 ⟨j.val, by omega⟩ e))
      + dotp (n := 1024) (fun j => x1 (ix2 (row b t) j)) (fun j => x2 (ix2 ⟨1024 + j.val, by omega⟩ e)) := by
  have h : (val_main_v7 x0 x1 x2 (ix3 b t e) : EReal) = dotp (n := 2048) (fun j => val_main_v0 (F := Ideal) x0 x1 (ix2 (row b t) j)) (fun j => x2 (ix2 j e)) := by
    refine (val_main_v7_apply x0 x1 x2 _).trans (Finset.sum_congr rfl fun j _ => congrArg₂ (· * ·) ?_ (congrArg x2 (eq_ix2 _)))
    exact (congrArg (val_main_v6 x0 x1) (eq_ix3 _)).trans (o_at x0 x1 b t j)
  rw [h]
  refine (Fin.sum_univ_two_halves 1024 1024 rfl _).trans (congrArg₂ (· + ·) (Finset.sum_congr rfl fun j _ => ?_) (Finset.sum_congr rfl fun j _ => ?_))
  · exact congrArg₂ (· * ·) (cat_lo x0 x1 _ j) rfl
  · exact congrArg₂ (· * ·) (cat_hi x0 x1 _ j) rfl

/-- The squares of a projected row added up. -/
theorem sq_at (b : Fin 16) (t : Fin 2048) : (val_main_v13 x0 x1 x2 (ix2 b t) : EReal)
    = dotp (fun k => val_main_v7 x0 x1 x2 (ix3 b t k)) (fun k => val_main_v7 x0 x1 x2 (ix3 b t k)) := by
  have h0 : ∀ i, (val_main_cst_1 (F := Ideal) i : EReal) = 0 := fun i => by
    unfold val_main_cst_1
    pointwise
  refine (val_main_v13_apply x0 x1 x2 _).trans ((congrArg₂ (· + ·) (h0 _) (Finset.sum_congr rfl fun k _ => ?_)).trans (zero_add _))
  refine (val_main_v12_apply x0 x1 x2 _).trans ?_
  rw [show idx_main_v13 (ix2 b t) k = ix3 b t k from eq_ix3 _]
  rfl

/-- The reciprocal root mean square of a projected row. -/
theorem inv_at (b : Fin 16) (t : Fin 2048) : (val_main_v19 x0 x1 x2 (ix3 b t 0) : EReal)
    = rinv (fun k => val_main_v7 x0 x1 x2 (ix3 b t k)) := by
  have h15 : (val_main_v15 (F := Ideal) (ix3 b t 0) : EReal) = Ideal.ofBits FTy.f32 0x45000000#32 := by
    unfold val_main_v15 val_main_cst_2
    pointwise
  have h17 : (val_main_v17 (F := Ideal) (ix3 b t 0) : EReal) = Ideal.ofBits FTy.f32 0x358637BD#32 := by
    unfold val_main_v17 val_main_cst_3
    pointwise
  have h14 : (val_main_v14 x0 x1 x2 (ix3 b t 0) : EReal) = ∑ k, val_main_v7 x0 x1 x2 (ix3 b t k) * val_main_v7 x0 x1 x2 (ix3 b t k) :=
    (val_main_v14_apply x0 x1 x2 _).trans ((congrArg (val_main_v13 x0 x1 x2) (eq_ix2 _)).trans (sq_at x0 x1 x2 b t))
  refine (val_main_v19_apply x0 x1 x2 _).trans (congrArg Ideal.rsqrt ((val_main_v18_apply x0 x1 x2 _).trans (congrArg₂ (· + ·) ?_ h17)))
  exact (val_main_v16_apply x0 x1 x2 _).trans (congrArg₂ Ideal.div h14 h15)

/-- A projected row, normed and scaled by its gain. -/
theorem norm_at (b : Fin 16) (t e : Fin 2048) : (val_main_v24 x0 x1 x2 x5 (ix3 b t e) : EReal)
    = val_main_v7 x0 x1 x2 (ix3 b t e) * rinv (fun k => val_main_v7 x0 x1 x2 (ix3 b t k)) * x5 (ix1 e) := by
  have h23 : (val_main_v23 x5 (ix3 b t e) : EReal) = x5 (ix1 e) := by
    unfold val_main_v23 val_main_v22
    pointwise
  have h20 : (val_main_v20 x0 x1 x2 (ix3 b t e) : EReal) = rinv (fun k => val_main_v7 x0 x1 x2 (ix3 b t k)) :=
    (val_main_v20_apply x0 x1 x2 _).trans ((congrArg (val_main_v19 x0 x1 x2) (eq_ix3 _)).trans (inv_at x0 x1 x2 b t))
  refine (val_main_v24_apply x0 x1 x2 x5 _).trans (congrArg₂ (· * ·) ?_ h23)
  exact (val_main_v21_apply x0 x1 x2 _).trans (congrArg (val_main_v7 x0 x1 x2 (ix3 b t e) * ·) h20)

/-- The gate's factor. -/
theorem gate_at (b : Fin 16) (t e : Fin 2048) : (val_main_v25 x4 (ix3 b t e) : EReal) = 1 + x4 (ix3 b 2 e) := by
  unfold val_main_v25 val_main_v11 val_main_v10 val_main_v9 val_main_v8 val_main_v4 val_main_v3 val_main_v2 val_main_cst val_main_cst_0
  pointwise

/-- The result by sequence and position. -/
theorem out_at (b : Fin 16) (t e : Fin 2048) : (val_main_v27 x0 x1 x2 x3 x4 x5 (ix3 b t e) : EReal)
    = mixres (fun k => x3 (ix2 (row b t) k)) (fun k => x5 (ix1 k)) (fun k => val_main_v7 x0 x1 x2 (ix3 b t k)) (fun k => x4 (ix3 b 2 k)) e := by
  refine (val_main_v27_apply x0 x1 x2 x3 x4 x5 _).trans (congrArg₂ (· + ·) (x_at x3 b t e) ?_)
  refine ((val_main_v26_apply x0 x1 x2 x4 x5 _).trans (congrArg₂ (· * ·) (gate_at x4 b t e) (norm_at x0 x1 x2 x5 b t e))).trans ?_
  rw [mul_comm, mul_assoc]

end Cert.Reference6Ideal.Rd
-- ==== Proof.OutClaim.lean ====
module

public import proofs.«01_k».proof.Defs
public import proofs.«01_k».proof.Proof.OutStep
public import proofs.«01_k».proof.Proof.OutRef
public import proofs.«01_k».proof.Proof.Gen.Reference6Ideal.Run
public import proofs.«01_k».proof.Proof.Gen.Kernel6.Frame

@[expose] public section

/-! The claims about the first block's output projection. -/

set_option maxRecDepth 16384

noncomputable section

namespace Cert.Proof
open Idealize.ShloMosaic Idealize.ShloMosaic.TcCoe Idealize.SL.Sem Cert.Rows

/-- The output projection as printed runs, keeps its arguments and ends quiescent. -/
theorem frame_out0 : Cert.quiescent_Kernel6 := fun m ρ _ => Cert.Kernel6.Gen.frame m ρ

/-- The idealized output projection likewise. -/
theorem frame_out0_ideal : Cert.quiescent_Kernel6Ideal := fun m ρ _ => Cert.Kernel6Ideal.Gen.frame m ρ

/-- The output projection's reference likewise. -/
theorem frame_out0_ref : Cert.quiescent_Reference6Ideal := fun m ρ _ =>
  (θ_run _ _ _).mono (fun _ h => ⟨fun c => (h c).2, Idealize.ShloMosaic.sem_eq_zero_of_no_sems (by decide) _⟩) (Cert.Reference6Ideal.Value.run (F := Ideal) m ρ)

/-- The output projection is printed without rewrites. -/
theorem preserves_out0 : Cert.preserves_Kernel6_Kernel6Ideal := trivial

/-- A row of the output projection's reference is the kernel's, when the arguments agree. -/
theorem out0_row (m : (ℓ : Loc Kernel6Ideal.nD Kernel6Ideal.τ Kernel6Ideal.sig) → Buf (Elt Ideal) ℓ) (c : Dev Kernel6Ideal.nD) (i : Kernel6Ideal.S32768x2048.Idx) :
    (Cert.Reference6Ideal.Read.val_main_v28 (F := Ideal) (m ((c.tc : Thread Kernel6Ideal.nD Kernel6Ideal.τ).loc Kernel6Ideal.main_arg0)) (m ((c.tc : Thread Kernel6Ideal.nD Kernel6Ideal.τ).loc Kernel6Ideal.main_arg1)) (m ((c.tc : Thread Kernel6Ideal.nD Kernel6Ideal.τ).loc Kernel6Ideal.main_arg2)) (m ((c.tc : Thread Kernel6Ideal.nD Kernel6Ideal.τ).loc Kernel6Ideal.main_arg3)) (m ((c.tc : Thread Kernel6Ideal.nD Kernel6Ideal.τ).loc Kernel6Ideal.main_arg4)) (m ((c.tc : Thread Kernel6Ideal.nD Kernel6Ideal.τ).loc Kernel6Ideal.main_arg5)) i : EReal) = Kernel6Ideal.Step.res m c (Kernel6Ideal.Step.grI i) (Kernel6Ideal.Step.gcI i) := by
  obtain ⟨R, e, rfl⟩ : ∃ (R : Fin 32768) (e : Fin 2048), i = ix2 R e := ⟨_, _, eq_ix2 i⟩
  have hR : R = Reference6Ideal.Rd.row (Kernel6Ideal.Step.seqOf R) ⟨R.val % 2048, by omega⟩ := Fin.ext (by
    show R.val = R.val / 2048 * 2048 + R.val % 2048
    omega)
  have hi : Reference6Ideal.Read.idx_main_v28 (ix2 R e) = ix3 (Kernel6Ideal.Step.seqOf R) (⟨R.val % 2048, by omega⟩ : Fin 2048) e := by
    funext a
    apply Fin.ext
    match a with
    | ⟨0, _⟩ =>
      show (R.val * 2048 + e.val) / 4194304 = R.val / 2048
      omega
    | ⟨1, _⟩ =>
      show (R.val * 2048 + e.val) / 2048 % 2048 = R.val % 2048
      omega
    | ⟨2, _⟩ =>
      show (R.val * 2048 + e.val) % 2048 = e.val
      omega
  rw [Reference6Ideal.Read.val_main_v28_apply, hi, Reference6Ideal.Rd.out_at, ← hR]
  refine mixres_congr (fun _ => rfl) (fun _ => rfl) (fun k => ?_) (fun _ => rfl) rfl
  rw [Reference6Ideal.Rd.proj_at, ← hR]
  rfl

/-- The output projection's kernel computes its reference. -/
theorem algebraic_out0 : Cert.algebraic_Kernel6Ideal_Reference6Ideal := by
  intro m ρ m' ρ' _ hag
  refine ⟨fun c j => Kernel6Ideal.Step.res m c (Kernel6Ideal.Step.grI j) (Kernel6Ideal.Step.gcI j),
    (θ_run _ _ _).mono (fun r h c => ⟨(h c).1.trans (Kernel6Ideal.Step.arr_eq m c), (h c).2⟩) (Cert.Kernel6Ideal.Value.run_blocks (F := Ideal) m ρ),
    (θ_run _ _ _).mono (fun r h c => ⟨(h c).1.trans ?_, (h c).2⟩) (Cert.Reference6Ideal.Value.run (F := Ideal) m' ρ')⟩
  obtain ⟨h0, h1, h2, h3, h4, h5⟩ := hag c
  rw [Reference6Ideal.Read.val_main_v28_eq, h0, h1, h2, h3, h4, h5]
  exact funext fun i => out0_row m c i

end Cert.Proof
-- ==== Proof.Out1Step.lean ====
module

public import proofs.«01_k».proof.Proof.Gen.Kernel7Ideal.Value
public import proofs.«01_k».proof.Proof.OutRows
public import Idealize.ShloMosaic.Lib.Pipeline.ValueKit

@[expose] public section

/-! The second block's output projection: its kernel's result at an index, as the row functions of `Rows`. -/

set_option maxRecDepth 16384

noncomputable section

namespace Cert.Kernel7Ideal.Step
open Cert.Kernel7Ideal Cert.Kernel7Ideal.Gen Idealize.ShloMosaic Idealize.ShloMosaic.TcCoe Idealize.SL.Sem Cert.Rows
open Idealize.ShloMosaic.Pipeline (Dat)

/-- The word the kernel stores, read at an index. -/
theorem pay_at (a : Vec Ideal S512x2048 .bf16) (w : Vec Ideal S2048x2048 .bf16) (x : Vec Ideal S512x2048 .f32) (g : Vec Ideal S1x2048 .f32)
    (ga : Vec Ideal S1x1x2048 .f32) (r : Fin 512) (e : Fin 2048) :
    (k0_pay1 a w x g ga (ix2 r e) : EReal) = mixres (fun k => x (ix2 r k)) (fun k => g (ix2 0 k)) (fun k => dotp (fun j => a (ix2 r j)) (fun j => w (ix2 j k))) (fun k => ga (ix3 0 0 k)) e := by
  unfold_payloads
  pointwise
  rfl

/-- A load of the modulation's gate at an index. -/
theorem ld_gate (X : S1x3x2048.Idx → Elt Ideal .f32) (inb) (e : Fin 2048) :
    View.ld (Val := Elt Ideal) X (Rect.unit ![0, 2, 0] ![1, 1, 2048] inb) (ix3 0 0 e) = X (ix3 0 2 e) :=
  View.ld_unit_apply_of _ _ _ _ _ _ (by intro a; fin_cases a <;> simp [ix3])

variable (m : (ℓ : Loc nD τ sig) → Buf (Elt Ideal) ℓ)

/-- The block indices of the windows at a point. -/
theorem idx : ∀ t : Fin cfg0.N, win0_0.index t = ![t.val, 0] ∧ win0_1.index t = ![0, 0]
    ∧ win0_2.index t = ![t.val, 0] ∧ win0_3.index t = ![t.val / 4, 0, 0] ∧ win0_4.index t = ![0, 0] ∧ win0_5.index t = ![t.val, 0] := by
  decide +kernel

/-- The point's number bounded. -/
theorem lt64 (t : Fin cfg0.N) : t.val < 64 := lt_of_lt_of_eq t.isLt N_0

/-- The array row that row `r` of a point's block is. -/
def rowOf (t : Fin cfg0.N) (r : Fin 512) : Fin 32768 := ⟨512 * t.val + r.val, by have := lt64 t; omega⟩

/-- The sequence a row of the flattened activations belongs to. -/
def seqOf (R : Fin 32768) : Fin 16 := ⟨R.val / 2048, by omega⟩

/-- The row of an index of the result. -/
def grI (j : S32768x2048.Idx) : Fin 32768 := j 0

/-- The column of an index of the result. -/
def gcI (j : S32768x2048.Idx) : Fin 2048 := j 1

/-- A row's projection. -/
def proj (c : Dev nD) (R : Fin 32768) (k : Fin 2048) : EReal :=
  dotp (n := 2048) (fun j => m ((c : Thread nD τ).loc main_arg0) (ix2 R j)) (fun j => m ((c : Thread nD τ).loc main_arg1) (ix2 j k))

/-- The result row. -/
def res (c : Dev nD) (R : Fin 32768) (e : Fin 2048) : EReal :=
  mixres (fun k => m ((c : Thread nD τ).loc main_arg2) (ix2 R k)) (fun k => m ((c : Thread nD τ).loc main_arg4) (ix1 k)) (proj m c R)
    (fun k => m ((c : Thread nD τ).loc main_arg3) (ix3 (seqOf R) 2 k)) e

/-- The block of the mixer's output at an index. -/
theorem blk0 (c : Dev nD) (t : Fin cfg0.N) (r : Fin 512) (k : Fin 2048) :
    (iblk m c 0 t (ix2 r k) : EReal) = m ((c : Thread nD τ).loc main_arg0) (ix2 (rowOf t r) k) := by
  blk_ext [iblk, V, idx t, rowOf]

/-- The weights at an index. -/
theorem blk1 (c : Dev nD) (t : Fin cfg0.N) (j : Fin 2048) (k : Fin 2048) :
    (iblk m c 1 t (ix2 j k) : EReal) = m ((c : Thread nD τ).loc main_arg1) (ix2 j k) := by
  blk_ext [iblk, V, idx t]

/-- The activations' block at an index. -/
theorem blk2 (c : Dev nD) (t : Fin cfg0.N) (r : Fin 512) (k : Fin 2048) :
    (iblk m c 2 t (ix2 r k) : EReal) = m ((c : Thread nD τ).loc main_arg2) (ix2 (rowOf t r) k) := by
  blk_ext [iblk, V, idx t, rowOf]

/-- The modulation's block at an index. -/
theorem blk3 (c : Dev nD) (t : Fin cfg0.N) (r : Fin 512) (p : Fin 3) (k : Fin 2048) :
    (iblk m c 3 t (ix3 0 p k) : EReal) = m ((c : Thread nD τ).loc main_arg3) (ix3 (seqOf (rowOf t r)) p k) := by
  have hs : seqOf (rowOf t r) = ⟨t.val / 4, by have := lt64 t; omega⟩ := Fin.ext (by
    show (512 * t.val + r.val) / 2048 = t.val / 4
    omega)
  rw [hs]
  blk_ext [iblk, V, idx t]

/-- The gain at an index. -/
theorem blk4 (c : Dev nD) (t : Fin cfg0.N) (k : Fin 2048) :
    (iblk m c 4 t (ix2 0 k) : EReal) = m ((c : Thread nD τ).loc main_arg4) (ix1 k) := by
  have hb : iblk m c 4 t (ix2 0 k) = V m c main_v1 (ix2 0 k) := by blk_ext [iblk, idx t]
  rw [hb]
  entry_read
  pointwise

/-- What a point leaves in its output block. -/
theorem out_at (c : Dev nD) (t : Fin cfg0.N) (r : Fin 512) (e : Fin 2048) :
    (out0_5 (iblk m c 0 t) (iblk m c 1 t) (iblk m c 2 t) (iblk m c 3 t) (iblk m c 4 t) (ix2 r e) : EReal) = res m c (rowOf t r) e := by
  frame_out
  refine (pay_at _ _ _ _ _ _ _).trans (mixres_congr (fun k => blk2 m c t r k) (fun k => blk4 m c t k) (fun k => ?_)
    (fun k => (ld_gate _ _ k).trans (blk3 m c t r 2 k)) rfl)
  exact dotp_congr (fun j => blk0 m c t r j) (fun j => blk1 m c t j k)

/-- The result array. -/
theorem arr_eq (c : Dev nD) : (dats m 0 c).arrAt 5 cfg0.N = fun j => res m c (grI j) (gcI j) := by
  refine (dats m 0 c).arrAt_eq_of_covers 5 _ (by decide +kernel) fun t hf y => ?_
  have e : (dats m 0 c).after 5 t = out0_5 (iblk m c 0 t) (iblk m c 1 t) (iblk m c 2 t) (iblk m c 3 t) (iblk m c 4 t) := after0_5 m c t
  rw [cast_eq, e, eq_ix2 ((cfg0.win 5).xinj (cfg0.grid.coords t) y)]
  refine (out_at m c t _ _).trans (congrArg₂ (res m c) (Fin.ext ?_) (Fin.ext ?_))
  · show 512 * t.val + ((cfg0.win 5).xinj (cfg0.grid.coords t) y 0).val = (((cfg0.win 5).blk t).view.emb y 0).val
    blk_simp [idx t]
    exact congrArg (· + (y 0).val) (Nat.mul_comm _ _)
  · show ((cfg0.win 5).xinj (cfg0.grid.coords t) y 1).val = (((cfg0.win 5).blk t).view.emb y 1).val
    blk_simp [idx t]

end Cert.Kernel7Ideal.Step
-- ==== Proof.Out1Ref.lean ====
module

public import proofs.«01_k».proof.Proof.Gen.Reference7Ideal.Read
public import proofs.«01_k».proof.Proof.OutRows
public import Idealize.ShloMosaic.Lib.Pipeline.ValueKit

@[expose] public section

/-! The second block's output projection's reference at an index, as the row functions of `Rows`. -/

set_option maxRecDepth 16384

noncomputable section

namespace Cert.Reference7Ideal.Rd
open Cert.Reference7Ideal Cert.Reference7Ideal.Read Idealize.ShloMosaic Cert.Rows

variable (x0 : (⟨S32768x2048, .bf16⟩ : BufTy).Contents (Elt Ideal)) (x1 : (⟨S2048x2048, .f32⟩ : BufTy).Contents (Elt Ideal))
  (x2 : (⟨S32768x2048, .f32⟩ : BufTy).Contents (Elt Ideal)) (x3 : (⟨S16x3x2048, .f32⟩ : BufTy).Contents (Elt Ideal))
  (x4 : (⟨S2048, .f32⟩ : BufTy).Contents (Elt Ideal))

/-- The flattened row of a sequence's position. -/
def row (b : Fin 16) (t : Fin 2048) : Fin 32768 := ⟨b.val * 2048 + t.val, by omega⟩

/-- The activations by sequence and position. -/
theorem x_at (b : Fin 16) (t e : Fin 2048) : (val_main_v0 x2 (ix3 b t e) : EReal) = x2 (ix2 (row b t) e) := by
  rw [val_main_v0_apply]
  congr 1
  funext a
  apply Fin.ext
  match a with
  | ⟨0, _⟩ =>
    show ((b.val * 2048 + t.val) * 2048 + e.val) / 2048 = b.val * 2048 + t.val
    omega
  | ⟨1, _⟩ =>
    show ((b.val * 2048 + t.val) * 2048 + e.val) % 2048 = e.val
    omega

/-- The mixer's output by sequence and position. -/
theorem o_at (b : Fin 16) (t e : Fin 2048) : (val_main_v5 x0 (ix3 b t e) : EReal) = x0 (ix2 (row b t) e) := by
  rw [val_main_v5_apply, val_main_v4_apply]
  refine Eq.trans (b := (x0 (idx_main_v5 (ix3 b t e)) : EReal)) rfl ?_
  congr 1
  funext a
  apply Fin.ext
  match a with
  | ⟨0, _⟩ =>
    show ((b.val * 2048 + t.val) * 2048 + e.val) / 2048 = b.val * 2048 + t.val
    omega
  | ⟨1, _⟩ =>
    show ((b.val * 2048 + t.val) * 2048 + e.val) % 2048 = e.val
    omega

/-- The projection of a row. -/
theorem proj_at (b : Fin 16) (t e : Fin 2048) : (val_main_v6 x0 x1 (ix3 b t e) : EReal)
    = dotp (n := 2048) (fun j => x0 (ix2 (row b t) j)) (fun j => x1 (ix2 j e)) := by
  refine (val_main_v6_apply x0 x1 _).trans (Finset.sum_congr rfl fun j _ => congrArg₂ (· * ·) ?_ (congrArg x1 (eq_ix2 _)))
  exact (congrArg (val_main_v5 x0) (eq_ix3 _)).trans (o_at x0 b t j)

/-- The result by sequence and position. -/
theorem out_at (b : Fin 16) (t e : Fin 2048) : (val_main_v26 x0 x1 x2 x3 x4 (ix3 b t e) : EReal)
    = mixres (fun k => x2 (ix2 (row b t) k)) (fun k => x4 (ix1 k)) (fun k => val_main_v6 x0 x1 (ix3 b t k)) (fun k => x3 (ix3 b 2 k)) e := by
  unfold val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v3 val_main_v2 val_main_v1
    val_main_cst val_main_cst_0 val_main_cst_1 val_main_cst_2 val_main_cst_3
  pointwise
  simp only [x_at]
  unfold mixres rinv
  congr 1
  rw [mul_comm, mul_assoc]

end Cert.Reference7Ideal.Rd
-- ==== Proof.Out1Claim.lean ====
module

public import proofs.«01_k».proof.Defs
public import proofs.«01_k».proof.Proof.Out1Step
public import proofs.«01_k».proof.Proof.Out1Ref
public import proofs.«01_k».proof.Proof.Gen.Reference7Ideal.Run
public import proofs.«01_k».proof.Proof.Gen.Kernel7.Frame

@[expose] public section

/-! The claims about the second block's output projection. -/

set_option maxRecDepth 16384

noncomputable section

namespace Cert.Proof
open Idealize.ShloMosaic Idealize.ShloMosaic.TcCoe Idealize.SL.Sem Cert.Rows

/-- The output projection as printed runs, keeps its arguments and ends quiescent. -/
theorem frame_out1 : Cert.quiescent_Kernel7 := fun m ρ _ => Cert.Kernel7.Gen.frame m ρ

/-- The idealized output projection likewise. -/
theorem frame_out1_ideal : Cert.quiescent_Kernel7Ideal := fun m ρ _ => Cert.Kernel7Ideal.Gen.frame m ρ

/-- The output projection's reference likewise. -/
theorem frame_out1_ref : Cert.quiescent_Reference7Ideal := fun m ρ _ =>
  (θ_run _ _ _).mono (fun _ h => ⟨fun c => (h c).2, Idealize.ShloMosaic.sem_eq_zero_of_no_sems (by decide) _⟩) (Cert.Reference7Ideal.Value.run (F := Ideal) m ρ)

/-- The output projection is printed without rewrites. -/
theorem preserves_out1 : Cert.preserves_Kernel7_Kernel7Ideal := trivial

/-- A row of the output projection's reference is the kernel's, when the arguments agree. -/
theorem out1_row (m : (ℓ : Loc Kernel7Ideal.nD Kernel7Ideal.τ Kernel7Ideal.sig) → Buf (Elt Ideal) ℓ) (c : Dev Kernel7Ideal.nD) (i : Kernel7Ideal.S32768x2048.Idx) :
    (Cert.Reference7Ideal.Read.val_main_v27 (F := Ideal) (m ((c.tc : Thread Kernel7Ideal.nD Kernel7Ideal.τ).loc Kernel7Ideal.main_arg0)) (m ((c.tc : Thread Kernel7Ideal.nD Kernel7Ideal.τ).loc Kernel7Ideal.main_arg1)) (m ((c.tc : Thread Kernel7Ideal.nD Kernel7Ideal.τ).loc Kernel7Ideal.main_arg2)) (m ((c.tc : Thread Kernel7Ideal.nD Kernel7Ideal.τ).loc Kernel7Ideal.main_arg3)) (m ((c.tc : Thread Kernel7Ideal.nD Kernel7Ideal.τ).loc Kernel7Ideal.main_arg4)) i : EReal) = Kernel7Ideal.Step.res m c (Kernel7Ideal.Step.grI i) (Kernel7Ideal.Step.gcI i) := by
  obtain ⟨R, e, rfl⟩ : ∃ (R : Fin 32768) (e : Fin 2048), i = ix2 R e := ⟨_, _, eq_ix2 i⟩
  have hR : R = Reference7Ideal.Rd.row (Kernel7Ideal.Step.seqOf R) ⟨R.val % 2048, by omega⟩ := Fin.ext (by
    show R.val = R.val / 2048 * 2048 + R.val % 2048
    omega)
  have hi : Reference7Ideal.Read.idx_main_v27 (ix2 R e) = ix3 (Kernel7Ideal.Step.seqOf R) (⟨R.val % 2048, by omega⟩ : Fin 2048) e := by
    funext a
    apply Fin.ext
    match a with
    | ⟨0, _⟩ =>
      show (R.val * 2048 + e.val) / 4194304 = R.val / 2048
      omega
    | ⟨1, _⟩ =>
      show (R.val * 2048 + e.val) / 2048 % 2048 = R.val % 2048
      omega
    | ⟨2, _⟩ =>
      show (R.val * 2048 + e.val) % 2048 = e.val
      omega
  rw [Reference7Ideal.Read.val_main_v27_apply, hi, Reference7Ideal.Rd.out_at, ← hR]
  refine mixres_congr (fun _ => rfl) (fun _ => rfl) (fun k => ?_) (fun _ => rfl) rfl
  rw [Reference7Ideal.Rd.proj_at, ← hR]
  rfl

/-- The output projection's kernel computes its reference. -/
theorem algebraic_out1 : Cert.algebraic_Kernel7Ideal_Reference7Ideal := by
  intro m ρ m' ρ' _ hag
  refine ⟨fun c j => Kernel7Ideal.Step.res m c (Kernel7Ideal.Step.grI j) (Kernel7Ideal.Step.gcI j),
    (θ_run _ _ _).mono (fun r h c => ⟨(h c).1.trans (Kernel7Ideal.Step.arr_eq m c), (h c).2⟩) (Cert.Kernel7Ideal.Value.run_blocks (F := Ideal) m ρ),
    (θ_run _ _ _).mono (fun r h c => ⟨(h c).1.trans ?_, (h c).2⟩) (Cert.Reference7Ideal.Value.run (F := Ideal) m' ρ')⟩
  obtain ⟨h0, h1, h2, h3, h4⟩ := hag c
  rw [Reference7Ideal.Read.val_main_v27_eq, h0, h1, h2, h3, h4]
  exact funext fun i => out1_row m c i

end Cert.Proof
-- ==== Proof.AdaRows.lean ====
module

public import proofs.«01_k».proof.Proof.OutRows

@[expose] public section

/-! The mathematics of one entry of the modulations, naming no program. -/

set_option maxRecDepth 16384

noncomputable section

namespace Cert.Rows
open Idealize.ShloMosaic

/-- The gated unit of the condition's entries. -/
def silu (x : EReal) : EReal := x * Ideal.logistic x

/-- An entry of the modulations: the condition's row, gated, against a column of the weights, plus the bias. -/
def modv (c w : Fin 2048 → EReal) (b : EReal) : EReal := dotp (fun d => silu (c d)) w + b

/-- `modv` of entries equal one by one. -/
theorem modv_congr {c c' w w' : Fin 2048 → EReal} {b b' : EReal} (hc : ∀ k, c k = c' k) (hw : ∀ k, w k = w' k) (hb : b = b') :
    modv c w b = modv c' w' b' := by
  rw [show c = c' from funext hc, show w = w' from funext hw, hb]

end Cert.Rows
-- ==== Proof.AdaStep.lean ====
module

public import proofs.«01_k».proof.Proof.Gen.Kernel8Ideal.Value
public import proofs.«01_k».proof.Proof.AdaRows
public import Idealize.ShloMosaic.Lib.Pipeline.ValueKit

@[expose] public section

/-! The modulations' kernel's result at an index. -/

set_option maxRecDepth 16384

noncomputable section

namespace Cert.Kernel8Ideal.Step
open Cert.Kernel8Ideal Cert.Kernel8Ideal.Gen Idealize.ShloMosaic Idealize.ShloMosaic.TcCoe Idealize.SL.Sem Cert.Rows
open Idealize.ShloMosaic.Pipeline (Dat)

/-- The word the kernel stores, read at an index. -/
theorem pay_at (x : Vec Ideal S16x2048 .f32) (w : Vec Ideal S1x2048x1024 .f32) (g : Vec Ideal S1x1x1024 .f32) (b : Fin 16) (e : Fin 1024) :
    (k0_pay1 x w g (ix3 0 b e) : EReal) = modv (fun d => x (ix2 b d)) (fun d => w (ix3 0 d e)) (g (ix3 0 0 e)) := by
  unfold_payloads
  pointwise
  rfl

variable (m : (ℓ : Loc nD τ sig) → Buf (Elt Ideal) ℓ)

/-- The block indices of the windows at a point. -/
theorem idx : ∀ t : Fin cfg0.N, win0_0.index t = ![0, 0] ∧ win0_1.index t = ![t.val / 18, 0, t.val % 18]
    ∧ win0_2.index t = ![t.val / 18, 0, t.val % 18] ∧ win0_3.index t = ![t.val / 18, 0, t.val % 18] := by
  decide +kernel

/-- The point's number bounded. -/
theorem lt36 (t : Fin cfg0.N) : t.val < 36 := lt_of_lt_of_eq t.isLt N_0

/-- The block of the stack a point works on. -/
def layOf (t : Fin cfg0.N) : Fin 2 := ⟨t.val / 18, by have := lt36 t; omega⟩

/-- The column that column `e` of a point's block is. -/
def colOf (t : Fin cfg0.N) (e : Fin 1024) : Fin 18432 := ⟨1024 * (t.val % 18) + e.val, by omega⟩

/-- The stack's block of an index of the result. -/
def glI (j : S2x16x18432.Idx) : Fin 2 := j 0

/-- The sequence of an index of the result. -/
def gbI (j : S2x16x18432.Idx) : Fin 16 := j 1

/-- The column of an index of the result. -/
def gcI (j : S2x16x18432.Idx) : Fin 18432 := j 2

/-- The result's entry. -/
def res (c : Dev nD) (l : Fin 2) (b : Fin 16) (e : Fin 18432) : EReal :=
  modv (fun d => m ((c : Thread nD τ).loc main_arg0) (ix2 b d)) (fun d => m ((c : Thread nD τ).loc main_arg1) (ix3 l d e))
    (m ((c : Thread nD τ).loc main_arg2) (ix2 l e))

/-- The condition's block at an index. -/
theorem blk0 (c : Dev nD) (t : Fin cfg0.N) (b : Fin 16) (d : Fin 2048) :
    (iblk m c 0 t (ix2 b d) : EReal) = m ((c : Thread nD τ).loc main_arg0) (ix2 b d) := by
  blk_ext [iblk, V, idx t]

/-- The weights' block at an index. -/
theorem blk1 (c : Dev nD) (t : Fin cfg0.N) (d : Fin 2048) (e : Fin 1024) :
    (iblk m c 1 t (ix3 0 d e) : EReal) = m ((c : Thread nD τ).loc main_arg1) (ix3 (layOf t) d (colOf t e)) := by
  blk_ext [iblk, V, idx t, layOf, colOf]

/-- The bias at an index. -/
theorem blk2 (c : Dev nD) (t : Fin cfg0.N) (e : Fin 1024) :
    (iblk m c 2 t (ix3 0 0 e) : EReal) = m ((c : Thread nD τ).loc main_arg2) (ix2 (layOf t) (colOf t e)) := by
  have hb : iblk m c 2 t (ix3 0 0 e) = V m c main_v0 (ix3 (layOf t) 0 (colOf t e)) := by blk_ext [iblk, idx t, layOf, colOf]
  rw [hb]
  entry_read
  pointwise

/-- What a point leaves in its output block. -/
theorem out_at (c : Dev nD) (t : Fin cfg0.N) (b : Fin 16) (e : Fin 1024) :
    (out0_3 (iblk m c 0 t) (iblk m c 1 t) (iblk m c 2 t) (ix3 0 b e) : EReal) = res m c (layOf t) b (colOf t e) := by
  frame_out
  exact (pay_at _ _ _ _ _).trans (modv_congr (fun k => blk0 m c t b k) (fun k => blk1 m c t k e) (blk2 m c t e))

/-- The result array. -/
theorem arr_eq (c : Dev nD) : (dats m 0 c).arrAt 3 cfg0.N = fun j => res m c (glI j) (gbI j) (gcI j) := by
  refine (dats m 0 c).arrAt_eq_of_covers 3 _ (by decide +kernel) fun t hf y => ?_
  have e : (dats m 0 c).after 3 t = out0_3 (iblk m c 0 t) (iblk m c 1 t) (iblk m c 2 t) := after0_3 m c t
  have hy : (cfg0.win 3).xinj (cfg0.grid.coords t) y = ix3 0 ((cfg0.win 3).xinj (cfg0.grid.coords t) y 1) ((cfg0.win 3).xinj (cfg0.grid.coords t) y 2) := by
    refine (eq_ix3 _).trans ?_
    rw [show (cfg0.win 3).xinj (cfg0.grid.coords t) y 0 = (0 : Fin 1) from Fin.ext (Nat.lt_one_iff.mp (Fin.isLt (n := 1) _))]
    rfl
  rw [cast_eq, e, hy]
  refine (out_at m c t _ _).trans ?_
  have hl : layOf t = glI (((cfg0.win 3).blk t).view.emb y) := Fin.ext (by
    show t.val / 18 = (((cfg0.win 3).blk t).view.emb y 0).val
    blk_simp [idx t])
  have hb : (cfg0.win 3).xinj (cfg0.grid.coords t) y 1 = gbI (((cfg0.win 3).blk t).view.emb y) := Fin.ext (by
    show ((cfg0.win 3).xinj (cfg0.grid.coords t) y 1).val = (((cfg0.win 3).blk t).view.emb y 1).val
    blk_simp [idx t])
  have hc : colOf t ((cfg0.win 3).xinj (cfg0.grid.coords t) y 2) = gcI (((cfg0.win 3).blk t).view.emb y) := Fin.ext (by
    show 1024 * (t.val % 18) + ((cfg0.win 3).xinj (cfg0.grid.coords t) y 2).val = (((cfg0.win 3).blk t).view.emb y 2).val
    blk_simp [idx t]
    exact congrArg (· + (y 2).val) (Nat.mul_comm _ _))
  exact (congrArg (fun l => res m c l _ _) hl).trans (congrArg₂ (res m c _) hb hc)

end Cert.Kernel8Ideal.Step
-- ==== Proof.AdaRef.lean ====
module

public import proofs.«01_k».proof.Proof.Gen.Reference8Ideal.Read
public import proofs.«01_k».proof.Proof.AdaRows
public import Idealize.ShloMosaic.Lib.Pipeline.ValueKit

@[expose] public section

/-! The modulations' reference at an index. -/

set_option maxRecDepth 16384

noncomputable section

namespace Cert.Reference8Ideal.Rd
open Cert.Reference8Ideal Cert.Reference8Ideal.Read Idealize.ShloMosaic Cert.Rows

variable (x0 : (⟨S16x2048, .f32⟩ : BufTy).Contents (Elt Ideal)) (x1 : (⟨S2x2048x18432, .f32⟩ : BufTy).Contents (Elt Ideal))
  (x2 : (⟨S2x18432, .f32⟩ : BufTy).Contents (Elt Ideal))

/-- The gated condition, as block 0 reads it. -/
theorem silu_at0 (b : Fin 16) (d : Fin 2048) : (val_main_v0 x0 (ix2 b d) : EReal) = silu (x0 (ix2 b d)) := by
  unfold val_main_v0 val_main_call0_v5 val_main_call0_v4 val_main_call0_v3 val_main_call0_v2 val_main_call0_v1 val_main_call0_v0 val_main_call0_cst val_main_call0_cst_0
  pointwise
  rfl

/-- Block 0's weights. -/
theorem w_at0 (d : Fin 2048) (e : Fin 18432) : (val_main_v2 x1 (ix2 d e) : EReal) = x1 (ix3 0 d e) := by
  unfold val_main_v2 val_main_v1
  pointwise

/-- Block 0's bias. -/
theorem b_at0 (b : Fin 16) (e : Fin 18432) : (val_main_v7 x2 (ix2 b e) : EReal) = x2 (ix2 0 e) := by
  unfold val_main_v7 val_main_v6 val_main_v5 val_main_v4
  pointwise

/-- Block 0's modulations. -/
theorem mod_at0 (b : Fin 16) (e : Fin 18432) : (val_main_v8 x0 x1 x2 (ix2 b e) : EReal)
    = modv (fun d => x0 (ix2 b d)) (fun d => x1 (ix3 0 d e)) (x2 (ix2 0 e)) := by
  refine (val_main_v8_apply x0 x1 x2 _).trans (congrArg₂ (· + ·) ?_ (b_at0 x2 b e))
  refine (val_main_v3_apply x0 x1 _).trans (Finset.sum_congr rfl fun k _ => congrArg₂ (· * ·) ?_ ?_)
  · exact (congrArg (val_main_v0 x0) (eq_ix2 _)).trans (silu_at0 x0 b k)
  · exact (congrArg (val_main_v2 x1) (eq_ix2 _)).trans (w_at0 x1 k e)

/-- Block 0's modulations in the stack. -/
theorem stack_at0 (b : Fin 16) (e : Fin 18432) : (val_main_v20 x0 x1 x2 (ix3 0 b e) : EReal)
    = modv (fun d => x0 (ix2 b d)) (fun d => x1 (ix3 0 d e)) (x2 (ix2 0 e)) := by
  refine Eq.trans ?_ (mod_at0 x0 x1 x2 b e)
  unfold val_main_v20 val_main_v18 val_main_v19
  generalize val_main_v8 x0 x1 x2 = y
  generalize val_main_v17 x0 x1 x2 = z
  pointwise

/-- The gated condition, as block 1 reads it. -/
theorem silu_at1 (b : Fin 16) (d : Fin 2048) : (val_main_v9 x0 (ix2 b d) : EReal) = silu (x0 (ix2 b d)) := by
  unfold val_main_v9 val_main_call1_v5 val_main_call1_v4 val_main_call1_v3 val_main_call1_v2 val_main_call1_v1 val_main_call1_v0 val_main_call1_cst val_main_call1_cst_0
  pointwise
  rfl

/-- Block 1's weights. -/
theorem w_at1 (d : Fin 2048) (e : Fin 18432) : (val_main_v11 x1 (ix2 d e) : EReal) = x1 (ix3 1 d e) := by
  unfold val_main_v11 val_main_v10
  pointwise

/-- Block 1's bias. -/
theorem b_at1 (b : Fin 16) (e : Fin 18432) : (val_main_v16 x2 (ix2 b e) : EReal) = x2 (ix2 1 e) := by
  unfold val_main_v16 val_main_v15 val_main_v14 val_main_v13
  pointwise

/-- Block 1's modulations. -/
theorem mod_at1 (b : Fin 16) (e : Fin 18432) : (val_main_v17 x0 x1 x2 (ix2 b e) : EReal)
    = modv (fun d => x0 (ix2 b d)) (fun d => x1 (ix3 1 d e)) (x2 (ix2 1 e)) := by
  refine (val_main_v17_apply x0 x1 x2 _).trans (congrArg₂ (· + ·) ?_ (b_at1 x2 b e))
  refine (val_main_v12_apply x0 x1 _).trans (Finset.sum_congr rfl fun k _ => congrArg₂ (· * ·) ?_ ?_)
  · exact (congrArg (val_main_v9 x0) (eq_ix2 _)).trans (silu_at1 x0 b k)
  · exact (congrArg (val_main_v11 x1) (eq_ix2 _)).trans (w_at1 x1 k e)

/-- Block 1's modulations in the stack. -/
theorem stack_at1 (b : Fin 16) (e : Fin 18432) : (val_main_v20 x0 x1 x2 (ix3 1 b e) : EReal)
    = modv (fun d => x0 (ix2 b d)) (fun d => x1 (ix3 1 d e)) (x2 (ix2 1 e)) := by
  refine Eq.trans ?_ (mod_at1 x0 x1 x2 b e)
  unfold val_main_v20 val_main_v18 val_main_v19
  generalize val_main_v8 x0 x1 x2 = y
  generalize val_main_v17 x0 x1 x2 = z
  pointwise

/-- The modulations by block, sequence and column. -/
theorem out_at (l : Fin 2) (b : Fin 16) (e : Fin 18432) : (val_main_v20 x0 x1 x2 (ix3 l b e) : EReal)
    = modv (fun d => x0 (ix2 b d)) (fun d => x1 (ix3 l d e)) (x2 (ix2 l e)) := by
  match l with
  | ⟨0, _⟩ => exact stack_at0 x0 x1 x2 b e
  | ⟨1, _⟩ => exact stack_at1 x0 x1 x2 b e

end Cert.Reference8Ideal.Rd
-- ==== Proof.AdaClaim.lean ====
module

public import proofs.«01_k».proof.Defs
public import proofs.«01_k».proof.Proof.AdaStep
public import proofs.«01_k».proof.Proof.AdaRef
public import proofs.«01_k».proof.Proof.Gen.Reference8Ideal.Run
public import proofs.«01_k».proof.Proof.Gen.Kernel8.Frame

@[expose] public section

/-! The claims about the modulations. -/

set_option maxRecDepth 16384

noncomputable section

namespace Cert.Proof
open Idealize.ShloMosaic Idealize.ShloMosaic.TcCoe Idealize.SL.Sem Cert.Rows

/-- The modulations as printed run, keep their arguments and end quiescent. -/
theorem frame_ada : Cert.quiescent_Kernel8 := fun m ρ _ => Cert.Kernel8.Gen.frame m ρ

/-- The idealized modulations likewise. -/
theorem frame_ada_ideal : Cert.quiescent_Kernel8Ideal := fun m ρ _ => Cert.Kernel8Ideal.Gen.frame m ρ

/-- The modulations' reference likewise. -/
theorem frame_ada_ref : Cert.quiescent_Reference8Ideal := fun m ρ _ =>
  (θ_run _ _ _).mono (fun _ h => ⟨fun c => (h c).2, Idealize.ShloMosaic.sem_eq_zero_of_no_sems (by decide) _⟩) (Cert.Reference8Ideal.Value.run (F := Ideal) m ρ)

/-- The modulations are printed without rewrites. -/
theorem preserves_ada : Cert.preserves_Kernel8_Kernel8Ideal := trivial

/-- An entry of the modulations' reference is the kernel's, when the arguments agree. -/
theorem ada_entry (m : (ℓ : Loc Kernel8Ideal.nD Kernel8Ideal.τ Kernel8Ideal.sig) → Buf (Elt Ideal) ℓ) (c : Dev Kernel8Ideal.nD) (i : Kernel8Ideal.S2x16x18432.Idx) :
    (Cert.Reference8Ideal.Read.val_main_v20 (F := Ideal) (m ((c.tc : Thread Kernel8Ideal.nD Kernel8Ideal.τ).loc Kernel8Ideal.main_arg0)) (m ((c.tc : Thread Kernel8Ideal.nD Kernel8Ideal.τ).loc Kernel8Ideal.main_arg1)) (m ((c.tc : Thread Kernel8Ideal.nD Kernel8Ideal.τ).loc Kernel8Ideal.main_arg2)) i : EReal) = Kernel8Ideal.Step.res m c (Kernel8Ideal.Step.glI i) (Kernel8Ideal.Step.gbI i) (Kernel8Ideal.Step.gcI i) := by
  obtain ⟨l, b, e, rfl⟩ : ∃ (l : Fin 2) (b : Fin 16) (e : Fin 18432), i = ix3 l b e := ⟨_, _, _, eq_ix3 i⟩
  exact Reference8Ideal.Rd.out_at _ _ _ l b e

/-- The modulations' kernel computes its reference. -/
theorem algebraic_ada : Cert.algebraic_Kernel8Ideal_Reference8Ideal := by
  intro m ρ m' ρ' _ hag
  refine ⟨fun c j => Kernel8Ideal.Step.res m c (Kernel8Ideal.Step.glI j) (Kernel8Ideal.Step.gbI j) (Kernel8Ideal.Step.gcI j),
    (θ_run _ _ _).mono (fun r h c => ⟨(h c).1.trans (Kernel8Ideal.Step.arr_eq m c), (h c).2⟩) (Cert.Kernel8Ideal.Value.run_blocks (F := Ideal) m ρ),
    (θ_run _ _ _).mono (fun r h c => ⟨(h c).1.trans ?_, (h c).2⟩) (Cert.Reference8Ideal.Value.run (F := Ideal) m' ρ')⟩
  obtain ⟨h0, h1, h2⟩ := hag c
  rw [Reference8Ideal.Read.val_main_v20_eq, h0, h1, h2]
  exact funext fun i => ada_entry m c i

end Cert.Proof
-- ==== Proof.LruFrame.lean ====
module

public import proofs.«01_k».proof.Defs
public import proofs.«01_k».proof.Proof.Gen.Kernel9.Frame
public import proofs.«01_k».proof.Proof.Gen.Kernel9Ideal.Frame
public import proofs.«01_k».proof.Proof.Gen.Reference9Ideal.Run

@[expose] public section

/-! The frames of the recurrence. -/

set_option maxRecDepth 16384

noncomputable section

namespace Cert.Proof
open Idealize.ShloMosaic Idealize.ShloMosaic.TcCoe Idealize.SL.Sem

/-- The recurrence as printed runs, keeps its arguments and ends quiescent. -/
theorem frame_lru : Cert.quiescent_Kernel9 := fun m ρ _ => Cert.Kernel9.Gen.frame m ρ

/-- The idealized recurrence likewise. -/
theorem frame_lru_ideal : Cert.quiescent_Kernel9Ideal := fun m ρ _ => Cert.Kernel9Ideal.Gen.frame m ρ

/-- The recurrence's reference likewise: it declares no semaphore. -/
theorem frame_lru_ref : Cert.quiescent_Reference9Ideal := fun m ρ _ =>
  (θ_run _ _ _).mono (fun _ h => ⟨fun c => (h c).2, Idealize.ShloMosaic.sem_eq_zero_of_no_sems (by decide) _⟩) (Cert.Reference9Ideal.Value.run (F := Ideal) m ρ)

/-- The recurrence is printed without rewrites. -/
theorem preserves_lru : Cert.preserves_Kernel9_Kernel9Ideal := trivial

end Cert.Proof
-- ==== Proof.GdnFrame.lean ====
module

public import proofs.«01_k».proof.Defs
public import proofs.«01_k».proof.Proof.Gen.Kernel10.Frame
public import proofs.«01_k».proof.Proof.Gen.Kernel10Ideal.Frame

@[expose] public section

/-! The frames of the gated DeltaNet call. -/

set_option maxRecDepth 16384

noncomputable section

namespace Cert.Proof
open Idealize.ShloMosaic Idealize.ShloMosaic.TcCoe Idealize.SL.Sem

/-- The gated DeltaNet call as printed runs, keeps its arguments and ends quiescent. -/
theorem frame_gdn : Cert.quiescent_Kernel10 := fun m ρ _ => Cert.Kernel10.Gen.frame m ρ

/-- The idealized gated DeltaNet call likewise. -/
theorem frame_gdn_ideal : Cert.quiescent_Kernel10Ideal := fun m ρ _ => Cert.Kernel10Ideal.Gen.frame m ρ

/-- The gated DeltaNet call is printed without rewrites. -/
theorem preserves_gdn : Cert.preserves_Kernel10_Kernel10Ideal := trivial

end Cert.Proof
-- ==== Proof.lean ====
module

public import proofs.«01_k».proof.Defs
public import proofs.«01_k».proof.Proof.RetClaim
public import proofs.«01_k».proof.Proof.FfnClaim
public import proofs.«01_k».proof.Proof.Ffn3Claim
public import proofs.«01_k».proof.Proof.Ffn4Claim
public import proofs.«01_k».proof.Proof.Ffn5Claim
public import proofs.«01_k».proof.Proof.OutClaim
public import proofs.«01_k».proof.Proof.Out1Claim
public import proofs.«01_k».proof.Proof.AdaClaim
public import proofs.«01_k».proof.Proof.LruFrame
public import proofs.«01_k».proof.Proof.GdnFrame

@[expose] public section

noncomputable section

namespace Cert.Proof

open Idealize.ShloMosaic Idealize.SL.Sem

/-- Every claim about the calls. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Kernel10.Gen.facts, Cert.Kernel10Ideal.Gen.facts, Cert.Pre_finite.Gen.facts,
    frame_ret, frame_ret_ideal, frame_ret_ideal_finite, frame_ret_ref, frame_ret_ref_finite, frame_ffn,
    frame_ffn_ideal, frame_ffn_ref, frame_ffn3, frame_ffn3_ideal, frame_ffn3_ref, frame_ffn4, frame_ffn4_ideal,
    frame_ffn4_ref, frame_ffn5, frame_ffn5_ideal, frame_ffn5_ref, frame_out0, frame_out0_ideal, frame_out0_ref,
    frame_out1, frame_out1_ideal, frame_out1_ref, frame_ada, frame_ada_ideal, frame_ada_ref, frame_lru,
    frame_lru_ideal, frame_lru_ref, frame_gdn, frame_gdn_ideal, preserves_ret, algebraic_ret, preserves_ffn,
    algebraic_ffn, preserves_ffn3, algebraic_ffn3, preserves_ffn4, algebraic_ffn4, preserves_ffn5, algebraic_ffn5,
    preserves_out0, algebraic_out0, preserves_out1, algebraic_out1, preserves_ada, algebraic_ada, preserves_lru,
    preserves_gdn⟩

end Cert.Proof

end
